-- ==== Defs.lean ====
def Pre_LruKernel (m : (ℓ : Loc Cert.LruKernel.nD Cert.LruKernel.τ Cert.LruKernel.sig) → Buf (Elt Bits) ℓ) : Prop :=
  True

def Pre_LruKernelIdeal (m : (ℓ : Loc Cert.LruKernelIdeal.nD Cert.LruKernelIdeal.τ Cert.LruKernelIdeal.sig) → Buf (Elt Ideal) ℓ) : Prop :=
  True

def Pre_LruReferenceIdeal (m : (ℓ : Loc Cert.LruReferenceIdeal.nD Cert.LruReferenceIdeal.τ Cert.LruReferenceIdeal.sig) → Buf (Elt Ideal) ℓ) : Prop :=
  True

def Pre_SwaKernel (m : (ℓ : Loc Cert.SwaKernel.nD Cert.SwaKernel.τ Cert.SwaKernel.sig) → Buf (Elt Bits) ℓ) : Prop :=
  True

def Pre_SwaKernelIdeal (m : (ℓ : Loc Cert.SwaKernelIdeal.nD Cert.SwaKernelIdeal.τ Cert.SwaKernelIdeal.sig) → Buf (Elt Ideal) ℓ) : Prop :=
  True

def Pre_SwaReferenceIdeal (m : (ℓ : Loc Cert.SwaReferenceIdeal.nD Cert.SwaReferenceIdeal.τ Cert.SwaReferenceIdeal.sig) → Buf (Elt Ideal) ℓ) : Prop :=
  True

def Pre_Mlp0Kernel (m : (ℓ : Loc Cert.Mlp0Kernel.nD Cert.Mlp0Kernel.τ Cert.Mlp0Kernel.sig) → Buf (Elt Bits) ℓ) : Prop :=
  True

def Pre_Mlp0KernelIdeal (m : (ℓ : Loc Cert.Mlp0KernelIdeal.nD Cert.Mlp0KernelIdeal.τ Cert.Mlp0KernelIdeal.sig) → Buf (Elt Ideal) ℓ) : Prop :=
  True

def Pre_Mlp0ReferenceIdeal (m : (ℓ : Loc Cert.Mlp0ReferenceIdeal.nD Cert.Mlp0ReferenceIdeal.τ Cert.Mlp0ReferenceIdeal.sig) → Buf (Elt Ideal) ℓ) : Prop :=
  True

def Pre_Mlp1Kernel (m : (ℓ : Loc Cert.Mlp1Kernel.nD Cert.Mlp1Kernel.τ Cert.Mlp1Kernel.sig) → Buf (Elt Bits) ℓ) : Prop :=
  True

def Pre_Mlp1KernelIdeal (m : (ℓ : Loc Cert.Mlp1KernelIdeal.nD Cert.Mlp1KernelIdeal.τ Cert.Mlp1KernelIdeal.sig) → Buf (Elt Ideal) ℓ) : Prop :=
  True

def Pre_Mlp1ReferenceIdeal (m : (ℓ : Loc Cert.Mlp1ReferenceIdeal.nD Cert.Mlp1ReferenceIdeal.τ Cert.Mlp1ReferenceIdeal.sig) → Buf (Elt Ideal) ℓ) : Prop :=
  True

def Pre_Mlp2Kernel (m : (ℓ : Loc Cert.Mlp2Kernel.nD Cert.Mlp2Kernel.τ Cert.Mlp2Kernel.sig) → Buf (Elt Bits) ℓ) : Prop :=
  True

def Pre_Mlp2KernelIdeal (m : (ℓ : Loc Cert.Mlp2KernelIdeal.nD Cert.Mlp2KernelIdeal.τ Cert.Mlp2KernelIdeal.sig) → Buf (Elt Ideal) ℓ) : Prop :=
  True

def Pre_Mlp2ReferenceIdeal (m : (ℓ : Loc Cert.Mlp2ReferenceIdeal.nD Cert.Mlp2ReferenceIdeal.τ Cert.Mlp2ReferenceIdeal.sig) → Buf (Elt Ideal) ℓ) : Prop :=
  True

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_PlainKernel (m : (ℓ : Loc Cert.PlainKernel.nD Cert.PlainKernel.τ Cert.PlainKernel.sig) → Buf (Elt Bits) ℓ) : Prop :=
  True

def Pre_PlainKernelIdeal (m : (ℓ : Loc Cert.PlainKernelIdeal.nD Cert.PlainKernelIdeal.τ Cert.PlainKernelIdeal.sig) → Buf (Elt Ideal) ℓ) : Prop :=
  True

def Pre_PlainReferenceIdeal (m : (ℓ : Loc Cert.PlainReferenceIdeal.nD Cert.PlainReferenceIdeal.τ Cert.PlainReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_LruKernel [hLruKernel : Cert.LruKernel.Facts] : Prop :=
  ∀ (m : (ℓ : Loc Cert.LruKernel.nD Cert.LruKernel.τ Cert.LruKernel.sig) → Buf (Elt Bits) ℓ) (g : Dev Cert.LruKernel.nD → PrngReg), Pre_LruKernel m →
    θ_run (Cert.LruKernel.defs (F := Bits)) (onTc (τ := Cert.LruKernel.τ) (Cert.LruKernel.main (F := Bits))) ⟨m, fun _ => 0, g⟩ (fun r => (∀ c : Dev Cert.LruKernel.nD,
      r.2.mem ((c.tc : Thread Cert.LruKernel.nD Cert.LruKernel.τ).loc Cert.LruKernel.main_arg0) = m ((c.tc : Thread Cert.LruKernel.nD Cert.LruKernel.τ).loc Cert.LruKernel.main_arg0)
      ∧ r.2.mem ((c.tc : Thread Cert.LruKernel.nD Cert.LruKernel.τ).loc Cert.LruKernel.main_arg1) = m ((c.tc : Thread Cert.LruKernel.nD Cert.LruKernel.τ).loc Cert.LruKernel.main_arg1)
      ∧ r.2.mem ((c.tc : Thread Cert.LruKernel.nD Cert.LruKernel.τ).loc Cert.LruKernel.main_arg2) = m ((c.tc : Thread Cert.LruKernel.nD Cert.LruKernel.τ).loc Cert.LruKernel.main_arg2)
      ∧ r.2.mem ((c.tc : Thread Cert.LruKernel.nD Cert.LruKernel.τ).loc Cert.LruKernel.main_arg3) = m ((c.tc : Thread Cert.LruKernel.nD Cert.LruKernel.τ).loc Cert.LruKernel.main_arg3)
      ∧ r.2.mem ((c.tc : Thread Cert.LruKernel.nD Cert.LruKernel.τ).loc Cert.LruKernel.main_arg4) = m ((c.tc : Thread Cert.LruKernel.nD Cert.LruKernel.τ).loc Cert.LruKernel.main_arg4)
      ∧ r.2.mem ((c.tc : Thread Cert.LruKernel.nD Cert.LruKernel.τ).loc Cert.LruKernel.main_arg5) = m ((c.tc : Thread Cert.LruKernel.nD Cert.LruKernel.τ).loc Cert.LruKernel.main_arg5)
      ∧ r.2.mem ((c.tc : Thread Cert.LruKernel.nD Cert.LruKernel.τ).loc Cert.LruKernel.main_arg6) = m ((c.tc : Thread Cert.LruKernel.nD Cert.LruKernel.τ).loc Cert.LruKernel.main_arg6)
      ∧ r.2.mem ((c.tc : Thread Cert.LruKernel.nD Cert.LruKernel.τ).loc Cert.LruKernel.main_arg7) = m ((c.tc : Thread Cert.LruKernel.nD Cert.LruKernel.τ).loc Cert.LruKernel.main_arg7)
      ∧ r.2.mem ((c.tc : Thread Cert.LruKernel.nD Cert.LruKernel.τ).loc Cert.LruKernel.main_arg8) = m ((c.tc : Thread Cert.LruKernel.nD Cert.LruKernel.τ).loc Cert.LruKernel.main_arg8)
      ∧ r.2.mem ((c.tc : Thread Cert.LruKernel.nD Cert.LruKernel.τ).loc Cert.LruKernel.main_arg9) = m ((c.tc : Thread Cert.LruKernel.nD Cert.LruKernel.τ).loc Cert.LruKernel.main_arg9))
      ∧ r.2.sem = fun _ => 0)

def quiescent_LruKernelIdeal [hLruKernelIdeal : Cert.LruKernelIdeal.Facts] : Prop :=
  ∀ (m : (ℓ : Loc Cert.LruKernelIdeal.nD Cert.LruKernelIdeal.τ Cert.LruKernelIdeal.sig) → Buf (Elt Ideal) ℓ) (g : Dev Cert.LruKernelIdeal.nD → PrngReg), Pre_LruKernelIdeal m →
    θ_run (Cert.LruKernelIdeal.defs (F := Ideal)) (onTc (τ := Cert.LruKernelIdeal.τ) (Cert.LruKernelIdeal.main (F := Ideal))) ⟨m, fun _ => 0, g⟩ (fun r => (∀ c : Dev Cert.LruKernelIdeal.nD,
      r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
      ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
      ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
      ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
      ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
      ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
      ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
      ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7)
      ∧ r.2.mem ((c.tc : Thread Cert.LruKernelIdeal.nD Cert.LruKernelIdeal.τ).loc Cert.LruKernelIdeal.main_arg8) = m ((c.tc : Thread Cert.LruKernelIdeal.nD Cert.LruKernelIdeal.τ).loc Cert.LruKernelIdeal.main_arg8)
      ∧ r.2.mem ((c.tc : Thread Cert.LruKernelIdeal.nD Cert.LruKernelIdeal.τ).loc Cert.LruKernelIdeal.main_arg9) = m ((c.tc : Thread Cert.LruKernelIdeal.nD Cert.LruKernelIdeal.τ).loc Cert.LruKernelIdeal.main_arg9))
      ∧ r.2.sem = fun _ => 0)

def quiescent_LruReferenceIdeal [hLruReferenceIdeal : Cert.LruReferenceIdeal.Facts] : Prop :=
  ∀ (m : (ℓ : Loc Cert.LruReferenceIdeal.nD Cert.LruReferenceIdeal.τ Cert.LruReferenceIdeal.sig) → Buf (Elt Ideal) ℓ) (g : Dev Cert.LruReferenceIdeal.nD → PrngReg), Pre_LruReferenceIdeal m →
    θ_run (Cert.LruReferenceIdeal.defs (F := Ideal)) (onTc (τ := Cert.LruReferenceIdeal.τ) (Cert.LruReferenceIdeal.main (F := Ideal))) ⟨m, fun _ => 0, g⟩ (fun r => (∀ c : Dev Cert.LruReferenceIdeal.nD,
      r.2.mem ((c.tc : Thread Cert.LruReferenceIdeal.nD Cert.LruReferenceIdeal.τ).loc Cert.LruReferenceIdeal.main_arg0) = m ((c.tc : Thread Cert.LruReferenceIdeal.nD Cert.LruReferenceIdeal.τ).loc Cert.LruReferenceIdeal.main_arg0)
      ∧ r.2.mem ((c.tc : Thread Cert.LruReferenceIdeal.nD Cert.LruReferenceIdeal.τ).loc Cert.LruReferenceIdeal.main_arg1) = m ((c.tc : Thread Cert.LruReferenceIdeal.nD Cert.LruReferenceIdeal.τ).loc Cert.LruReferenceIdeal.main_arg1)
      ∧ r.2.mem ((c.tc : Thread Cert.LruReferenceIdeal.nD Cert.LruReferenceIdeal.τ).loc Cert.LruReferenceIdeal.main_arg2) = m ((c.tc : Thread Cert.LruReferenceIdeal.nD Cert.LruReferenceIdeal.τ).loc Cert.LruReferenceIdeal.main_arg2)
      ∧ r.2.mem ((c.tc : Thread Cert.LruReferenceIdeal.nD Cert.LruReferenceIdeal.τ).loc Cert.LruReferenceIdeal.main_arg3) = m ((c.tc : Thread Cert.LruReferenceIdeal.nD Cert.LruReferenceIdeal.τ).loc Cert.LruReferenceIdeal.main_arg3)
      ∧ r.2.mem ((c.tc : Thread Cert.LruReferenceIdeal.nD Cert.LruReferenceIdeal.τ).loc Cert.LruReferenceIdeal.main_arg4) = m ((c.tc : Thread Cert.LruReferenceIdeal.nD Cert.LruReferenceIdeal.τ).loc Cert.LruReferenceIdeal.main_arg4)
      ∧ r.2.mem ((c.tc : Thread Cert.LruReferenceIdeal.nD Cert.LruReferenceIdeal.τ).loc Cert.LruReferenceIdeal.main_arg5) = m ((c.tc : Thread Cert.LruReferenceIdeal.nD Cert.LruReferenceIdeal.τ).loc Cert.LruReferenceIdeal.main_arg5)
      ∧ r.2.mem ((c.tc : Thread Cert.LruReferenceIdeal.nD Cert.LruReferenceIdeal.τ).loc Cert.LruReferenceIdeal.main_arg6) = m ((c.tc : Thread Cert.LruReferenceIdeal.nD Cert.LruReferenceIdeal.τ).loc Cert.LruReferenceIdeal.main_arg6)
      ∧ r.2.mem ((c.tc : Thread Cert.LruReferenceIdeal.nD Cert.LruReferenceIdeal.τ).loc Cert.LruReferenceIdeal.main_arg7) = m ((c.tc : Thread Cert.LruReferenceIdeal.nD Cert.LruReferenceIdeal.τ).loc Cert.LruReferenceIdeal.main_arg7)
      ∧ r.2.mem ((c.tc : Thread Cert.LruReferenceIdeal.nD Cert.LruReferenceIdeal.τ).loc Cert.LruReferenceIdeal.main_arg8) = m ((c.tc : Thread Cert.LruReferenceIdeal.nD Cert.LruReferenceIdeal.τ).loc Cert.LruReferenceIdeal.main_arg8)
      ∧ r.2.mem ((c.tc : Thread Cert.LruReferenceIdeal.nD Cert.LruReferenceIdeal.τ).loc Cert.LruReferenceIdeal.main_arg9) = m ((c.tc : Thread Cert.LruReferenceIdeal.nD Cert.LruReferenceIdeal.τ).loc Cert.LruReferenceIdeal.main_arg9))
      ∧ r.2.sem = fun _ => 0)

def quiescent_SwaKernel [hSwaKernel : Cert.SwaKernel.Facts] : Prop :=
  ∀ (m : (ℓ : Loc Cert.SwaKernel.nD Cert.SwaKernel.τ Cert.SwaKernel.sig) → Buf (Elt Bits) ℓ) (g : Dev Cert.SwaKernel.nD → PrngReg), Pre_SwaKernel m →
    θ_run (Cert.SwaKernel.defs (F := Bits)) (onTc (τ := Cert.SwaKernel.τ) (Cert.SwaKernel.main (F := Bits))) ⟨m, fun _ => 0, g⟩ (fun r => (∀ c : Dev Cert.SwaKernel.nD,
      r.2.mem ((c.tc : Thread Cert.SwaKernel.nD Cert.SwaKernel.τ).loc Cert.SwaKernel.main_arg0) = m ((c.tc : Thread Cert.SwaKernel.nD Cert.SwaKernel.τ).loc Cert.SwaKernel.main_arg0)
      ∧ r.2.mem ((c.tc : Thread Cert.SwaKernel.nD Cert.SwaKernel.τ).loc Cert.SwaKernel.main_arg1) = m ((c.tc : Thread Cert.SwaKernel.nD Cert.SwaKernel.τ).loc Cert.SwaKernel.main_arg1)
      ∧ r.2.mem ((c.tc : Thread Cert.SwaKernel.nD Cert.SwaKernel.τ).loc Cert.SwaKernel.main_arg2) = m ((c.tc : Thread Cert.SwaKernel.nD Cert.SwaKernel.τ).loc Cert.SwaKernel.main_arg2)
      ∧ r.2.mem ((c.tc : Thread Cert.SwaKernel.nD Cert.SwaKernel.τ).loc Cert.SwaKernel.main_arg3) = m ((c.tc : Thread Cert.SwaKernel.nD Cert.SwaKernel.τ).loc Cert.SwaKernel.main_arg3))
      ∧ r.2.sem = fun _ => 0)

def quiescent_SwaKernelIdeal [hSwaKernelIdeal : Cert.SwaKernelIdeal.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg), Pre_SwaKernelIdeal m →
    θ_run (Cert.SwaKernelIdeal.defs (F := Ideal)) (onTc (τ := Cert.SwaKernelIdeal.τ) (Cert.SwaKernelIdeal.main (F := Ideal))) ⟨m, fun _ => 0, g⟩ (fun r => (∀ c : Dev Cert.SwaKernelIdeal.nD,
      r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
      ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
      ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2)
      ∧ r.2.mem ((c.tc : Thread Cert.SwaKernelIdeal.nD Cert.SwaKernelIdeal.τ).loc Cert.SwaKernelIdeal.main_arg3) = m ((c.tc : Thread Cert.SwaKernelIdeal.nD Cert.SwaKernelIdeal.τ).loc Cert.SwaKernelIdeal.main_arg3))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2)
      ∧ r.2.mem ((c.tc : Thread Cert.SwaReferenceIdeal.nD Cert.SwaReferenceIdeal.τ).loc Cert.SwaReferenceIdeal.main_arg3) = m ((c.tc : Thread Cert.SwaReferenceIdeal.nD Cert.SwaReferenceIdeal.τ).loc Cert.SwaReferenceIdeal.main_arg3))
      ∧ r.2.sem = fun _ => 0)

def quiescent_Mlp0Kernel [hMlp0Kernel : Cert.Mlp0Kernel.Facts] : Prop :=
  ∀ (m : (ℓ : Loc Cert.Mlp0Kernel.nD Cert.Mlp0Kernel.τ Cert.Mlp0Kernel.sig) → Buf (Elt Bits) ℓ) (g : Dev Cert.Mlp0Kernel.nD → PrngReg), Pre_Mlp0Kernel m →
    θ_run (Cert.Mlp0Kernel.defs (F := Bits)) (onTc (τ := Cert.Mlp0Kernel.τ) (Cert.Mlp0Kernel.main (F := Bits))) ⟨m, fun _ => 0, g⟩ (fun r => (∀ c : Dev Cert.Mlp0Kernel.nD,
      r.2.mem ((c.tc : Thread Cert.Mlp0Kernel.nD Cert.Mlp0Kernel.τ).loc Cert.Mlp0Kernel.main_arg0) = m ((c.tc : Thread Cert.Mlp0Kernel.nD Cert.Mlp0Kernel.τ).loc Cert.Mlp0Kernel.main_arg0)
      ∧ r.2.mem ((c.tc : Thread Cert.Mlp0Kernel.nD Cert.Mlp0Kernel.τ).loc Cert.Mlp0Kernel.main_arg1) = m ((c.tc : Thread Cert.Mlp0Kernel.nD Cert.Mlp0Kernel.τ).loc Cert.Mlp0Kernel.main_arg1)
      ∧ r.2.mem ((c.tc : Thread Cert.Mlp0Kernel.nD Cert.Mlp0Kernel.τ).loc Cert.Mlp0Kernel.main_arg2) = m ((c.tc : Thread Cert.Mlp0Kernel.nD Cert.Mlp0Kernel.τ).loc Cert.Mlp0Kernel.main_arg2)
      ∧ r.2.mem ((c.tc : Thread Cert.Mlp0Kernel.nD Cert.Mlp0Kernel.τ).loc Cert.Mlp0Kernel.main_arg3) = m ((c.tc : Thread Cert.Mlp0Kernel.nD Cert.Mlp0Kernel.τ).loc Cert.Mlp0Kernel.main_arg3)
      ∧ r.2.mem ((c.tc : Thread Cert.Mlp0Kernel.nD Cert.Mlp0Kernel.τ).loc Cert.Mlp0Kernel.main_arg4) = m ((c.tc : Thread Cert.Mlp0Kernel.nD Cert.Mlp0Kernel.τ).loc Cert.Mlp0Kernel.main_arg4))
      ∧ r.2.sem = fun _ => 0)

def quiescent_Mlp0KernelIdeal [hMlp0KernelIdeal : Cert.Mlp0KernelIdeal.Facts] : Prop :=
  ∀ (m : (ℓ : Loc Cert.Mlp0KernelIdeal.nD Cert.Mlp0KernelIdeal.τ Cert.Mlp0KernelIdeal.sig) → Buf (Elt Ideal) ℓ) (g : Dev Cert.Mlp0KernelIdeal.nD → PrngReg), Pre_Mlp0KernelIdeal m →
    θ_run (Cert.Mlp0KernelIdeal.defs (F := Ideal)) (onTc (τ := Cert.Mlp0KernelIdeal.τ) (Cert.Mlp0KernelIdeal.main (F := Ideal))) ⟨m, fun _ => 0, g⟩ (fun r => (∀ c : Dev Cert.Mlp0KernelIdeal.nD,
      r.2.mem ((c.tc : Thread Cert.Mlp0KernelIdeal.nD Cert.Mlp0KernelIdeal.τ).loc Cert.Mlp0KernelIdeal.main_arg0) = m ((c.tc : Thread Cert.Mlp0KernelIdeal.nD Cert.Mlp0KernelIdeal.τ).loc Cert.Mlp0KernelIdeal.main_arg0)
      ∧ r.2.mem ((c.tc : Thread Cert.Mlp0KernelIdeal.nD Cert.Mlp0KernelIdeal.τ).loc Cert.Mlp0KernelIdeal.main_arg1) = m ((c.tc : Thread Cert.Mlp0KernelIdeal.nD Cert.Mlp0KernelIdeal.τ).loc Cert.Mlp0KernelIdeal.main_arg1)
      ∧ r.2.mem ((c.tc : Thread Cert.Mlp0KernelIdeal.nD Cert.Mlp0KernelIdeal.τ).loc Cert.Mlp0KernelIdeal.main_arg2) = m ((c.tc : Thread Cert.Mlp0KernelIdeal.nD Cert.Mlp0KernelIdeal.τ).loc Cert.Mlp0KernelIdeal.main_arg2)
      ∧ r.2.mem ((c.tc : Thread Cert.Mlp0KernelIdeal.nD Cert.Mlp0KernelIdeal.τ).loc Cert.Mlp0KernelIdeal.main_arg3) = m ((c.tc : Thread Cert.Mlp0KernelIdeal.nD Cert.Mlp0KernelIdeal.τ).loc Cert.Mlp0KernelIdeal.main_arg3)
      ∧ r.2.mem ((c.tc : Thread Cert.Mlp0KernelIdeal.nD Cert.Mlp0KernelIdeal.τ).loc Cert.Mlp0KernelIdeal.main_arg4) = m ((c.tc : Thread Cert.Mlp0KernelIdeal.nD Cert.Mlp0KernelIdeal.τ).loc Cert.Mlp0KernelIdeal.main_arg4))
      ∧ r.2.sem = fun _ => 0)

def quiescent_Mlp0ReferenceIdeal [hMlp0ReferenceIdeal : Cert.Mlp0ReferenceIdeal.Facts] : Prop :=
  ∀ (m : (ℓ : Loc Cert.Mlp0ReferenceIdeal.nD Cert.Mlp0ReferenceIdeal.τ Cert.Mlp0ReferenceIdeal.sig) → Buf (Elt Ideal) ℓ) (g : Dev Cert.Mlp0ReferenceIdeal.nD → PrngReg), Pre_Mlp0ReferenceIdeal m →
    θ_run (Cert.Mlp0ReferenceIdeal.defs (F := Ideal)) (onTc (τ := Cert.Mlp0ReferenceIdeal.τ) (Cert.Mlp0ReferenceIdeal.main (F := Ideal))) ⟨m, fun _ => 0, g⟩ (fun r => (∀ c : Dev Cert.Mlp0ReferenceIdeal.nD,
      r.2.mem ((c.tc : Thread Cert.Mlp0ReferenceIdeal.nD Cert.Mlp0ReferenceIdeal.τ).loc Cert.Mlp0ReferenceIdeal.main_arg0) = m ((c.tc : Thread Cert.Mlp0ReferenceIdeal.nD Cert.Mlp0ReferenceIdeal.τ).loc Cert.Mlp0ReferenceIdeal.main_arg0)
      ∧ r.2.mem ((c.tc : Thread Cert.Mlp0ReferenceIdeal.nD Cert.Mlp0ReferenceIdeal.τ).loc Cert.Mlp0ReferenceIdeal.main_arg1) = m ((c.tc : Thread Cert.Mlp0ReferenceIdeal.nD Cert.Mlp0ReferenceIdeal.τ).loc Cert.Mlp0ReferenceIdeal.main_arg1)
      ∧ r.2.mem ((c.tc : Thread Cert.Mlp0ReferenceIdeal.nD Cert.Mlp0ReferenceIdeal.τ).loc Cert.Mlp0ReferenceIdeal.main_arg2) = m ((c.tc : Thread Cert.Mlp0ReferenceIdeal.nD Cert.Mlp0ReferenceIdeal.τ).loc Cert.Mlp0ReferenceIdeal.main_arg2)
      ∧ r.2.mem ((c.tc : Thread Cert.Mlp0ReferenceIdeal.nD Cert.Mlp0ReferenceIdeal.τ).loc Cert.Mlp0ReferenceIdeal.main_arg3) = m ((c.tc : Thread Cert.Mlp0ReferenceIdeal.nD Cert.Mlp0ReferenceIdeal.τ).loc Cert.Mlp0ReferenceIdeal.main_arg3)
      ∧ r.2.mem ((c.tc : Thread Cert.Mlp0ReferenceIdeal.nD Cert.Mlp0ReferenceIdeal.τ).loc Cert.Mlp0ReferenceIdeal.main_arg4) = m ((c.tc : Thread Cert.Mlp0ReferenceIdeal.nD Cert.Mlp0ReferenceIdeal.τ).loc Cert.Mlp0ReferenceIdeal.main_arg4))
      ∧ r.2.sem = fun _ => 0)

def quiescent_Mlp1Kernel [hMlp1Kernel : Cert.Mlp1Kernel.Facts] : Prop :=
  ∀ (m : (ℓ : Loc Cert.Mlp1Kernel.nD Cert.Mlp1Kernel.τ Cert.Mlp1Kernel.sig) → Buf (Elt Bits) ℓ) (g : Dev Cert.Mlp1Kernel.nD → PrngReg), Pre_Mlp1Kernel m →
    θ_run (Cert.Mlp1Kernel.defs (F := Bits)) (onTc (τ := Cert.Mlp1Kernel.τ) (Cert.Mlp1Kernel.main (F := Bits))) ⟨m, fun _ => 0, g⟩ (fun r => (∀ c : Dev Cert.Mlp1Kernel.nD,
      r.2.mem ((c.tc : Thread Cert.Mlp1Kernel.nD Cert.Mlp1Kernel.τ).loc Cert.Mlp1Kernel.main_arg0) = m ((c.tc : Thread Cert.Mlp1Kernel.nD Cert.Mlp1Kernel.τ).loc Cert.Mlp1Kernel.main_arg0)
      ∧ r.2.mem ((c.tc : Thread Cert.Mlp1Kernel.nD Cert.Mlp1Kernel.τ).loc Cert.Mlp1Kernel.main_arg1) = m ((c.tc : Thread Cert.Mlp1Kernel.nD Cert.Mlp1Kernel.τ).loc Cert.Mlp1Kernel.main_arg1)
      ∧ r.2.mem ((c.tc : Thread Cert.Mlp1Kernel.nD Cert.Mlp1Kernel.τ).loc Cert.Mlp1Kernel.main_arg2) = m ((c.tc : Thread Cert.Mlp1Kernel.nD Cert.Mlp1Kernel.τ).loc Cert.Mlp1Kernel.main_arg2)
      ∧ r.2.mem ((c.tc : Thread Cert.Mlp1Kernel.nD Cert.Mlp1Kernel.τ).loc Cert.Mlp1Kernel.main_arg3) = m ((c.tc : Thread Cert.Mlp1Kernel.nD Cert.Mlp1Kernel.τ).loc Cert.Mlp1Kernel.main_arg3)
      ∧ r.2.mem ((c.tc : Thread Cert.Mlp1Kernel.nD Cert.Mlp1Kernel.τ).loc Cert.Mlp1Kernel.main_arg4) = m ((c.tc : Thread Cert.Mlp1Kernel.nD Cert.Mlp1Kernel.τ).loc Cert.Mlp1Kernel.main_arg4))
      ∧ r.2.sem = fun _ => 0)

def quiescent_Mlp1KernelIdeal [hMlp1KernelIdeal : Cert.Mlp1KernelIdeal.Facts] : Prop :=
  ∀ (m : (ℓ : Loc Cert.Mlp1KernelIdeal.nD Cert.Mlp1KernelIdeal.τ Cert.Mlp1KernelIdeal.sig) → Buf (Elt Ideal) ℓ) (g : Dev Cert.Mlp1KernelIdeal.nD → PrngReg), Pre_Mlp1KernelIdeal m →
    θ_run (Cert.Mlp1KernelIdeal.defs (F := Ideal)) (onTc (τ := Cert.Mlp1KernelIdeal.τ) (Cert.Mlp1KernelIdeal.main (F := Ideal))) ⟨m, fun _ => 0, g⟩ (fun r => (∀ c : Dev Cert.Mlp1KernelIdeal.nD,
      r.2.mem ((c.tc : Thread Cert.Mlp1KernelIdeal.nD Cert.Mlp1KernelIdeal.τ).loc Cert.Mlp1KernelIdeal.main_arg0) = m ((c.tc : Thread Cert.Mlp1KernelIdeal.nD Cert.Mlp1KernelIdeal.τ).loc Cert.Mlp1KernelIdeal.main_arg0)
      ∧ r.2.mem ((c.tc : Thread Cert.Mlp1KernelIdeal.nD Cert.Mlp1KernelIdeal.τ).loc Cert.Mlp1KernelIdeal.main_arg1) = m ((c.tc : Thread Cert.Mlp1KernelIdeal.nD Cert.Mlp1KernelIdeal.τ).loc Cert.Mlp1KernelIdeal.main_arg1)
      ∧ r.2.mem ((c.tc : Thread Cert.Mlp1KernelIdeal.nD Cert.Mlp1KernelIdeal.τ).loc Cert.Mlp1KernelIdeal.main_arg2) = m ((c.tc : Thread Cert.Mlp1KernelIdeal.nD Cert.Mlp1KernelIdeal.τ).loc Cert.Mlp1KernelIdeal.main_arg2)
      ∧ r.2.mem ((c.tc : Thread Cert.Mlp1KernelIdeal.nD Cert.Mlp1KernelIdeal.τ).loc Cert.Mlp1KernelIdeal.main_arg3) = m ((c.tc : Thread Cert.Mlp1KernelIdeal.nD Cert.Mlp1KernelIdeal.τ).loc Cert.Mlp1KernelIdeal.main_arg3)
      ∧ r.2.mem ((c.tc : Thread Cert.Mlp1KernelIdeal.nD Cert.Mlp1KernelIdeal.τ).loc Cert.Mlp1KernelIdeal.main_arg4) = m ((c.tc : Thread Cert.Mlp1KernelIdeal.nD Cert.Mlp1KernelIdeal.τ).loc Cert.Mlp1KernelIdeal.main_arg4))
      ∧ r.2.sem = fun _ => 0)

def quiescent_Mlp1ReferenceIdeal [hMlp1ReferenceIdeal : Cert.Mlp1ReferenceIdeal.Facts] : Prop :=
  ∀ (m : (ℓ : Loc Cert.Mlp1ReferenceIdeal.nD Cert.Mlp1ReferenceIdeal.τ Cert.Mlp1ReferenceIdeal.sig) → Buf (Elt Ideal) ℓ) (g : Dev Cert.Mlp1ReferenceIdeal.nD → PrngReg), Pre_Mlp1ReferenceIdeal m →
    θ_run (Cert.Mlp1ReferenceIdeal.defs (F := Ideal)) (onTc (τ := Cert.Mlp1ReferenceIdeal.τ) (Cert.Mlp1ReferenceIdeal.main (F := Ideal))) ⟨m, fun _ => 0, g⟩ (fun r => (∀ c : Dev Cert.Mlp1ReferenceIdeal.nD,
      r.2.mem ((c.tc : Thread Cert.Mlp1ReferenceIdeal.nD Cert.Mlp1ReferenceIdeal.τ).loc Cert.Mlp1ReferenceIdeal.main_arg0) = m ((c.tc : Thread Cert.Mlp1ReferenceIdeal.nD Cert.Mlp1ReferenceIdeal.τ).loc Cert.Mlp1ReferenceIdeal.main_arg0)
      ∧ r.2.mem ((c.tc : Thread Cert.Mlp1ReferenceIdeal.nD Cert.Mlp1ReferenceIdeal.τ).loc Cert.Mlp1ReferenceIdeal.main_arg1) = m ((c.tc : Thread Cert.Mlp1ReferenceIdeal.nD Cert.Mlp1ReferenceIdeal.τ).loc Cert.Mlp1ReferenceIdeal.main_arg1)
      ∧ r.2.mem ((c.tc : Thread Cert.Mlp1ReferenceIdeal.nD Cert.Mlp1ReferenceIdeal.τ).loc Cert.Mlp1ReferenceIdeal.main_arg2) = m ((c.tc : Thread Cert.Mlp1ReferenceIdeal.nD Cert.Mlp1ReferenceIdeal.τ).loc Cert.Mlp1ReferenceIdeal.main_arg2)
      ∧ r.2.mem ((c.tc : Thread Cert.Mlp1ReferenceIdeal.nD Cert.Mlp1ReferenceIdeal.τ).loc Cert.Mlp1ReferenceIdeal.main_arg3) = m ((c.tc : Thread Cert.Mlp1ReferenceIdeal.nD Cert.Mlp1ReferenceIdeal.τ).loc Cert.Mlp1ReferenceIdeal.main_arg3)
      ∧ r.2.mem ((c.tc : Thread Cert.Mlp1ReferenceIdeal.nD Cert.Mlp1ReferenceIdeal.τ).loc Cert.Mlp1ReferenceIdeal.main_arg4) = m ((c.tc : Thread Cert.Mlp1ReferenceIdeal.nD Cert.Mlp1ReferenceIdeal.τ).loc Cert.Mlp1ReferenceIdeal.main_arg4))
      ∧ r.2.sem = fun _ => 0)

def quiescent_Mlp2Kernel [hMlp2Kernel : Cert.Mlp2Kernel.Facts] : Prop :=
  ∀ (m : (ℓ : Loc Cert.Mlp2Kernel.nD Cert.Mlp2Kernel.τ Cert.Mlp2Kernel.sig) → Buf (Elt Bits) ℓ) (g : Dev Cert.Mlp2Kernel.nD → PrngReg), Pre_Mlp2Kernel m →
    θ_run (Cert.Mlp2Kernel.defs (F := Bits)) (onTc (τ := Cert.Mlp2Kernel.τ) (Cert.Mlp2Kernel.main (F := Bits))) ⟨m, fun _ => 0, g⟩ (fun r => (∀ c : Dev Cert.Mlp2Kernel.nD,
      r.2.mem ((c.tc : Thread Cert.Mlp2Kernel.nD Cert.Mlp2Kernel.τ).loc Cert.Mlp2Kernel.main_arg0) = m ((c.tc : Thread Cert.Mlp2Kernel.nD Cert.Mlp2Kernel.τ).loc Cert.Mlp2Kernel.main_arg0)
      ∧ r.2.mem ((c.tc : Thread Cert.Mlp2Kernel.nD Cert.Mlp2Kernel.τ).loc Cert.Mlp2Kernel.main_arg1) = m ((c.tc : Thread Cert.Mlp2Kernel.nD Cert.Mlp2Kernel.τ).loc Cert.Mlp2Kernel.main_arg1)
      ∧ r.2.mem ((c.tc : Thread Cert.Mlp2Kernel.nD Cert.Mlp2Kernel.τ).loc Cert.Mlp2Kernel.main_arg2) = m ((c.tc : Thread Cert.Mlp2Kernel.nD Cert.Mlp2Kernel.τ).loc Cert.Mlp2Kernel.main_arg2)
      ∧ r.2.mem ((c.tc : Thread Cert.Mlp2Kernel.nD Cert.Mlp2Kernel.τ).loc Cert.Mlp2Kernel.main_arg3) = m ((c.tc : Thread Cert.Mlp2Kernel.nD Cert.Mlp2Kernel.τ).loc Cert.Mlp2Kernel.main_arg3)
      ∧ r.2.mem ((c.tc : Thread Cert.Mlp2Kernel.nD Cert.Mlp2Kernel.τ).loc Cert.Mlp2Kernel.main_arg4) = m ((c.tc : Thread Cert.Mlp2Kernel.nD Cert.Mlp2Kernel.τ).loc Cert.Mlp2Kernel.main_arg4))
      ∧ r.2.sem = fun _ => 0)

def quiescent_Mlp2KernelIdeal [hMlp2KernelIdeal : Cert.Mlp2KernelIdeal.Facts] : Prop :=
  ∀ (m : (ℓ : Loc Cert.Mlp2KernelIdeal.nD Cert.Mlp2KernelIdeal.τ Cert.Mlp2KernelIdeal.sig) → Buf (Elt Ideal) ℓ) (g : Dev Cert.Mlp2KernelIdeal.nD → PrngReg), Pre_Mlp2KernelIdeal m →
    θ_run (Cert.Mlp2KernelIdeal.defs (F := Ideal)) (onTc (τ := Cert.Mlp2KernelIdeal.τ) (Cert.Mlp2KernelIdeal.main (F := Ideal))) ⟨m, fun _ => 0, g⟩ (fun r => (∀ c : Dev Cert.Mlp2KernelIdeal.nD,
      r.2.mem ((c.tc : Thread Cert.Mlp2KernelIdeal.nD Cert.Mlp2KernelIdeal.τ).loc Cert.Mlp2KernelIdeal.main_arg0) = m ((c.tc : Thread Cert.Mlp2KernelIdeal.nD Cert.Mlp2KernelIdeal.τ).loc Cert.Mlp2KernelIdeal.main_arg0)
      ∧ r.2.mem ((c.tc : Thread Cert.Mlp2KernelIdeal.nD Cert.Mlp2KernelIdeal.τ).loc Cert.Mlp2KernelIdeal.main_arg1) = m ((c.tc : Thread Cert.Mlp2KernelIdeal.nD Cert.Mlp2KernelIdeal.τ).loc Cert.Mlp2KernelIdeal.main_arg1)
      ∧ r.2.mem ((c.tc : Thread Cert.Mlp2KernelIdeal.nD Cert.Mlp2KernelIdeal.τ).loc Cert.Mlp2KernelIdeal.main_arg2) = m ((c.tc : Thread Cert.Mlp2KernelIdeal.nD Cert.Mlp2KernelIdeal.τ).loc Cert.Mlp2KernelIdeal.main_arg2)
      ∧ r.2.mem ((c.tc : Thread Cert.Mlp2KernelIdeal.nD Cert.Mlp2KernelIdeal.τ).loc Cert.Mlp2KernelIdeal.main_arg3) = m ((c.tc : Thread Cert.Mlp2KernelIdeal.nD Cert.Mlp2KernelIdeal.τ).loc Cert.Mlp2KernelIdeal.main_arg3)
      ∧ r.2.mem ((c.tc : Thread Cert.Mlp2KernelIdeal.nD Cert.Mlp2KernelIdeal.τ).loc Cert.Mlp2KernelIdeal.main_arg4) = m ((c.tc : Thread Cert.Mlp2KernelIdeal.nD Cert.Mlp2KernelIdeal.τ).loc Cert.Mlp2KernelIdeal.main_arg4))
      ∧ r.2.sem = fun _ => 0)

def quiescent_Mlp2ReferenceIdeal [hMlp2ReferenceIdeal : Cert.Mlp2ReferenceIdeal.Facts] : Prop :=
  ∀ (m : (ℓ : Loc Cert.Mlp2ReferenceIdeal.nD Cert.Mlp2ReferenceIdeal.τ Cert.Mlp2ReferenceIdeal.sig) → Buf (Elt Ideal) ℓ) (g : Dev Cert.Mlp2ReferenceIdeal.nD → PrngReg), Pre_Mlp2ReferenceIdeal m →
    θ_run (Cert.Mlp2ReferenceIdeal.defs (F := Ideal)) (onTc (τ := Cert.Mlp2ReferenceIdeal.τ) (Cert.Mlp2ReferenceIdeal.main (F := Ideal))) ⟨m, fun _ => 0, g⟩ (fun r => (∀ c : Dev Cert.Mlp2ReferenceIdeal.nD,
      r.2.mem ((c.tc : Thread Cert.Mlp2ReferenceIdeal.nD Cert.Mlp2ReferenceIdeal.τ).loc Cert.Mlp2ReferenceIdeal.main_arg0) = m ((c.tc : Thread Cert.Mlp2ReferenceIdeal.nD Cert.Mlp2ReferenceIdeal.τ).loc Cert.Mlp2ReferenceIdeal.main_arg0)
      ∧ r.2.mem ((c.tc : Thread Cert.Mlp2ReferenceIdeal.nD Cert.Mlp2ReferenceIdeal.τ).loc Cert.Mlp2ReferenceIdeal.main_arg1) = m ((c.tc : Thread Cert.Mlp2ReferenceIdeal.nD Cert.Mlp2ReferenceIdeal.τ).loc Cert.Mlp2ReferenceIdeal.main_arg1)
      ∧ r.2.mem ((c.tc : Thread Cert.Mlp2ReferenceIdeal.nD Cert.Mlp2ReferenceIdeal.τ).loc Cert.Mlp2ReferenceIdeal.main_arg2) = m ((c.tc : Thread Cert.Mlp2ReferenceIdeal.nD Cert.Mlp2ReferenceIdeal.τ).loc Cert.Mlp2ReferenceIdeal.main_arg2)
      ∧ r.2.mem ((c.tc : Thread Cert.Mlp2ReferenceIdeal.nD Cert.Mlp2ReferenceIdeal.τ).loc Cert.Mlp2ReferenceIdeal.main_arg3) = m ((c.tc : Thread Cert.Mlp2ReferenceIdeal.nD Cert.Mlp2ReferenceIdeal.τ).loc Cert.Mlp2ReferenceIdeal.main_arg3)
      ∧ r.2.mem ((c.tc : Thread Cert.Mlp2ReferenceIdeal.nD Cert.Mlp2ReferenceIdeal.τ).loc Cert.Mlp2ReferenceIdeal.main_arg4) = m ((c.tc : Thread Cert.Mlp2ReferenceIdeal.nD Cert.Mlp2ReferenceIdeal.τ).loc Cert.Mlp2ReferenceIdeal.main_arg4))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_PlainKernel [hPlainKernel : Cert.PlainKernel.Facts] : Prop :=
  ∀ (m : (ℓ : Loc Cert.PlainKernel.nD Cert.PlainKernel.τ Cert.PlainKernel.sig) → Buf (Elt Bits) ℓ) (g : Dev Cert.PlainKernel.nD → PrngReg), Pre_PlainKernel m →
    θ_run (Cert.PlainKernel.defs (F := Bits)) (onTc (τ := Cert.PlainKernel.τ) (Cert.PlainKernel.main (F := Bits))) ⟨m, fun _ => 0, g⟩ (fun r => (∀ c : Dev Cert.PlainKernel.nD,
      r.2.mem ((c.tc : Thread Cert.PlainKernel.nD Cert.PlainKernel.τ).loc Cert.PlainKernel.main_arg0) = m ((c.tc : Thread Cert.PlainKernel.nD Cert.PlainKernel.τ).loc Cert.PlainKernel.main_arg0)
      ∧ r.2.mem ((c.tc : Thread Cert.PlainKernel.nD Cert.PlainKernel.τ).loc Cert.PlainKernel.main_arg1) = m ((c.tc : Thread Cert.PlainKernel.nD Cert.PlainKernel.τ).loc Cert.PlainKernel.main_arg1)
      ∧ r.2.mem ((c.tc : Thread Cert.PlainKernel.nD Cert.PlainKernel.τ).loc Cert.PlainKernel.main_arg2) = m ((c.tc : Thread Cert.PlainKernel.nD Cert.PlainKernel.τ).loc Cert.PlainKernel.main_arg2)
      ∧ r.2.mem ((c.tc : Thread Cert.PlainKernel.nD Cert.PlainKernel.τ).loc Cert.PlainKernel.main_arg3) = m ((c.tc : Thread Cert.PlainKernel.nD Cert.PlainKernel.τ).loc Cert.PlainKernel.main_arg3))
      ∧ r.2.sem = fun _ => 0)

def quiescent_PlainKernelIdeal [hPlainKernelIdeal : Cert.PlainKernelIdeal.Facts] : Prop :=
  ∀ (m : (ℓ : Loc Cert.PlainKernelIdeal.nD Cert.PlainKernelIdeal.τ Cert.PlainKernelIdeal.sig) → Buf (Elt Ideal) ℓ) (g : Dev Cert.PlainKernelIdeal.nD → PrngReg), Pre_PlainKernelIdeal m →
    θ_run (Cert.PlainKernelIdeal.defs (F := Ideal)) (onTc (τ := Cert.PlainKernelIdeal.τ) (Cert.PlainKernelIdeal.main (F := Ideal))) ⟨m, fun _ => 0, g⟩ (fun r => (∀ c : Dev Cert.PlainKernelIdeal.nD,
      r.2.mem ((c.tc : Thread Cert.PlainKernelIdeal.nD Cert.PlainKernelIdeal.τ).loc Cert.PlainKernelIdeal.main_arg0) = m ((c.tc : Thread Cert.PlainKernelIdeal.nD Cert.PlainKernelIdeal.τ).loc Cert.PlainKernelIdeal.main_arg0)
      ∧ r.2.mem ((c.tc : Thread Cert.PlainKernelIdeal.nD Cert.PlainKernelIdeal.τ).loc Cert.PlainKernelIdeal.main_arg1) = m ((c.tc : Thread Cert.PlainKernelIdeal.nD Cert.PlainKernelIdeal.τ).loc Cert.PlainKernelIdeal.main_arg1)
      ∧ r.2.mem ((c.tc : Thread Cert.PlainKernelIdeal.nD Cert.PlainKernelIdeal.τ).loc Cert.PlainKernelIdeal.main_arg2) = m ((c.tc : Thread Cert.PlainKernelIdeal.nD Cert.PlainKernelIdeal.τ).loc Cert.PlainKernelIdeal.main_arg2)
      ∧ r.2.mem ((c.tc : Thread Cert.PlainKernelIdeal.nD Cert.PlainKernelIdeal.τ).loc Cert.PlainKernelIdeal.main_arg3) = m ((c.tc : Thread Cert.PlainKernelIdeal.nD Cert.PlainKernelIdeal.τ).loc Cert.PlainKernelIdeal.main_arg3))
      ∧ r.2.sem = fun _ => 0)

def quiescent_PlainReferenceIdeal [hPlainReferenceIdeal : Cert.PlainReferenceIdeal.Facts] : Prop :=
  ∀ (m : (ℓ : Loc Cert.PlainReferenceIdeal.nD Cert.PlainReferenceIdeal.τ Cert.PlainReferenceIdeal.sig) → Buf (Elt Ideal) ℓ) (g : Dev Cert.PlainReferenceIdeal.nD → PrngReg), Pre_PlainReferenceIdeal m →
    θ_run (Cert.PlainReferenceIdeal.defs (F := Ideal)) (onTc (τ := Cert.PlainReferenceIdeal.τ) (Cert.PlainReferenceIdeal.main (F := Ideal))) ⟨m, fun _ => 0, g⟩ (fun r => (∀ c : Dev Cert.PlainReferenceIdeal.nD,
      r.2.mem ((c.tc : Thread Cert.PlainReferenceIdeal.nD Cert.PlainReferenceIdeal.τ).loc Cert.PlainReferenceIdeal.main_arg0) = m ((c.tc : Thread Cert.PlainReferenceIdeal.nD Cert.PlainReferenceIdeal.τ).loc Cert.PlainReferenceIdeal.main_arg0)
      ∧ r.2.mem ((c.tc : Thread Cert.PlainReferenceIdeal.nD Cert.PlainReferenceIdeal.τ).loc Cert.PlainReferenceIdeal.main_arg1) = m ((c.tc : Thread Cert.PlainReferenceIdeal.nD Cert.PlainReferenceIdeal.τ).loc Cert.PlainReferenceIdeal.main_arg1)
      ∧ r.2.mem ((c.tc : Thread Cert.PlainReferenceIdeal.nD Cert.PlainReferenceIdeal.τ).loc Cert.PlainReferenceIdeal.main_arg2) = m ((c.tc : Thread Cert.PlainReferenceIdeal.nD Cert.PlainReferenceIdeal.τ).loc Cert.PlainReferenceIdeal.main_arg2)
      ∧ r.2.mem ((c.tc : Thread Cert.PlainReferenceIdeal.nD Cert.PlainReferenceIdeal.τ).loc Cert.PlainReferenceIdeal.main_arg3) = m ((c.tc : Thread Cert.PlainReferenceIdeal.nD Cert.PlainReferenceIdeal.τ).loc Cert.PlainReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4)
      ∧ r.2.mem ((c.tc : Thread Cert.GateKernel.nD Cert.GateKernel.τ).loc Cert.GateKernel.main_arg5) = m ((c.tc : Thread Cert.GateKernel.nD Cert.GateKernel.τ).loc Cert.GateKernel.main_arg5))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def preserves_LruKernel_LruKernelIdeal : Prop :=
  True

def algebraic_LruKernelIdeal_LruReferenceIdeal [hLruKernelIdeal : Cert.LruKernelIdeal.Facts] [hLruReferenceIdeal : Cert.LruReferenceIdeal.Facts] : Prop :=
  ∀ (m : (ℓ : Loc Cert.LruKernelIdeal.nD Cert.LruKernelIdeal.τ Cert.LruKernelIdeal.sig) → Buf (Elt Ideal) ℓ) (g : Dev Cert.LruKernelIdeal.nD → PrngReg)
    (m' : (ℓ : Loc Cert.LruReferenceIdeal.nD Cert.LruReferenceIdeal.τ Cert.LruReferenceIdeal.sig) → Buf (Elt Ideal) ℓ) (g' : Dev Cert.LruReferenceIdeal.nD → PrngReg), Pre_LruKernelIdeal m →
    (∀ c : Dev Cert.LruKernelIdeal.nD,
      m' ((c.tc : Thread Cert.LruReferenceIdeal.nD Cert.LruReferenceIdeal.τ).loc Cert.LruReferenceIdeal.main_arg0) = m ((c.tc : Thread Cert.LruKernelIdeal.nD Cert.LruKernelIdeal.τ).loc Cert.LruKernelIdeal.main_arg0)
      ∧ m' ((c.tc : Thread Cert.LruReferenceIdeal.nD Cert.LruReferenceIdeal.τ).loc Cert.LruReferenceIdeal.main_arg1) = m ((c.tc : Thread Cert.LruKernelIdeal.nD Cert.LruKernelIdeal.τ).loc Cert.LruKernelIdeal.main_arg1)
      ∧ m' ((c.tc : Thread Cert.LruReferenceIdeal.nD Cert.LruReferenceIdeal.τ).loc Cert.LruReferenceIdeal.main_arg2) = m ((c.tc : Thread Cert.LruKernelIdeal.nD Cert.LruKernelIdeal.τ).loc Cert.LruKernelIdeal.main_arg2)
      ∧ m' ((c.tc : Thread Cert.LruReferenceIdeal.nD Cert.LruReferenceIdeal.τ).loc Cert.LruReferenceIdeal.main_arg3) = m ((c.tc : Thread Cert.LruKernelIdeal.nD Cert.LruKernelIdeal.τ).loc Cert.LruKernelIdeal.main_arg3)
      ∧ m' ((c.tc : Thread Cert.LruReferenceIdeal.nD Cert.LruReferenceIdeal.τ).loc Cert.LruReferenceIdeal.main_arg4) = m ((c.tc : Thread Cert.LruKernelIdeal.nD Cert.LruKernelIdeal.τ).loc Cert.LruKernelIdeal.main_arg4)
      ∧ m' ((c.tc : Thread Cert.LruReferenceIdeal.nD Cert.LruReferenceIdeal.τ).loc Cert.LruReferenceIdeal.main_arg5) = m ((c.tc : Thread Cert.LruKernelIdeal.nD Cert.LruKernelIdeal.τ).loc Cert.LruKernelIdeal.main_arg5)
      ∧ m' ((c.tc : Thread Cert.LruReferenceIdeal.nD Cert.LruReferenceIdeal.τ).loc Cert.LruReferenceIdeal.main_arg6) = m ((c.tc : Thread Cert.LruKernelIdeal.nD Cert.LruKernelIdeal.τ).loc Cert.LruKernelIdeal.main_arg6)
      ∧ m' ((c.tc : Thread Cert.LruReferenceIdeal.nD Cert.LruReferenceIdeal.τ).loc Cert.LruReferenceIdeal.main_arg7) = m ((c.tc : Thread Cert.LruKernelIdeal.nD Cert.LruKernelIdeal.τ).loc Cert.LruKernelIdeal.main_arg7)
      ∧ m' ((c.tc : Thread Cert.LruReferenceIdeal.nD Cert.LruReferenceIdeal.τ).loc Cert.LruReferenceIdeal.main_arg8) = m ((c.tc : Thread Cert.LruKernelIdeal.nD Cert.LruKernelIdeal.τ).loc Cert.LruKernelIdeal.main_arg8)
      ∧ m' ((c.tc : Thread Cert.LruReferenceIdeal.nD Cert.LruReferenceIdeal.τ).loc Cert.LruReferenceIdeal.main_arg9) = m ((c.tc : Thread Cert.LruKernelIdeal.nD Cert.LruKernelIdeal.τ).loc Cert.LruKernelIdeal.main_arg9)) →
    ∃ (v0 : (c : Dev Cert.LruKernelIdeal.nD) → Buf (Elt Ideal) ((c.tc : Thread Cert.LruKernelIdeal.nD Cert.LruKernelIdeal.τ).loc Cert.LruKernelIdeal.main_v11_0)) (v1 : (c : Dev Cert.LruKernelIdeal.nD) → Buf (Elt Ideal) ((c.tc : Thread Cert.LruKernelIdeal.nD Cert.LruKernelIdeal.τ).loc Cert.LruKernelIdeal.main_v11_1)) (v2 : (c : Dev Cert.LruKernelIdeal.nD) → Buf (Elt Ideal) ((c.tc : Thread Cert.LruKernelIdeal.nD Cert.LruKernelIdeal.τ).loc Cert.LruKernelIdeal.main_v11_2)),
      θ_run (Cert.LruKernelIdeal.defs (F := Ideal)) (onTc (τ := Cert.LruKernelIdeal.τ) (Cert.LruKernelIdeal.main (F := Ideal))) ⟨m, fun _ => 0, g⟩ (fun r => ∀ c : Dev Cert.LruKernelIdeal.nD,
          r.2.mem ((c.tc : Thread Cert.LruKernelIdeal.nD Cert.LruKernelIdeal.τ).loc Cert.LruKernelIdeal.main_v11_0) = v0 c
          ∧ r.2.mem ((c.tc : Thread Cert.LruKernelIdeal.nD Cert.LruKernelIdeal.τ).loc Cert.LruKernelIdeal.main_v11_1) = v1 c
          ∧ r.2.mem ((c.tc : Thread Cert.LruKernelIdeal.nD Cert.LruKernelIdeal.τ).loc Cert.LruKernelIdeal.main_v11_2) = v2 c
          ∧ r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
          ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
          ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
          ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
          ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
          ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
          ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
          ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7)
          ∧ r.2.mem ((c.tc : Thread Cert.LruKernelIdeal.nD Cert.LruKernelIdeal.τ).loc Cert.LruKernelIdeal.main_arg8) = m ((c.tc : Thread Cert.LruKernelIdeal.nD Cert.LruKernelIdeal.τ).loc Cert.LruKernelIdeal.main_arg8)
          ∧ r.2.mem ((c.tc : Thread Cert.LruKernelIdeal.nD Cert.LruKernelIdeal.τ).loc Cert.LruKernelIdeal.main_arg9) = m ((c.tc : Thread Cert.LruKernelIdeal.nD Cert.LruKernelIdeal.τ).loc Cert.LruKernelIdeal.main_arg9))
      ∧ θ_run (Cert.LruReferenceIdeal.defs (F := Ideal)) (onTc (τ := Cert.LruReferenceIdeal.τ) (Cert.LruReferenceIdeal.main (F := Ideal))) ⟨m', fun _ => 0, g'⟩ (fun r => ∀ c : Dev Cert.LruReferenceIdeal.nD,
          r.2.mem ((c.tc : Thread Cert.LruReferenceIdeal.nD Cert.LruReferenceIdeal.τ).loc Cert.LruReferenceIdeal.main_v104) = v0 c
          ∧ r.2.mem ((c.tc : Thread Cert.LruReferenceIdeal.nD Cert.LruReferenceIdeal.τ).loc Cert.LruReferenceIdeal.main_v105) = v1 c
          ∧ r.2.mem ((c.tc : Thread Cert.LruReferenceIdeal.nD Cert.LruReferenceIdeal.τ).loc Cert.LruReferenceIdeal.main_v108) = v2 c
          ∧ r.2.mem ((c.tc : Thread Cert.LruReferenceIdeal.nD Cert.LruReferenceIdeal.τ).loc Cert.LruReferenceIdeal.main_arg0) = m' ((c.tc : Thread Cert.LruReferenceIdeal.nD Cert.LruReferenceIdeal.τ).loc Cert.LruReferenceIdeal.main_arg0)
          ∧ r.2.mem ((c.tc : Thread Cert.LruReferenceIdeal.nD Cert.LruReferenceIdeal.τ).loc Cert.LruReferenceIdeal.main_arg1) = m' ((c.tc : Thread Cert.LruReferenceIdeal.nD Cert.LruReferenceIdeal.τ).loc Cert.LruReferenceIdeal.main_arg1)
          ∧ r.2.mem ((c.tc : Thread Cert.LruReferenceIdeal.nD Cert.LruReferenceIdeal.τ).loc Cert.LruReferenceIdeal.main_arg2) = m' ((c.tc : Thread Cert.LruReferenceIdeal.nD Cert.LruReferenceIdeal.τ).loc Cert.LruReferenceIdeal.main_arg2)
          ∧ r.2.mem ((c.tc : Thread Cert.LruReferenceIdeal.nD Cert.LruReferenceIdeal.τ).loc Cert.LruReferenceIdeal.main_arg3) = m' ((c.tc : Thread Cert.LruReferenceIdeal.nD Cert.LruReferenceIdeal.τ).loc Cert.LruReferenceIdeal.main_arg3)
          ∧ r.2.mem ((c.tc : Thread Cert.LruReferenceIdeal.nD Cert.LruReferenceIdeal.τ).loc Cert.LruReferenceIdeal.main_arg4) = m' ((c.tc : Thread Cert.LruReferenceIdeal.nD Cert.LruReferenceIdeal.τ).loc Cert.LruReferenceIdeal.main_arg4)
          ∧ r.2.mem ((c.tc : Thread Cert.LruReferenceIdeal.nD Cert.LruReferenceIdeal.τ).loc Cert.LruReferenceIdeal.main_arg5) = m' ((c.tc : Thread Cert.LruReferenceIdeal.nD Cert.LruReferenceIdeal.τ).loc Cert.LruReferenceIdeal.main_arg5)
          ∧ r.2.mem ((c.tc : Thread Cert.LruReferenceIdeal.nD Cert.LruReferenceIdeal.τ).loc Cert.LruReferenceIdeal.main_arg6) = m' ((c.tc : Thread Cert.LruReferenceIdeal.nD Cert.LruReferenceIdeal.τ).loc Cert.LruReferenceIdeal.main_arg6)
          ∧ r.2.mem ((c.tc : Thread Cert.LruReferenceIdeal.nD Cert.LruReferenceIdeal.τ).loc Cert.LruReferenceIdeal.main_arg7) = m' ((c.tc : Thread Cert.LruReferenceIdeal.nD Cert.LruReferenceIdeal.τ).loc Cert.LruReferenceIdeal.main_arg7)
          ∧ r.2.mem ((c.tc : Thread Cert.LruReferenceIdeal.nD Cert.LruReferenceIdeal.τ).loc Cert.LruReferenceIdeal.main_arg8) = m' ((c.tc : Thread Cert.LruReferenceIdeal.nD Cert.LruReferenceIdeal.τ).loc Cert.LruReferenceIdeal.main_arg8)
          ∧ r.2.mem ((c.tc : Thread Cert.LruReferenceIdeal.nD Cert.LruReferenceIdeal.τ).loc Cert.LruReferenceIdeal.main_arg9) = m' ((c.tc : Thread Cert.LruReferenceIdeal.nD Cert.LruReferenceIdeal.τ).loc Cert.LruReferenceIdeal.main_arg9))

def preserves_SwaKernel_SwaKernelIdeal : Prop :=
  True

def algebraic_SwaKernelIdeal_SwaReferenceIdeal [hSwaKernelIdeal : Cert.SwaKernelIdeal.Facts] [hSwaReferenceIdeal : Cert.SwaReferenceIdeal.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg)
    (m' : (ℓ : Loc Cert.SwaReferenceIdeal.nD Cert.SwaReferenceIdeal.τ Cert.SwaReferenceIdeal.sig) → Buf (Elt Ideal) ℓ) (g' : Dev Cert.SwaReferenceIdeal.nD → PrngReg), Pre_SwaKernelIdeal m →
    (∀ c : Dev Cert.SwaKernelIdeal.nD,
      m' ((c.tc : Thread Cert.SwaReferenceIdeal.nD Cert.SwaReferenceIdeal.τ).loc Cert.SwaReferenceIdeal.main_arg0) = m ((c.tc : Thread Cert.SwaKernelIdeal.nD Cert.SwaKernelIdeal.τ).loc Cert.SwaKernelIdeal.main_arg0)
      ∧ m' ((c.tc : Thread Cert.SwaReferenceIdeal.nD Cert.SwaReferenceIdeal.τ).loc Cert.SwaReferenceIdeal.main_arg1) = m ((c.tc : Thread Cert.SwaKernelIdeal.nD Cert.SwaKernelIdeal.τ).loc Cert.SwaKernelIdeal.main_arg1)
      ∧ m' ((c.tc : Thread Cert.SwaReferenceIdeal.nD Cert.SwaReferenceIdeal.τ).loc Cert.SwaReferenceIdeal.main_arg2) = m ((c.tc : Thread Cert.SwaKernelIdeal.nD Cert.SwaKernelIdeal.τ).loc Cert.SwaKernelIdeal.main_arg2)
      ∧ m' ((c.tc : Thread Cert.SwaReferenceIdeal.nD Cert.SwaReferenceIdeal.τ).loc Cert.SwaReferenceIdeal.main_arg3) = m ((c.tc : Thread Cert.SwaKernelIdeal.nD Cert.SwaKernelIdeal.τ).loc Cert.SwaKernelIdeal.main_arg3)) →
    ∃ (v0 : (c : Dev Cert.SwaKernelIdeal.nD) → Buf (Elt Ideal) ((c.tc : Thread Cert.SwaKernelIdeal.nD Cert.SwaKernelIdeal.τ).loc Cert.SwaKernelIdeal.main_v77_0)) (v1 : (c : Dev Cert.SwaKernelIdeal.nD) → Buf (Elt Ideal) ((c.tc : Thread Cert.SwaKernelIdeal.nD Cert.SwaKernelIdeal.τ).loc Cert.SwaKernelIdeal.main_v77_1)) (v2 : (c : Dev Cert.SwaKernelIdeal.nD) → Buf (Elt Ideal) ((c.tc : Thread Cert.SwaKernelIdeal.nD Cert.SwaKernelIdeal.τ).loc Cert.SwaKernelIdeal.main_v77_2)),
      θ_run (Cert.SwaKernelIdeal.defs (F := Ideal)) (onTc (τ := Cert.SwaKernelIdeal.τ) (Cert.SwaKernelIdeal.main (F := Ideal))) ⟨m, fun _ => 0, g⟩ (fun r => ∀ c : Dev Cert.SwaKernelIdeal.nD,
          r.2.mem ((c.tc : Thread Cert.SwaKernelIdeal.nD Cert.SwaKernelIdeal.τ).loc Cert.SwaKernelIdeal.main_v77_0) = v0 c
          ∧ r.2.mem ((c.tc : Thread Cert.SwaKernelIdeal.nD Cert.SwaKernelIdeal.τ).loc Cert.SwaKernelIdeal.main_v77_1) = v1 c
          ∧ r.2.mem ((c.tc : Thread Cert.SwaKernelIdeal.nD Cert.SwaKernelIdeal.τ).loc Cert.SwaKernelIdeal.main_v77_2) = v2 c
          ∧ r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
          ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
          ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2)
          ∧ r.2.mem ((c.tc : Thread Cert.SwaKernelIdeal.nD Cert.SwaKernelIdeal.τ).loc Cert.SwaKernelIdeal.main_arg3) = m ((c.tc : Thread Cert.SwaKernelIdeal.nD Cert.SwaKernelIdeal.τ).loc Cert.SwaKernelIdeal.main_arg3))
      ∧ θ_run (Cert.SwaReferenceIdeal.defs (F := Ideal)) (onTc (τ := Cert.SwaReferenceIdeal.τ) (Cert.SwaReferenceIdeal.main (F := Ideal))) ⟨m', fun _ => 0, g'⟩ (fun r => ∀ c : Dev Cert.SwaReferenceIdeal.nD,
          r.2.mem ((c.tc : Thread Cert.SwaReferenceIdeal.nD Cert.SwaReferenceIdeal.τ).loc Cert.SwaReferenceIdeal.main_v127) = v0 c
          ∧ r.2.mem ((c.tc : Thread Cert.SwaReferenceIdeal.nD Cert.SwaReferenceIdeal.τ).loc Cert.SwaReferenceIdeal.main_v129) = v1 c
          ∧ r.2.mem ((c.tc : Thread Cert.SwaReferenceIdeal.nD Cert.SwaReferenceIdeal.τ).loc Cert.SwaReferenceIdeal.main_v131) = v2 c
          ∧ r.2.mem ((c.tc : Thread Cert.SwaReferenceIdeal.nD Cert.SwaReferenceIdeal.τ).loc Cert.SwaReferenceIdeal.main_arg0) = m' ((c.tc : Thread Cert.SwaReferenceIdeal.nD Cert.SwaReferenceIdeal.τ).loc Cert.SwaReferenceIdeal.main_arg0)
          ∧ r.2.mem ((c.tc : Thread Cert.SwaReferenceIdeal.nD Cert.SwaReferenceIdeal.τ).loc Cert.SwaReferenceIdeal.main_arg1) = m' ((c.tc : Thread Cert.SwaReferenceIdeal.nD Cert.SwaReferenceIdeal.τ).loc Cert.SwaReferenceIdeal.main_arg1)
          ∧ r.2.mem ((c.tc : Thread Cert.SwaReferenceIdeal.nD Cert.SwaReferenceIdeal.τ).loc Cert.SwaReferenceIdeal.main_arg2) = m' ((c.tc : Thread Cert.SwaReferenceIdeal.nD Cert.SwaReferenceIdeal.τ).loc Cert.SwaReferenceIdeal.main_arg2)
          ∧ r.2.mem ((c.tc : Thread Cert.SwaReferenceIdeal.nD Cert.SwaReferenceIdeal.τ).loc Cert.SwaReferenceIdeal.main_arg3) = m' ((c.tc : Thread Cert.SwaReferenceIdeal.nD Cert.SwaReferenceIdeal.τ).loc Cert.SwaReferenceIdeal.main_arg3))

def preserves_Mlp0Kernel_Mlp0KernelIdeal : Prop :=
  True

def algebraic_Mlp0KernelIdeal_Mlp0ReferenceIdeal [hMlp0KernelIdeal : Cert.Mlp0KernelIdeal.Facts] [hMlp0ReferenceIdeal : Cert.Mlp0ReferenceIdeal.Facts] : Prop :=
  ∀ (m : (ℓ : Loc Cert.Mlp0KernelIdeal.nD Cert.Mlp0KernelIdeal.τ Cert.Mlp0KernelIdeal.sig) → Buf (Elt Ideal) ℓ) (g : Dev Cert.Mlp0KernelIdeal.nD → PrngReg)
    (m' : (ℓ : Loc Cert.Mlp0ReferenceIdeal.nD Cert.Mlp0ReferenceIdeal.τ Cert.Mlp0ReferenceIdeal.sig) → Buf (Elt Ideal) ℓ) (g' : Dev Cert.Mlp0ReferenceIdeal.nD → PrngReg), Pre_Mlp0KernelIdeal m →
    (∀ c : Dev Cert.Mlp0KernelIdeal.nD,
      m' ((c.tc : Thread Cert.Mlp0ReferenceIdeal.nD Cert.Mlp0ReferenceIdeal.τ).loc Cert.Mlp0ReferenceIdeal.main_arg0) = m ((c.tc : Thread Cert.Mlp0KernelIdeal.nD Cert.Mlp0KernelIdeal.τ).loc Cert.Mlp0KernelIdeal.main_arg0)
      ∧ m' ((c.tc : Thread Cert.Mlp0ReferenceIdeal.nD Cert.Mlp0ReferenceIdeal.τ).loc Cert.Mlp0ReferenceIdeal.main_arg1) = m ((c.tc : Thread Cert.Mlp0KernelIdeal.nD Cert.Mlp0KernelIdeal.τ).loc Cert.Mlp0KernelIdeal.main_arg1)
      ∧ m' ((c.tc : Thread Cert.Mlp0ReferenceIdeal.nD Cert.Mlp0ReferenceIdeal.τ).loc Cert.Mlp0ReferenceIdeal.main_arg2) = m ((c.tc : Thread Cert.Mlp0KernelIdeal.nD Cert.Mlp0KernelIdeal.τ).loc Cert.Mlp0KernelIdeal.main_arg2)
      ∧ m' ((c.tc : Thread Cert.Mlp0ReferenceIdeal.nD Cert.Mlp0ReferenceIdeal.τ).loc Cert.Mlp0ReferenceIdeal.main_arg3) = m ((c.tc : Thread Cert.Mlp0KernelIdeal.nD Cert.Mlp0KernelIdeal.τ).loc Cert.Mlp0KernelIdeal.main_arg3)
      ∧ m' ((c.tc : Thread Cert.Mlp0ReferenceIdeal.nD Cert.Mlp0ReferenceIdeal.τ).loc Cert.Mlp0ReferenceIdeal.main_arg4) = m ((c.tc : Thread Cert.Mlp0KernelIdeal.nD Cert.Mlp0KernelIdeal.τ).loc Cert.Mlp0KernelIdeal.main_arg4)) →
    ∃ (v0 : (c : Dev Cert.Mlp0KernelIdeal.nD) → Buf (Elt Ideal) ((c.tc : Thread Cert.Mlp0KernelIdeal.nD Cert.Mlp0KernelIdeal.τ).loc Cert.Mlp0KernelIdeal.main_v4)),
      θ_run (Cert.Mlp0KernelIdeal.defs (F := Ideal)) (onTc (τ := Cert.Mlp0KernelIdeal.τ) (Cert.Mlp0KernelIdeal.main (F := Ideal))) ⟨m, fun _ => 0, g⟩ (fun r => ∀ c : Dev Cert.Mlp0KernelIdeal.nD,
          r.2.mem ((c.tc : Thread Cert.Mlp0KernelIdeal.nD Cert.Mlp0KernelIdeal.τ).loc Cert.Mlp0KernelIdeal.main_v4) = v0 c
          ∧ r.2.mem ((c.tc : Thread Cert.Mlp0KernelIdeal.nD Cert.Mlp0KernelIdeal.τ).loc Cert.Mlp0KernelIdeal.main_arg0) = m ((c.tc : Thread Cert.Mlp0KernelIdeal.nD Cert.Mlp0KernelIdeal.τ).loc Cert.Mlp0KernelIdeal.main_arg0)
          ∧ r.2.mem ((c.tc : Thread Cert.Mlp0KernelIdeal.nD Cert.Mlp0KernelIdeal.τ).loc Cert.Mlp0KernelIdeal.main_arg1) = m ((c.tc : Thread Cert.Mlp0KernelIdeal.nD Cert.Mlp0KernelIdeal.τ).loc Cert.Mlp0KernelIdeal.main_arg1)
          ∧ r.2.mem ((c.tc : Thread Cert.Mlp0KernelIdeal.nD Cert.Mlp0KernelIdeal.τ).loc Cert.Mlp0KernelIdeal.main_arg2) = m ((c.tc : Thread Cert.Mlp0KernelIdeal.nD Cert.Mlp0KernelIdeal.τ).loc Cert.Mlp0KernelIdeal.main_arg2)
          ∧ r.2.mem ((c.tc : Thread Cert.Mlp0KernelIdeal.nD Cert.Mlp0KernelIdeal.τ).loc Cert.Mlp0KernelIdeal.main_arg3) = m ((c.tc : Thread Cert.Mlp0KernelIdeal.nD Cert.Mlp0KernelIdeal.τ).loc Cert.Mlp0KernelIdeal.main_arg3)
          ∧ r.2.mem ((c.tc : Thread Cert.Mlp0KernelIdeal.nD Cert.Mlp0KernelIdeal.τ).loc Cert.Mlp0KernelIdeal.main_arg4) = m ((c.tc : Thread Cert.Mlp0KernelIdeal.nD Cert.Mlp0KernelIdeal.τ).loc Cert.Mlp0KernelIdeal.main_arg4))
      ∧ θ_run (Cert.Mlp0ReferenceIdeal.defs (F := Ideal)) (onTc (τ := Cert.Mlp0ReferenceIdeal.τ) (Cert.Mlp0ReferenceIdeal.main (F := Ideal))) ⟨m', fun _ => 0, g'⟩ (fun r => ∀ c : Dev Cert.Mlp0ReferenceIdeal.nD,
          r.2.mem ((c.tc : Thread Cert.Mlp0ReferenceIdeal.nD Cert.Mlp0ReferenceIdeal.τ).loc Cert.Mlp0ReferenceIdeal.main_v34) = v0 c
          ∧ r.2.mem ((c.tc : Thread Cert.Mlp0ReferenceIdeal.nD Cert.Mlp0ReferenceIdeal.τ).loc Cert.Mlp0ReferenceIdeal.main_arg0) = m' ((c.tc : Thread Cert.Mlp0ReferenceIdeal.nD Cert.Mlp0ReferenceIdeal.τ).loc Cert.Mlp0ReferenceIdeal.main_arg0)
          ∧ r.2.mem ((c.tc : Thread Cert.Mlp0ReferenceIdeal.nD Cert.Mlp0ReferenceIdeal.τ).loc Cert.Mlp0ReferenceIdeal.main_arg1) = m' ((c.tc : Thread Cert.Mlp0ReferenceIdeal.nD Cert.Mlp0ReferenceIdeal.τ).loc Cert.Mlp0ReferenceIdeal.main_arg1)
          ∧ r.2.mem ((c.tc : Thread Cert.Mlp0ReferenceIdeal.nD Cert.Mlp0ReferenceIdeal.τ).loc Cert.Mlp0ReferenceIdeal.main_arg2) = m' ((c.tc : Thread Cert.Mlp0ReferenceIdeal.nD Cert.Mlp0ReferenceIdeal.τ).loc Cert.Mlp0ReferenceIdeal.main_arg2)
          ∧ r.2.mem ((c.tc : Thread Cert.Mlp0ReferenceIdeal.nD Cert.Mlp0ReferenceIdeal.τ).loc Cert.Mlp0ReferenceIdeal.main_arg3) = m' ((c.tc : Thread Cert.Mlp0ReferenceIdeal.nD Cert.Mlp0ReferenceIdeal.τ).loc Cert.Mlp0ReferenceIdeal.main_arg3)
          ∧ r.2.mem ((c.tc : Thread Cert.Mlp0ReferenceIdeal.nD Cert.Mlp0ReferenceIdeal.τ).loc Cert.Mlp0ReferenceIdeal.main_arg4) = m' ((c.tc : Thread Cert.Mlp0ReferenceIdeal.nD Cert.Mlp0ReferenceIdeal.τ).loc Cert.Mlp0ReferenceIdeal.main_arg4))

def preserves_Mlp1Kernel_Mlp1KernelIdeal : Prop :=
  True

def algebraic_Mlp1KernelIdeal_Mlp1ReferenceIdeal [hMlp1KernelIdeal : Cert.Mlp1KernelIdeal.Facts] [hMlp1ReferenceIdeal : Cert.Mlp1ReferenceIdeal.Facts] : Prop :=
  ∀ (m : (ℓ : Loc Cert.Mlp1KernelIdeal.nD Cert.Mlp1KernelIdeal.τ Cert.Mlp1KernelIdeal.sig) → Buf (Elt Ideal) ℓ) (g : Dev Cert.Mlp1KernelIdeal.nD → PrngReg)
    (m' : (ℓ : Loc Cert.Mlp1ReferenceIdeal.nD Cert.Mlp1ReferenceIdeal.τ Cert.Mlp1ReferenceIdeal.sig) → Buf (Elt Ideal) ℓ) (g' : Dev Cert.Mlp1ReferenceIdeal.nD → PrngReg), Pre_Mlp1KernelIdeal m →
    (∀ c : Dev Cert.Mlp1KernelIdeal.nD,
      m' ((c.tc : Thread Cert.Mlp1ReferenceIdeal.nD Cert.Mlp1ReferenceIdeal.τ).loc Cert.Mlp1ReferenceIdeal.main_arg0) = m ((c.tc : Thread Cert.Mlp1KernelIdeal.nD Cert.Mlp1KernelIdeal.τ).loc Cert.Mlp1KernelIdeal.main_arg0)
      ∧ m' ((c.tc : Thread Cert.Mlp1ReferenceIdeal.nD Cert.Mlp1ReferenceIdeal.τ).loc Cert.Mlp1ReferenceIdeal.main_arg1) = m ((c.tc : Thread Cert.Mlp1KernelIdeal.nD Cert.Mlp1KernelIdeal.τ).loc Cert.Mlp1KernelIdeal.main_arg1)
      ∧ m' ((c.tc : Thread Cert.Mlp1ReferenceIdeal.nD Cert.Mlp1ReferenceIdeal.τ).loc Cert.Mlp1ReferenceIdeal.main_arg2) = m ((c.tc : Thread Cert.Mlp1KernelIdeal.nD Cert.Mlp1KernelIdeal.τ).loc Cert.Mlp1KernelIdeal.main_arg2)
      ∧ m' ((c.tc : Thread Cert.Mlp1ReferenceIdeal.nD Cert.Mlp1ReferenceIdeal.τ).loc Cert.Mlp1ReferenceIdeal.main_arg3) = m ((c.tc : Thread Cert.Mlp1KernelIdeal.nD Cert.Mlp1KernelIdeal.τ).loc Cert.Mlp1KernelIdeal.main_arg3)
      ∧ m' ((c.tc : Thread Cert.Mlp1ReferenceIdeal.nD Cert.Mlp1ReferenceIdeal.τ).loc Cert.Mlp1ReferenceIdeal.main_arg4) = m ((c.tc : Thread Cert.Mlp1KernelIdeal.nD Cert.Mlp1KernelIdeal.τ).loc Cert.Mlp1KernelIdeal.main_arg4)) →
    ∃ (v0 : (c : Dev Cert.Mlp1KernelIdeal.nD) → Buf (Elt Ideal) ((c.tc : Thread Cert.Mlp1KernelIdeal.nD Cert.Mlp1KernelIdeal.τ).loc Cert.Mlp1KernelIdeal.main_v4)),
      θ_run (Cert.Mlp1KernelIdeal.defs (F := Ideal)) (onTc (τ := Cert.Mlp1KernelIdeal.τ) (Cert.Mlp1KernelIdeal.main (F := Ideal))) ⟨m, fun _ => 0, g⟩ (fun r => ∀ c : Dev Cert.Mlp1KernelIdeal.nD,
          r.2.mem ((c.tc : Thread Cert.Mlp1KernelIdeal.nD Cert.Mlp1KernelIdeal.τ).loc Cert.Mlp1KernelIdeal.main_v4) = v0 c
          ∧ r.2.mem ((c.tc : Thread Cert.Mlp1KernelIdeal.nD Cert.Mlp1KernelIdeal.τ).loc Cert.Mlp1KernelIdeal.main_arg0) = m ((c.tc : Thread Cert.Mlp1KernelIdeal.nD Cert.Mlp1KernelIdeal.τ).loc Cert.Mlp1KernelIdeal.main_arg0)
          ∧ r.2.mem ((c.tc : Thread Cert.Mlp1KernelIdeal.nD Cert.Mlp1KernelIdeal.τ).loc Cert.Mlp1KernelIdeal.main_arg1) = m ((c.tc : Thread Cert.Mlp1KernelIdeal.nD Cert.Mlp1KernelIdeal.τ).loc Cert.Mlp1KernelIdeal.main_arg1)
          ∧ r.2.mem ((c.tc : Thread Cert.Mlp1KernelIdeal.nD Cert.Mlp1KernelIdeal.τ).loc Cert.Mlp1KernelIdeal.main_arg2) = m ((c.tc : Thread Cert.Mlp1KernelIdeal.nD Cert.Mlp1KernelIdeal.τ).loc Cert.Mlp1KernelIdeal.main_arg2)
          ∧ r.2.mem ((c.tc : Thread Cert.Mlp1KernelIdeal.nD Cert.Mlp1KernelIdeal.τ).loc Cert.Mlp1KernelIdeal.main_arg3) = m ((c.tc : Thread Cert.Mlp1KernelIdeal.nD Cert.Mlp1KernelIdeal.τ).loc Cert.Mlp1KernelIdeal.main_arg3)
          ∧ r.2.mem ((c.tc : Thread Cert.Mlp1KernelIdeal.nD Cert.Mlp1KernelIdeal.τ).loc Cert.Mlp1KernelIdeal.main_arg4) = m ((c.tc : Thread Cert.Mlp1KernelIdeal.nD Cert.Mlp1KernelIdeal.τ).loc Cert.Mlp1KernelIdeal.main_arg4))
      ∧ θ_run (Cert.Mlp1ReferenceIdeal.defs (F := Ideal)) (onTc (τ := Cert.Mlp1ReferenceIdeal.τ) (Cert.Mlp1ReferenceIdeal.main (F := Ideal))) ⟨m', fun _ => 0, g'⟩ (fun r => ∀ c : Dev Cert.Mlp1ReferenceIdeal.nD,
          r.2.mem ((c.tc : Thread Cert.Mlp1ReferenceIdeal.nD Cert.Mlp1ReferenceIdeal.τ).loc Cert.Mlp1ReferenceIdeal.main_v34) = v0 c
          ∧ r.2.mem ((c.tc : Thread Cert.Mlp1ReferenceIdeal.nD Cert.Mlp1ReferenceIdeal.τ).loc Cert.Mlp1ReferenceIdeal.main_arg0) = m' ((c.tc : Thread Cert.Mlp1ReferenceIdeal.nD Cert.Mlp1ReferenceIdeal.τ).loc Cert.Mlp1ReferenceIdeal.main_arg0)
          ∧ r.2.mem ((c.tc : Thread Cert.Mlp1ReferenceIdeal.nD Cert.Mlp1ReferenceIdeal.τ).loc Cert.Mlp1ReferenceIdeal.main_arg1) = m' ((c.tc : Thread Cert.Mlp1ReferenceIdeal.nD Cert.Mlp1ReferenceIdeal.τ).loc Cert.Mlp1ReferenceIdeal.main_arg1)
          ∧ r.2.mem ((c.tc : Thread Cert.Mlp1ReferenceIdeal.nD Cert.Mlp1ReferenceIdeal.τ).loc Cert.Mlp1ReferenceIdeal.main_arg2) = m' ((c.tc : Thread Cert.Mlp1ReferenceIdeal.nD Cert.Mlp1ReferenceIdeal.τ).loc Cert.Mlp1ReferenceIdeal.main_arg2)
          ∧ r.2.mem ((c.tc : Thread Cert.Mlp1ReferenceIdeal.nD Cert.Mlp1ReferenceIdeal.τ).loc Cert.Mlp1ReferenceIdeal.main_arg3) = m' ((c.tc : Thread Cert.Mlp1ReferenceIdeal.nD Cert.Mlp1ReferenceIdeal.τ).loc Cert.Mlp1ReferenceIdeal.main_arg3)
          ∧ r.2.mem ((c.tc : Thread Cert.Mlp1ReferenceIdeal.nD Cert.Mlp1ReferenceIdeal.τ).loc Cert.Mlp1ReferenceIdeal.main_arg4) = m' ((c.tc : Thread Cert.Mlp1ReferenceIdeal.nD Cert.Mlp1ReferenceIdeal.τ).loc Cert.Mlp1ReferenceIdeal.main_arg4))

def preserves_Mlp2Kernel_Mlp2KernelIdeal : Prop :=
  True

def algebraic_Mlp2KernelIdeal_Mlp2ReferenceIdeal [hMlp2KernelIdeal : Cert.Mlp2KernelIdeal.Facts] [hMlp2ReferenceIdeal : Cert.Mlp2ReferenceIdeal.Facts] : Prop :=
  ∀ (m : (ℓ : Loc Cert.Mlp2KernelIdeal.nD Cert.Mlp2KernelIdeal.τ Cert.Mlp2KernelIdeal.sig) → Buf (Elt Ideal) ℓ) (g : Dev Cert.Mlp2KernelIdeal.nD → PrngReg)
    (m' : (ℓ : Loc Cert.Mlp2ReferenceIdeal.nD Cert.Mlp2ReferenceIdeal.τ Cert.Mlp2ReferenceIdeal.sig) → Buf (Elt Ideal) ℓ) (g' : Dev Cert.Mlp2ReferenceIdeal.nD → PrngReg), Pre_Mlp2KernelIdeal m →
    (∀ c : Dev Cert.Mlp2KernelIdeal.nD,
      m' ((c.tc : Thread Cert.Mlp2ReferenceIdeal.nD Cert.Mlp2ReferenceIdeal.τ).loc Cert.Mlp2ReferenceIdeal.main_arg0) = m ((c.tc : Thread Cert.Mlp2KernelIdeal.nD Cert.Mlp2KernelIdeal.τ).loc Cert.Mlp2KernelIdeal.main_arg0)
      ∧ m' ((c.tc : Thread Cert.Mlp2ReferenceIdeal.nD Cert.Mlp2ReferenceIdeal.τ).loc Cert.Mlp2ReferenceIdeal.main_arg1) = m ((c.tc : Thread Cert.Mlp2KernelIdeal.nD Cert.Mlp2KernelIdeal.τ).loc Cert.Mlp2KernelIdeal.main_arg1)
      ∧ m' ((c.tc : Thread Cert.Mlp2ReferenceIdeal.nD Cert.Mlp2ReferenceIdeal.τ).loc Cert.Mlp2ReferenceIdeal.main_arg2) = m ((c.tc : Thread Cert.Mlp2KernelIdeal.nD Cert.Mlp2KernelIdeal.τ).loc Cert.Mlp2KernelIdeal.main_arg2)
      ∧ m' ((c.tc : Thread Cert.Mlp2ReferenceIdeal.nD Cert.Mlp2ReferenceIdeal.τ).loc Cert.Mlp2ReferenceIdeal.main_arg3) = m ((c.tc : Thread Cert.Mlp2KernelIdeal.nD Cert.Mlp2KernelIdeal.τ).loc Cert.Mlp2KernelIdeal.main_arg3)
      ∧ m' ((c.tc : Thread Cert.Mlp2ReferenceIdeal.nD Cert.Mlp2ReferenceIdeal.τ).loc Cert.Mlp2ReferenceIdeal.main_arg4) = m ((c.tc : Thread Cert.Mlp2KernelIdeal.nD Cert.Mlp2KernelIdeal.τ).loc Cert.Mlp2KernelIdeal.main_arg4)) →
    ∃ (v0 : (c : Dev Cert.Mlp2KernelIdeal.nD) → Buf (Elt Ideal) ((c.tc : Thread Cert.Mlp2KernelIdeal.nD Cert.Mlp2KernelIdeal.τ).loc Cert.Mlp2KernelIdeal.main_v4)),
      θ_run (Cert.Mlp2KernelIdeal.defs (F := Ideal)) (onTc (τ := Cert.Mlp2KernelIdeal.τ) (Cert.Mlp2KernelIdeal.main (F := Ideal))) ⟨m, fun _ => 0, g⟩ (fun r => ∀ c : Dev Cert.Mlp2KernelIdeal.nD,
          r.2.mem ((c.tc : Thread Cert.Mlp2KernelIdeal.nD Cert.Mlp2KernelIdeal.τ).loc Cert.Mlp2KernelIdeal.main_v4) = v0 c
          ∧ r.2.mem ((c.tc : Thread Cert.Mlp2KernelIdeal.nD Cert.Mlp2KernelIdeal.τ).loc Cert.Mlp2KernelIdeal.main_arg0) = m ((c.tc : Thread Cert.Mlp2KernelIdeal.nD Cert.Mlp2KernelIdeal.τ).loc Cert.Mlp2KernelIdeal.main_arg0)
          ∧ r.2.mem ((c.tc : Thread Cert.Mlp2KernelIdeal.nD Cert.Mlp2KernelIdeal.τ).loc Cert.Mlp2KernelIdeal.main_arg1) = m ((c.tc : Thread Cert.Mlp2KernelIdeal.nD Cert.Mlp2KernelIdeal.τ).loc Cert.Mlp2KernelIdeal.main_arg1)
          ∧ r.2.mem ((c.tc : Thread Cert.Mlp2KernelIdeal.nD Cert.Mlp2KernelIdeal.τ).loc Cert.Mlp2KernelIdeal.main_arg2) = m ((c.tc : Thread Cert.Mlp2KernelIdeal.nD Cert.Mlp2KernelIdeal.τ).loc Cert.Mlp2KernelIdeal.main_arg2)
          ∧ r.2.mem ((c.tc : Thread Cert.Mlp2KernelIdeal.nD Cert.Mlp2KernelIdeal.τ).loc Cert.Mlp2KernelIdeal.main_arg3) = m ((c.tc : Thread Cert.Mlp2KernelIdeal.nD Cert.Mlp2KernelIdeal.τ).loc Cert.Mlp2KernelIdeal.main_arg3)
          ∧ r.2.mem ((c.tc : Thread Cert.Mlp2KernelIdeal.nD Cert.Mlp2KernelIdeal.τ).loc Cert.Mlp2KernelIdeal.main_arg4) = m ((c.tc : Thread Cert.Mlp2KernelIdeal.nD Cert.Mlp2KernelIdeal.τ).loc Cert.Mlp2KernelIdeal.main_arg4))
      ∧ θ_run (Cert.Mlp2ReferenceIdeal.defs (F := Ideal)) (onTc (τ := Cert.Mlp2ReferenceIdeal.τ) (Cert.Mlp2ReferenceIdeal.main (F := Ideal))) ⟨m', fun _ => 0, g'⟩ (fun r => ∀ c : Dev Cert.Mlp2ReferenceIdeal.nD,
          r.2.mem ((c.tc : Thread Cert.Mlp2ReferenceIdeal.nD Cert.Mlp2ReferenceIdeal.τ).loc Cert.Mlp2ReferenceIdeal.main_v34) = v0 c
          ∧ r.2.mem ((c.tc : Thread Cert.Mlp2ReferenceIdeal.nD Cert.Mlp2ReferenceIdeal.τ).loc Cert.Mlp2ReferenceIdeal.main_arg0) = m' ((c.tc : Thread Cert.Mlp2ReferenceIdeal.nD Cert.Mlp2ReferenceIdeal.τ).loc Cert.Mlp2ReferenceIdeal.main_arg0)
          ∧ r.2.mem ((c.tc : Thread Cert.Mlp2ReferenceIdeal.nD Cert.Mlp2ReferenceIdeal.τ).loc Cert.Mlp2ReferenceIdeal.main_arg1) = m' ((c.tc : Thread Cert.Mlp2ReferenceIdeal.nD Cert.Mlp2ReferenceIdeal.τ).loc Cert.Mlp2ReferenceIdeal.main_arg1)
          ∧ r.2.mem ((c.tc : Thread Cert.Mlp2ReferenceIdeal.nD Cert.Mlp2ReferenceIdeal.τ).loc Cert.Mlp2ReferenceIdeal.main_arg2) = m' ((c.tc : Thread Cert.Mlp2ReferenceIdeal.nD Cert.Mlp2ReferenceIdeal.τ).loc Cert.Mlp2ReferenceIdeal.main_arg2)
          ∧ r.2.mem ((c.tc : Thread Cert.Mlp2ReferenceIdeal.nD Cert.Mlp2ReferenceIdeal.τ).loc Cert.Mlp2ReferenceIdeal.main_arg3) = m' ((c.tc : Thread Cert.Mlp2ReferenceIdeal.nD Cert.Mlp2ReferenceIdeal.τ).loc Cert.Mlp2ReferenceIdeal.main_arg3)
          ∧ r.2.mem ((c.tc : Thread Cert.Mlp2ReferenceIdeal.nD Cert.Mlp2ReferenceIdeal.τ).loc Cert.Mlp2ReferenceIdeal.main_arg4) = m' ((c.tc : Thread Cert.Mlp2ReferenceIdeal.nD Cert.Mlp2ReferenceIdeal.τ).loc Cert.Mlp2ReferenceIdeal.main_arg4))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)) →
    ∃ (v0 : (c : Dev Cert.MlpKernelIdeal.nD) → Buf (Elt Ideal) ((c.tc : Thread Cert.MlpKernelIdeal.nD Cert.MlpKernelIdeal.τ).loc Cert.MlpKernelIdeal.main_v4)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v4) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v34) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v18) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_PlainKernel_PlainKernelIdeal : Prop :=
  True

def algebraic_PlainKernelIdeal_PlainReferenceIdeal [hPlainKernelIdeal : Cert.PlainKernelIdeal.Facts] [hPlainReferenceIdeal : Cert.PlainReferenceIdeal.Facts] : Prop :=
  ∀ (m : (ℓ : Loc Cert.PlainKernelIdeal.nD Cert.PlainKernelIdeal.τ Cert.PlainKernelIdeal.sig) → Buf (Elt Ideal) ℓ) (g : Dev Cert.PlainKernelIdeal.nD → PrngReg)
    (m' : (ℓ : Loc Cert.PlainReferenceIdeal.nD Cert.PlainReferenceIdeal.τ Cert.PlainReferenceIdeal.sig) → Buf (Elt Ideal) ℓ) (g' : Dev Cert.PlainReferenceIdeal.nD → PrngReg), Pre_PlainKernelIdeal m →
    (∀ c : Dev Cert.PlainKernelIdeal.nD,
      m' ((c.tc : Thread Cert.PlainReferenceIdeal.nD Cert.PlainReferenceIdeal.τ).loc Cert.PlainReferenceIdeal.main_arg0) = m ((c.tc : Thread Cert.PlainKernelIdeal.nD Cert.PlainKernelIdeal.τ).loc Cert.PlainKernelIdeal.main_arg0)
      ∧ m' ((c.tc : Thread Cert.PlainReferenceIdeal.nD Cert.PlainReferenceIdeal.τ).loc Cert.PlainReferenceIdeal.main_arg1) = m ((c.tc : Thread Cert.PlainKernelIdeal.nD Cert.PlainKernelIdeal.τ).loc Cert.PlainKernelIdeal.main_arg1)
      ∧ m' ((c.tc : Thread Cert.PlainReferenceIdeal.nD Cert.PlainReferenceIdeal.τ).loc Cert.PlainReferenceIdeal.main_arg2) = m ((c.tc : Thread Cert.PlainKernelIdeal.nD Cert.PlainKernelIdeal.τ).loc Cert.PlainKernelIdeal.main_arg2)
      ∧ m' ((c.tc : Thread Cert.PlainReferenceIdeal.nD Cert.PlainReferenceIdeal.τ).loc Cert.PlainReferenceIdeal.main_arg3) = m ((c.tc : Thread Cert.PlainKernelIdeal.nD Cert.PlainKernelIdeal.τ).loc Cert.PlainKernelIdeal.main_arg3)) →
    ∃ (v0 : (c : Dev Cert.PlainKernelIdeal.nD) → Buf (Elt Ideal) ((c.tc : Thread Cert.PlainKernelIdeal.nD Cert.PlainKernelIdeal.τ).loc Cert.PlainKernelIdeal.main_v2)),
      θ_run (Cert.PlainKernelIdeal.defs (F := Ideal)) (onTc (τ := Cert.PlainKernelIdeal.τ) (Cert.PlainKernelIdeal.main (F := Ideal))) ⟨m, fun _ => 0, g⟩ (fun r => ∀ c : Dev Cert.PlainKernelIdeal.nD,
          r.2.mem ((c.tc : Thread Cert.PlainKernelIdeal.nD Cert.PlainKernelIdeal.τ).loc Cert.PlainKernelIdeal.main_v2) = v0 c
          ∧ r.2.mem ((c.tc : Thread Cert.PlainKernelIdeal.nD Cert.PlainKernelIdeal.τ).loc Cert.PlainKernelIdeal.main_arg0) = m ((c.tc : Thread Cert.PlainKernelIdeal.nD Cert.PlainKernelIdeal.τ).loc Cert.PlainKernelIdeal.main_arg0)
          ∧ r.2.mem ((c.tc : Thread Cert.PlainKernelIdeal.nD Cert.PlainKernelIdeal.τ).loc Cert.PlainKernelIdeal.main_arg1) = m ((c.tc : Thread Cert.PlainKernelIdeal.nD Cert.PlainKernelIdeal.τ).loc Cert.PlainKernelIdeal.main_arg1)
          ∧ r.2.mem ((c.tc : Thread Cert.PlainKernelIdeal.nD Cert.PlainKernelIdeal.τ).loc Cert.PlainKernelIdeal.main_arg2) = m ((c.tc : Thread Cert.PlainKernelIdeal.nD Cert.PlainKernelIdeal.τ).loc Cert.PlainKernelIdeal.main_arg2)
          ∧ r.2.mem ((c.tc : Thread Cert.PlainKernelIdeal.nD Cert.PlainKernelIdeal.τ).loc Cert.PlainKernelIdeal.main_arg3) = m ((c.tc : Thread Cert.PlainKernelIdeal.nD Cert.PlainKernelIdeal.τ).loc Cert.PlainKernelIdeal.main_arg3))
      ∧ θ_run (Cert.PlainReferenceIdeal.defs (F := Ideal)) (onTc (τ := Cert.PlainReferenceIdeal.τ) (Cert.PlainReferenceIdeal.main (F := Ideal))) ⟨m', fun _ => 0, g'⟩ (fun r => ∀ c : Dev Cert.PlainReferenceIdeal.nD,
          r.2.mem ((c.tc : Thread Cert.PlainReferenceIdeal.nD Cert.PlainReferenceIdeal.τ).loc Cert.PlainReferenceIdeal.main_v15) = v0 c
          ∧ r.2.mem ((c.tc : Thread Cert.PlainReferenceIdeal.nD Cert.PlainReferenceIdeal.τ).loc Cert.PlainReferenceIdeal.main_arg0) = m' ((c.tc : Thread Cert.PlainReferenceIdeal.nD Cert.PlainReferenceIdeal.τ).loc Cert.PlainReferenceIdeal.main_arg0)
          ∧ r.2.mem ((c.tc : Thread Cert.PlainReferenceIdeal.nD Cert.PlainReferenceIdeal.τ).loc Cert.PlainReferenceIdeal.main_arg1) = m' ((c.tc : Thread Cert.PlainReferenceIdeal.nD Cert.PlainReferenceIdeal.τ).loc Cert.PlainReferenceIdeal.main_arg1)
          ∧ r.2.mem ((c.tc : Thread Cert.PlainReferenceIdeal.nD Cert.PlainReferenceIdeal.τ).loc Cert.PlainReferenceIdeal.main_arg2) = m' ((c.tc : Thread Cert.PlainReferenceIdeal.nD Cert.PlainReferenceIdeal.τ).loc Cert.PlainReferenceIdeal.main_arg2)
          ∧ r.2.mem ((c.tc : Thread Cert.PlainReferenceIdeal.nD Cert.PlainReferenceIdeal.τ).loc Cert.PlainReferenceIdeal.main_arg3) = m' ((c.tc : Thread Cert.PlainReferenceIdeal.nD Cert.PlainReferenceIdeal.τ).loc Cert.PlainReferenceIdeal.main_arg3))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)
      ∧ m' ((c.tc : Thread Cert.GateReferenceIdeal.nD Cert.GateReferenceIdeal.τ).loc Cert.GateReferenceIdeal.main_arg5) = m ((c.tc : Thread Cert.GateKernelIdeal.nD Cert.GateKernelIdeal.τ).loc Cert.GateKernelIdeal.main_arg5)) →
    ∃ (v0 : (c : Dev Cert.GateKernelIdeal.nD) → Buf (Elt Ideal) ((c.tc : Thread Cert.GateKernelIdeal.nD Cert.GateKernelIdeal.τ).loc Cert.GateKernelIdeal.main_v5)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v5) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
          ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v34) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v3) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v16) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def Claim : Prop :=
  ∃ (hLruKernel : Cert.LruKernel.Facts) (hLruKernelIdeal : Cert.LruKernelIdeal.Facts) (hLruReferenceIdeal : Cert.LruReferenceIdeal.Facts) (hSwaKernel : Cert.SwaKernel.Facts) (hSwaKernelIdeal : Cert.SwaKernelIdeal.Facts) (hSwaReferenceIdeal : Cert.SwaReferenceIdeal.Facts) (hMlp0Kernel : Cert.Mlp0Kernel.Facts) (hMlp0KernelIdeal : Cert.Mlp0KernelIdeal.Facts) (hMlp0ReferenceIdeal : Cert.Mlp0ReferenceIdeal.Facts) (hMlp1Kernel : Cert.Mlp1Kernel.Facts) (hMlp1KernelIdeal : Cert.Mlp1KernelIdeal.Facts) (hMlp1ReferenceIdeal : Cert.Mlp1ReferenceIdeal.Facts) (hMlp2Kernel : Cert.Mlp2Kernel.Facts) (hMlp2KernelIdeal : Cert.Mlp2KernelIdeal.Facts) (hMlp2ReferenceIdeal : Cert.Mlp2ReferenceIdeal.Facts) (hMlpKernel : Cert.MlpKernel.Facts) (hMlpKernelIdeal : Cert.MlpKernelIdeal.Facts) (hMlpReferenceIdeal : Cert.MlpReferenceIdeal.Facts) (hOutKernel : Cert.OutKernel.Facts) (hOutKernelIdeal : Cert.OutKernelIdeal.Facts) (hOutReferenceIdeal : Cert.OutReferenceIdeal.Facts) (hPlainKernel : Cert.PlainKernel.Facts) (hPlainKernelIdeal : Cert.PlainKernelIdeal.Facts) (hPlainReferenceIdeal : Cert.PlainReferenceIdeal.Facts) (hGateKernel : Cert.GateKernel.Facts) (hGateKernelIdeal : Cert.GateKernelIdeal.Facts) (hGateReferenceIdeal : Cert.GateReferenceIdeal.Facts) (hInKernel : Cert.InKernel.Facts) (hInKernelIdeal : Cert.InKernelIdeal.Facts) (hInReferenceIdeal : Cert.InReferenceIdeal.Facts),
    quiescent_LruKernel (hLruKernel := hLruKernel)
    ∧ quiescent_LruKernelIdeal (hLruKernelIdeal := hLruKernelIdeal)
    ∧ quiescent_LruReferenceIdeal (hLruReferenceIdeal := hLruReferenceIdeal)
    ∧ quiescent_SwaKernel (hSwaKernel := hSwaKernel)
    ∧ quiescent_SwaKernelIdeal (hSwaKernelIdeal := hSwaKernelIdeal)
    ∧ quiescent_SwaReferenceIdeal (hSwaReferenceIdeal := hSwaReferenceIdeal)
    ∧ quiescent_Mlp0Kernel (hMlp0Kernel := hMlp0Kernel)
    ∧ quiescent_Mlp0KernelIdeal (hMlp0KernelIdeal := hMlp0KernelIdeal)
    ∧ quiescent_Mlp0ReferenceIdeal (hMlp0ReferenceIdeal := hMlp0ReferenceIdeal)
    ∧ quiescent_Mlp1Kernel (hMlp1Kernel := hMlp1Kernel)
    ∧ quiescent_Mlp1KernelIdeal (hMlp1KernelIdeal := hMlp1KernelIdeal)
    ∧ quiescent_Mlp1ReferenceIdeal (hMlp1ReferenceIdeal := hMlp1ReferenceIdeal)
    ∧ quiescent_Mlp2Kernel (hMlp2Kernel := hMlp2Kernel)
    ∧ quiescent_Mlp2KernelIdeal (hMlp2KernelIdeal := hMlp2KernelIdeal)
    ∧ quiescent_Mlp2ReferenceIdeal (hMlp2ReferenceIdeal := hMlp2ReferenceIdeal)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_PlainKernel (hPlainKernel := hPlainKernel)
    ∧ quiescent_PlainKernelIdeal (hPlainKernelIdeal := hPlainKernelIdeal)
    ∧ quiescent_PlainReferenceIdeal (hPlainReferenceIdeal := hPlainReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ preserves_LruKernel_LruKernelIdeal
    ∧ algebraic_LruKernelIdeal_LruReferenceIdeal (hLruKernelIdeal := hLruKernelIdeal) (hLruReferenceIdeal := hLruReferenceIdeal)
    ∧ preserves_SwaKernel_SwaKernelIdeal
    ∧ algebraic_SwaKernelIdeal_SwaReferenceIdeal (hSwaKernelIdeal := hSwaKernelIdeal) (hSwaReferenceIdeal := hSwaReferenceIdeal)
    ∧ preserves_Mlp0Kernel_Mlp0KernelIdeal
    ∧ algebraic_Mlp0KernelIdeal_Mlp0ReferenceIdeal (hMlp0KernelIdeal := hMlp0KernelIdeal) (hMlp0ReferenceIdeal := hMlp0ReferenceIdeal)
    ∧ preserves_Mlp1Kernel_Mlp1KernelIdeal
    ∧ algebraic_Mlp1KernelIdeal_Mlp1ReferenceIdeal (hMlp1KernelIdeal := hMlp1KernelIdeal) (hMlp1ReferenceIdeal := hMlp1ReferenceIdeal)
    ∧ preserves_Mlp2Kernel_Mlp2KernelIdeal
    ∧ algebraic_Mlp2KernelIdeal_Mlp2ReferenceIdeal (hMlp2KernelIdeal := hMlp2KernelIdeal) (hMlp2ReferenceIdeal := hMlp2ReferenceIdeal)
    ∧ preserves_MlpKernel_MlpKernelIdeal
    ∧ algebraic_MlpKernelIdeal_MlpReferenceIdeal (hMlpKernelIdeal := hMlpKernelIdeal) (hMlpReferenceIdeal := hMlpReferenceIdeal)
    ∧ preserves_OutKernel_OutKernelIdeal
    ∧ algebraic_OutKernelIdeal_OutReferenceIdeal (hOutKernelIdeal := hOutKernelIdeal) (hOutReferenceIdeal := hOutReferenceIdeal)
    ∧ preserves_PlainKernel_PlainKernelIdeal
    ∧ algebraic_PlainKernelIdeal_PlainReferenceIdeal (hPlainKernelIdeal := hPlainKernelIdeal) (hPlainReferenceIdeal := hPlainReferenceIdeal)
    ∧ preserves_GateKernel_GateKernelIdeal
    ∧ algebraic_GateKernelIdeal_GateReferenceIdeal (hGateKernelIdeal := hGateKernelIdeal) (hGateReferenceIdeal := hGateReferenceIdeal)
    ∧ preserves_InKernel_InKernelIdeal
    ∧ algebraic_InKernelIdeal_InReferenceIdeal (hInKernelIdeal := hInKernelIdeal) (hInReferenceIdeal := hInReferenceIdeal)
-- ==== LruKernel.lean ====
abbrev S32x4x4096 : Shape := ⟨3, ![32, 4, 4096]⟩
abbrev S32x3x2048 : Shape := ⟨3, ![32, 3, 2048]⟩
abbrev S32x2048 : Shape := ⟨2, ![32, 2048]⟩
abbrev S4x2048 : Shape := ⟨2, ![4, 2048]⟩
abbrev S2048 : Shape := ⟨1, ![2048]⟩
abbrev S8x256x256 : Shape := ⟨3, ![8, 256, 256]⟩
abbrev S4x32x4096 : Shape := ⟨3, ![4, 32, 4096]⟩
abbrev S128x4096 : Shape := ⟨2, ![128, 4096]⟩
abbrev S3x32x2048 : Shape := ⟨3, ![3, 32, 2048]⟩
abbrev S1x96x2048 : Shape := ⟨3, ![1, 96, 2048]⟩
abbrev S1x32x2048 : Shape := ⟨3, ![1, 32, 2048]⟩
abbrev S1x2048 : Shape := ⟨2, ![1, 2048]⟩
abbrev S128x2048 : Shape := ⟨2, ![128, 2048]⟩
abbrev S224x2048 : Shape := ⟨2, ![224, 2048]⟩
abbrev S96x2048 : Shape := ⟨2, ![96, 2048]⟩
abbrev S128x256 : Shape := ⟨2, ![128, 256]⟩
abbrev S1x256x256 : Shape := ⟨3, ![1, 256, 256]⟩
abbrev S256x256 : Shape := ⟨2, ![256, 256]⟩

abbrev nBuf : Space → Nat
  | .hbm => 24
  | .vmem => 18
  | .smem => 0
  | _ => 0

abbrev bufTy : (tb : Table) → Fin (tcTables nBuf tb) → BufTy
  | .hbm, ⟨0, _⟩ => ⟨S32x4x4096, .f32⟩
  | .hbm, ⟨1, _⟩ => ⟨S32x3x2048, .f32⟩
  | .hbm, ⟨2, _⟩ => ⟨S32x2048, .f32⟩
  | .hbm, ⟨3, _⟩ => ⟨S4x2048, .f32⟩
  | .hbm, ⟨4, _⟩ => ⟨S2048, .f32⟩
  | .hbm, ⟨5, _⟩ => ⟨S8x256x256, .f32⟩
  | .hbm, ⟨6, _⟩ => ⟨S2048, .f32⟩
  | .hbm, ⟨7, _⟩ => ⟨S8x256x256, .f32⟩
  | .hbm, ⟨8, _⟩ => ⟨S2048, .f32⟩
  | .hbm, ⟨9, _⟩ => ⟨S2048, .f32⟩
  | .hbm, ⟨10, _⟩ => ⟨S4x32x4096, .f32⟩
  | .hbm, ⟨11, _⟩ => ⟨S128x4096, .f32⟩
  | .hbm, ⟨12, _⟩ => ⟨S3x32x2048, .f32⟩
  | .hbm, ⟨13, _⟩ => ⟨S1x96x2048, .f32⟩
  | .hbm, ⟨14, _⟩ => ⟨S1x32x2048, .f32⟩
  | .hbm, ⟨15, _⟩ => ⟨S8x256x256, .bf16⟩
  | .hbm, ⟨16, _⟩ => ⟨S8x256x256, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S128x2048, .bf16⟩
  | .hbm, ⟨22, _⟩ => ⟨S1x32x2048, .f32⟩
  | .hbm, ⟨23, _⟩ => ⟨S1x96x2048, .f32⟩
  | .local _ .vmem, ⟨0, _⟩ => ⟨S128x2048, .f32⟩
  | .local _ .vmem, ⟨1, _⟩ => ⟨S128x2048, .f32⟩
  | .local _ .vmem, ⟨2, _⟩ => ⟨S1x96x2048, .f32⟩
  | .local _ .vmem, ⟨3, _⟩ => ⟨S1x32x2048, .f32⟩
  | .local _ .vmem, ⟨4, _⟩ => ⟨S4x2048, .f32⟩
  | .local _ .vmem, ⟨5, _⟩ => ⟨S1x2048, .f32⟩
  | .local _ .vmem, ⟨6, _⟩ => ⟨S8x256x256, .bf16⟩
  | .local _ .vmem, ⟨7, _⟩ => ⟨S1x2048, .f32⟩
  | .local _ .vmem, ⟨8, _⟩ => ⟨S8x256x256, .bf16⟩
  | .local _ .vmem, ⟨9, _⟩ => ⟨S1x2048, .f32⟩
  | .local _ .vmem, ⟨10, _⟩ => ⟨S1x2048, .f32⟩
  | .local _ .vmem, ⟨11, _⟩ => ⟨S128x2048, .bf16⟩
  | .local _ .vmem, ⟨12, _⟩ => ⟨S1x32x2048, .f32⟩
  | .local _ .vmem, ⟨13, _⟩ => ⟨S1x96x2048, .f32⟩
  | .local _ .vmem, ⟨14, _⟩ => ⟨S224x2048, .f32⟩
  | .local _ .vmem, ⟨15, _⟩ => ⟨S128x2048, .f32⟩
  | .local _ .vmem, ⟨16, _⟩ => ⟨S128x2048, .f32⟩
  | .local _ .vmem, ⟨17, _⟩ => ⟨S32x2048, .f32⟩
  | _, _ => ⟨S32x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨2, ![1, 1], ![false, false]⟩

def k0_mult1 : BitVec 32 :=
  let c0_i32_102 : BitVec 32 := 0#32
  let c32_i32 : BitVec 32 := 32#32
  let v167 : BitVec 32 := Scalar.muli c0_i32_102 c32_i32
  v167
def k0_off1 (c0_i32_102 : BitVec 32) : Fin 2 → Nat :=
  let c32_i32 : BitVec 32 := 32#32
  let v167 : BitVec 32 := Scalar.muli c0_i32_102 c32_i32
  let v168 : BitVec 32 := v167
  let v169 : Index := Scalar.indexCast v168
  let c0_103 : Index := 0#32
  ![v169.toNat, 0]
def k0_mult2 : BitVec 32 :=
  let c1_i32 : BitVec 32 := 1#32
  let c32_i32_106 : BitVec 32 := 32#32
  let v179 : BitVec 32 := Scalar.muli c1_i32 c32_i32_106
  v179
def k0_mult3 : BitVec 32 :=
  let c2_i32 : BitVec 32 := 2#32
  let c32_i32_110 : BitVec 32 := 32#32
  let v191 : BitVec 32 := Scalar.muli c2_i32 c32_i32_110
  v191
def k0_mult4 : BitVec 32 :=
  let c3_i32 : BitVec 32 := 3#32
  let c32_i32_114 : BitVec 32 := 32#32
  let v203 : BitVec 32 := Scalar.muli c3_i32 c32_i32_114
  v203
def k0_cond3 (i : grid0.Coords) : BitVec 1 :=
  let arg1 : BitVec 32 := BitVec.ofNat 32 (i 1).val
  let c0_i32_126 : BitVec 32 := 0#32
  let v224 : BitVec 1 := Scalar.cmpi .eq arg1 c0_i32_126
  let v225 : BitVec 32 := Scalar.extui v224
  let c0_i32_127 : BitVec 32 := 0#32
  let v226 : BitVec 1 := Scalar.cmpi .ne v225 c0_i32_127
  v226

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x96x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x32x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x96x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== LruReferenceIdeal.lean ====
abbrev S32x4x4096 : Shape := ⟨3, ![32, 4, 4096]⟩
abbrev S32x3x2048 : Shape := ⟨3, ![32, 3, 2048]⟩
abbrev S32x2048 : Shape := ⟨2, ![32, 2048]⟩
abbrev S4x2048 : Shape := ⟨2, ![4, 2048]⟩
abbrev S2048 : Shape := ⟨1, ![2048]⟩
abbrev S8x256x256 : Shape := ⟨3, ![8, 256, 256]⟩
abbrev S32x4x2048 : Shape := ⟨3, ![32, 4, 2048]⟩
abbrev S32x7x2048 : Shape := ⟨3, ![32, 7, 2048]⟩
abbrev S1x2048 : Shape := ⟨2, ![1, 2048]⟩
abbrev S1x1x2048 : Shape := ⟨3, ![1, 1, 2048]⟩
abbrev S32x4x8x256 : Shape := ⟨4, ![32, 4, 8, 256]⟩
abbrev S8x256x32x4 : Shape := ⟨4, ![8, 256, 32, 4]⟩
abbrev S_ : Shape := ⟨0, ![]⟩
abbrev S32x1x2048 : Shape := ⟨3, ![32, 1, 2048]⟩
abbrev S4x32x2048 : Shape := ⟨3, ![4, 32, 2048]⟩
abbrev S128x2048 : Shape := ⟨2, ![128, 2048]⟩
abbrev S1x32x2048 : Shape := ⟨3, ![1, 32, 2048]⟩
abbrev S3x32x2048 : Shape := ⟨3, ![3, 32, 2048]⟩
abbrev S1x96x2048 : Shape := ⟨3, ![1, 96, 2048]⟩

abbrev nBuf : Space → Nat
  | .hbm => 140
  | .vmem => 0
  | .smem => 0
  | _ => 0

abbrev hbmTy0_0 (i : Nat) : BufTy := match i % 128 with
  | 0 => ⟨S32x4x4096, .f32⟩
  | 1 => ⟨S32x3x2048, .f32⟩
  | 2 => ⟨S32x2048, .f32⟩
  | 3 => ⟨S4x2048, .f32⟩
  | 4 => ⟨S2048, .f32⟩
  | 5 => ⟨S8x256x256, .f32⟩
  | 6 => ⟨S2048, .f32⟩
  | 7 => ⟨S8x256x256, .f32⟩
  | 8 => ⟨S2048, .f32⟩
  | 9 => ⟨S2048, .f32⟩
  | 10 => ⟨S32x4x2048, .f32⟩
  | 11 => ⟨S32x4x2048, .f32⟩
  | 12 => ⟨S32x7x2048, .f32⟩
  | 13 => ⟨S32x4x2048, .f32⟩
  | 14 => ⟨S1x2048, .f32⟩
  | 15 => ⟨S2048, .f32⟩
  | 16 => ⟨S1x1x2048, .f32⟩
  | 17 => ⟨S32x4x2048, .f32⟩
  | 18 => ⟨S32x4x2048, .f32⟩
  | 19 => ⟨S1x1x2048, .f32⟩
  | 20 => ⟨S32x4x2048, .f32⟩
  | 21 => ⟨S32x4x2048, .f32⟩
  | 22 => ⟨S32x4x2048, .f32⟩
  | 23 => ⟨S1x2048, .f32⟩
  | 24 => ⟨S2048, .f32⟩
  | 25 => ⟨S1x1x2048, .f32⟩
  | 26 => ⟨S32x4x2048, .f32⟩
  | 27 => ⟨S32x4x2048, .f32⟩
  | 28 => ⟨S32x4x2048, .f32⟩
  | 29 => ⟨S32x4x2048, .f32⟩
  | 30 => ⟨S1x2048, .f32⟩
  | 31 => ⟨S2048, .f32⟩
  | 32 => ⟨S1x1x2048, .f32⟩
  | 33 => ⟨S32x4x2048, .f32⟩
  | 34 => ⟨S32x4x2048, .f32⟩
  | 35 => ⟨S32x4x2048, .f32⟩
  | 36 => ⟨S32x4x2048, .f32⟩
  | 37 => ⟨S1x2048, .f32⟩
  | 38 => ⟨S2048, .f32⟩
  | 39 => ⟨S1x1x2048, .f32⟩
  | 40 => ⟨S32x4x2048, .f32⟩
  | 41 => ⟨S32x4x2048, .f32⟩
  | 42 => ⟨S32x4x2048, .f32⟩
  | 43 => ⟨S32x4x8x256, .f32⟩
  | 44 => ⟨S8x256x32x4, .f32⟩
  | 45 => ⟨S32x4x8x256, .f32⟩
  | 46 => ⟨S32x4x2048, .f32⟩
  | 47 => ⟨S1x1x2048, .f32⟩
  | 48 => ⟨S32x4x2048, .f32⟩
  | 49 => ⟨S32x4x2048, .f32⟩
  | 50 => ⟨S32x4x2048, .f32⟩
  | 51 => ⟨S32x4x2048, .f32⟩
  | 52 => ⟨S_, .f32⟩
  | 53 => ⟨S32x4x2048, .f32⟩
  | 54 => ⟨S32x4x2048, .f32⟩
  | 55 => ⟨S_, .f32⟩
  | 56 => ⟨S32x4x2048, .f32⟩
  | 57 => ⟨S32x4x2048, .f32⟩
  | 58 => ⟨S8x256x32x4, .f32⟩
  | 59 => ⟨S32x4x8x256, .f32⟩
  | 60 => ⟨S32x4x2048, .f32⟩
  | 61 => ⟨S1x1x2048, .f32⟩
  | 62 => ⟨S32x4x2048, .f32⟩
  | 63 => ⟨S32x4x2048, .f32⟩
  | 64 => ⟨S32x4x2048, .f32⟩
  | 65 => ⟨S32x4x2048, .f32⟩
  | 66 => ⟨S_, .f32⟩
  | 67 => ⟨S32x4x2048, .f32⟩
  | 68 => ⟨S32x4x2048, .f32⟩
  | 69 => ⟨S_, .f32⟩
  | 70 => ⟨S32x4x2048, .f32⟩
  | 71 => ⟨S32x4x2048, .f32⟩
  | 72 => ⟨S_, .f32⟩
  | 73 => ⟨S32x4x2048, .f32⟩
  | 74 => ⟨S32x4x2048, .f32⟩
  | 75 => ⟨S2048, .f32⟩
  | 76 => ⟨S_, .f32⟩
  | 77 => ⟨S2048, .f32⟩
  | 78 => ⟨S2048, .f32⟩
  | 79 => ⟨S2048, .f32⟩
  | 80 => ⟨S2048, .f32⟩
  | 81 => ⟨S2048, .i1⟩
  | 82 => ⟨S2048, .f32⟩
  | 83 => ⟨S2048, .f32⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S1x1x2048, .f32⟩
  | 92 => ⟨S32x4x2048, .f32⟩
  | 93 => ⟨S32x4x2048, .f32⟩
  | 94 => ⟨S32x4x2048, .f32⟩
  | 95 => ⟨S_, .f32⟩
  | 96 => ⟨S32x4x2048, .f32⟩
  | 97 => ⟨S32x4x2048, .f32⟩
  | 98 => ⟨S32x4x2048, .f32⟩
  | 99 => ⟨S32x4x2048, .f32⟩
  | 100 => ⟨S32x4x2048, .f32⟩
  | 101 => ⟨S32x4x2048, .f32⟩
  | 102 => ⟨S32x4x2048, .f32⟩
  | 103 => ⟨S32x1x2048, .f32⟩
  | 104 => ⟨S32x2048, .f32⟩
  | 105 => ⟨S32x2048, .f32⟩
  | 106 => ⟨S32x1x2048, .f32⟩
  | 107 => ⟨S32x2048, .f32⟩
  | 108 => ⟨S32x2048, .f32⟩
  | 109 => ⟨S32x1x2048, .f32⟩
  | 110 => ⟨S32x2048, .f32⟩
  | 111 => ⟨S32x2048, .f32⟩
  | 112 => ⟨S32x1x2048, .f32⟩
  | 113 => ⟨S32x2048, .f32⟩
  | 114 => ⟨S32x2048, .f32⟩
  | 115 => ⟨S32x1x2048, .f32⟩
  | 116 => ⟨S32x2048, .f32⟩
  | 117 => ⟨S32x2048, .f32⟩
  | 118 => ⟨S32x1x2048, .f32⟩
  | 119 => ⟨S32x2048, .f32⟩
  | 120 => ⟨S32x2048, .f32⟩
  | 121 => ⟨S32x1x2048, .f32⟩
  | 122 => ⟨S32x2048, .f32⟩
  | 123 => ⟨S32x2048, .f32⟩
  | 124 => ⟨S32x1x2048, .f32⟩
  | 125 => ⟨S32x2048, .f32⟩
  | 126 => ⟨S32x2048, .f32⟩
  | 127 => ⟨S32x1x2048, .f32⟩
  | _ => ⟨S32x4x4096, .f32⟩

abbrev hbmTy0_1 (i : Nat) : BufTy := match i % 128 with
  | 0 => ⟨S32x1x2048, .f32⟩
  | 1 => ⟨S32x1x2048, .f32⟩
  | 2 => ⟨S32x1x2048, .f32⟩
  | 3 => ⟨S32x4x2048, .f32⟩
  | 4 => ⟨S32x4x2048, .f32⟩
  | 5 => ⟨S4x32x2048, .f32⟩
  | 6 => ⟨S128x2048, .f32⟩
  | 7 => ⟨S128x2048, .bf16⟩
  | 8 => ⟨S1x32x2048, .f32⟩
  | 9 => ⟨S32x3x2048, .f32⟩
  | 10 => ⟨S3x32x2048, .f32⟩
  | 11 => ⟨S1x96x2048, .f32⟩
  | _ => ⟨S32x4x4096, .f32⟩

abbrev hbmTy (i : Nat) : BufTy := match i / 128 with
  | 0 => hbmTy0_0 i
  | 1 => hbmTy0_1 i
  | _ => ⟨S32x4x4096, .f32⟩

abbrev bufTy : (tb : Table) → Fin (tcTables nBuf tb) → BufTy
  | .hbm, ⟨i, _⟩ => hbmTy i
  | _, _ => ⟨S32x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_v42 : Ref sig .tc := ⟨.hbm, 53, rfl⟩
abbrev main_v43 : Ref sig .tc := ⟨.hbm, 54, rfl⟩
abbrev main_cst_0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_call0_v0 : Ref sig .tc := ⟨.hbm, 75, rfl⟩
abbrev main_call0_call0_cst : Ref sig .tc := ⟨.hbm, 76, rfl⟩
abbrev main_call0_call0_v0 : Ref sig .tc := ⟨.hbm, 77, rfl⟩
abbrev main_call0_call0_v1 : Ref sig .tc := ⟨.hbm, 78, rfl⟩
abbrev main_call0_call0_v2 : Ref sig .tc := ⟨.hbm, 79, rfl⟩
abbrev main_call0_call0_v3 : Ref sig .tc := ⟨.hbm, 80, rfl⟩
abbrev main_call0_call0_v4 : Ref sig .tc := ⟨.hbm, 81, rfl⟩
abbrev main_call0_call0_v5 : Ref sig .tc := ⟨.hbm, 82, rfl⟩
abbrev main_call0_call0_v6 : Ref sig .tc := ⟨.hbm, 83, rfl⟩
abbrev main_call0_call0_v7 : Ref sig .tc := ⟨.hbm, 84, rfl⟩
abbrev main_call0_call0_v8 : Ref sig .tc := ⟨.hbm, 85, rfl⟩
abbrev main_call0_call0_v9 : Ref sig .tc := ⟨.hbm, 86, rfl⟩
abbrev main_call0_call0_v10 : Ref sig .tc := ⟨.hbm, 87, rfl⟩
abbrev main_call0_call0_v11 : Ref sig .tc := ⟨.hbm, 88, rfl⟩
abbrev main_call0_v1 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_4 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩

abbrev nD : Nat := 1
abbrev τ : Topo := Topo.v7x

variable {F : FTy → Type} [FloatOps F]
-- ==== SwaKernel.lean ====
abbrev S32x4x2560 : Shape := ⟨3, ![32, 4, 2560]⟩
abbrev S32x128x4x64 : Shape := ⟨4, ![32, 128, 4, 64]⟩
abbrev S32 : Shape := ⟨1, ![32]⟩
abbrev S32x4x2048 : Shape := ⟨3, ![32, 4, 2048]⟩
abbrev S32x128x64 : Shape := ⟨3, ![32, 128, 64]⟩
abbrev S32x128x256 : Shape := ⟨3, ![32, 128, 256]⟩
abbrev S4 : Shape := ⟨1, ![4]⟩
abbrev S_ : Shape := ⟨0, ![]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x48 : Shape := ⟨2, ![4, 48]⟩
abbrev S4x64 : Shape := ⟨2, ![4, 64]⟩
abbrev S1x4x1x64 : Shape := ⟨4, ![1, 4, 1, 64]⟩
abbrev S4x32x64 : Shape := ⟨3, ![4, 32, 64]⟩
abbrev S128x64 : Shape := ⟨2, ![128, 64]⟩
abbrev S1x4x2x64 : Shape := ⟨4, ![1, 4, 2, 64]⟩
abbrev S4x128 : Shape := ⟨2, ![4, 128]⟩
abbrev S1x32 : Shape := ⟨2, ![1, 32]⟩
abbrev S4x32 : Shape := ⟨2, ![4, 32]⟩
abbrev S128 : Shape := ⟨1, ![128]⟩
abbrev S128x1 : Shape := ⟨2, ![128, 1]⟩
abbrev S1x128x64 : Shape := ⟨3, ![1, 128, 64]⟩
abbrev S1x4x256 : Shape := ⟨3, ![1, 4, 256]⟩
abbrev S1x128x256 : Shape := ⟨3, ![1, 128, 256]⟩
abbrev S256x256 : Shape := ⟨2, ![256, 256]⟩
abbrev S4x256 : Shape := ⟨2, ![4, 256]⟩
abbrev S128x256 : Shape := ⟨2, ![128, 256]⟩
abbrev S128x56 : Shape := ⟨2, ![128, 56]⟩
abbrev S128x8 : Shape := ⟨2, ![128, 8]⟩

abbrev nBuf : Space → Nat
  | .hbm => 95
  | .vmem => 25
  | .smem => 0
  | _ => 0

abbrev bufTy : (tb : Table) → Fin (tcTables nBuf tb) → BufTy
  | .hbm, ⟨0, _⟩ => ⟨S32x4x2560, .f32⟩
  | .hbm, ⟨1, _⟩ => ⟨S32x128x4x64, .f32⟩
  | .hbm, ⟨2, _⟩ => ⟨S32x128x4x64, .f32⟩
  | .hbm, ⟨3, _⟩ => ⟨S32, .f32⟩
  | .hbm, ⟨4, _⟩ => ⟨S32x4x2048, .f32⟩
  | .hbm, ⟨5, _⟩ => ⟨S32x128x64, .f32⟩
  | .hbm, ⟨6, _⟩ => ⟨S32x128x256, .f32⟩
  | .hbm, ⟨7, _⟩ => ⟨S32x128x256, .f32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S4, .f32⟩
  | .hbm, ⟨21, _⟩ => ⟨S4x1, .f32⟩
  | .hbm, ⟨22, _⟩ => ⟨S1x8, .f32⟩
  | .hbm, ⟨23, _⟩ => ⟨S4x8, .f32⟩
  | .hbm, ⟨24, _⟩ => ⟨S4x8, .f32⟩
  | .hbm, ⟨25, _⟩ => ⟨S4x8, .f32⟩
  | .hbm, ⟨26, _⟩ => ⟨S4x8, .f32⟩
  | .hbm, ⟨27, _⟩ => ⟨S4x8, .f32⟩
  | .hbm, ⟨28, _⟩ => ⟨S_, .f32⟩
  | .hbm, ⟨29, _⟩ => ⟨S4x48, .f32⟩
  | .hbm, ⟨30, _⟩ => ⟨S_, .f32⟩
  | .hbm, ⟨31, _⟩ => ⟨S4x8, .f32⟩
  | .hbm, ⟨32, _⟩ => ⟨S_, .f32⟩
  | .hbm, ⟨33, _⟩ => ⟨S4x48, .f32⟩
  | .hbm, ⟨34, _⟩ => ⟨S4x64, .f32⟩
  | .hbm, ⟨35, _⟩ => ⟨S4x8, .f32⟩
  | .hbm, ⟨36, _⟩ => ⟨S4x64, .f32⟩
  | .hbm, ⟨37, _⟩ => ⟨S4x64, .f32⟩
  | .hbm, ⟨38, _⟩ => ⟨S1x4x1x64, .f32⟩
  | .hbm, ⟨39, _⟩ => ⟨S1x4x1x64, .f32⟩
  | .hbm, ⟨40, _⟩ => ⟨S4x64, .f32⟩
  | .hbm, ⟨41, _⟩ => ⟨S1x4x1x64, .f32⟩
  | .hbm, ⟨42, _⟩ => ⟨S1x4x1x64, .f32⟩
  | .hbm, ⟨43, _⟩ => ⟨S4x64, .f32⟩
  | .hbm, ⟨44, _⟩ => ⟨S1x4x1x64, .f32⟩
  | .hbm, ⟨45, _⟩ => ⟨S1x4x1x64, .f32⟩
  | .hbm, ⟨46, _⟩ => ⟨S4x64, .f32⟩
  | .hbm, ⟨47, _⟩ => ⟨S4x32x64, .f32⟩
  | .hbm, ⟨48, _⟩ => ⟨S128x64, .f32⟩
  | .hbm, ⟨49, _⟩ => ⟨S4x32x64, .f32⟩
  | .hbm, ⟨50, _⟩ => ⟨S128x64, .f32⟩
  | .hbm, ⟨51, _⟩ => ⟨S4x32x64, .f32⟩
  | .hbm, ⟨52, _⟩ => ⟨S128x64, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S4, .f32⟩
  | .hbm, ⟨62, _⟩ => ⟨S4x1, .f32⟩
  | .hbm, ⟨63, _⟩ => ⟨S1x8, .f32⟩
  | .hbm, ⟨64, _⟩ => ⟨S4x8, .f32⟩
  | .hbm, ⟨65, _⟩ => ⟨S4x8, .f32⟩
  | .hbm, ⟨66, _⟩ => ⟨S4x8, .f32⟩
  | .hbm, ⟨67, _⟩ => ⟨S4x8, .f32⟩
  | .hbm, ⟨68, _⟩ => ⟨S4x8, .f32⟩
  | .hbm, ⟨69, _⟩ => ⟨S_, .f32⟩
  | .hbm, ⟨70, _⟩ => ⟨S4x48, .f32⟩
  | .hbm, ⟨71, _⟩ => ⟨S_, .f32⟩
  | .hbm, ⟨72, _⟩ => ⟨S4x8, .f32⟩
  | .hbm, ⟨73, _⟩ => ⟨S_, .f32⟩
  | .hbm, ⟨74, _⟩ => ⟨S4x48, .f32⟩
  | .hbm, ⟨75, _⟩ => ⟨S4x64, .f32⟩
  | .hbm, ⟨76, _⟩ => ⟨S4x8, .f32⟩
  | .hbm, ⟨77, _⟩ => ⟨S4x64, .f32⟩
  | .hbm, ⟨78, _⟩ => ⟨S4x64, .f32⟩
  | .hbm, ⟨79, _⟩ => ⟨S1x4x1x64, .f32⟩
  | .hbm, ⟨80, _⟩ => ⟨S1x4x2x64, .f32⟩
  | .hbm, ⟨81, _⟩ => ⟨S4x128, .f32⟩
  | .hbm, ⟨82, _⟩ => ⟨S1x4x1x64, .f32⟩
  | .hbm, ⟨83, _⟩ => ⟨S1x4x2x64, .f32⟩
  | .hbm, ⟨84, _⟩ => ⟨S4x128, .f32⟩
  | .hbm, ⟨85, _⟩ => ⟨S1x4x1x64, .f32⟩
  | .hbm, ⟨86, _⟩ => ⟨S1x4x2x64, .f32⟩
  | .hbm, ⟨87, _⟩ => ⟨S4x128, .f32⟩
  | .hbm, ⟨88, _⟩ => ⟨S1x32, .f32⟩
  | .hbm, ⟨89, _⟩ => ⟨S4x32, .f32⟩
  | .hbm, ⟨90, _⟩ => ⟨S128, .f32⟩
  | .hbm, ⟨91, _⟩ => ⟨S128x1, .f32⟩
  | .hbm, ⟨92, _⟩ => ⟨S32x128x64, .f32⟩
  | .hbm, ⟨93, _⟩ => ⟨S32x128x256, .f32⟩
  | .hbm, ⟨94, _⟩ => ⟨S32x128x256, .f32⟩
  | .local _ .vmem, ⟨0, _⟩ => ⟨S1x128x64, .f32⟩
  | .local _ .vmem, ⟨1, _⟩ => ⟨S1x128x64, .f32⟩
  | .local _ .vmem, ⟨2, _⟩ => ⟨S1x4x256, .f32⟩
  | .local _ .vmem, ⟨3, _⟩ => ⟨S1x4x256, .f32⟩
  | .local _ .vmem, ⟨4, _⟩ => ⟨S1x4x256, .f32⟩
  | .local _ .vmem, ⟨5, _⟩ => ⟨S1x4x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S4x128, .f32⟩
  | .local _ .vmem, ⟨14, _⟩ => ⟨S4x128, .f32⟩
  | .local _ .vmem, ⟨15, _⟩ => ⟨S4x128, .f32⟩
  | .local _ .vmem, ⟨16, _⟩ => ⟨S128x1, .f32⟩
  | .local _ .vmem, ⟨17, _⟩ => ⟨S1x128x64, .f32⟩
  | .local _ .vmem, ⟨18, _⟩ => ⟨S1x128x64, .f32⟩
  | .local _ .vmem, ⟨19, _⟩ => ⟨S1x128x256, .f32⟩
  | .local _ .vmem, ⟨20, _⟩ => ⟨S1x128x256, .f32⟩
  | .local _ .vmem, ⟨21, _⟩ => ⟨S1x128x256, .f32⟩
  | .local _ .vmem, ⟨22, _⟩ => ⟨S1x128x256, .f32⟩
  | .local _ .vmem, ⟨23, _⟩ => ⟨S256x256, .f32⟩
  | .local _ .vmem, ⟨24, _⟩ => ⟨S256x256, .f32⟩
  | _, _ => ⟨S32x4x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77_0 : Ref sig .tc := ⟨.hbm, 92, rfl⟩
abbrev main_v77_1 : Ref sig .tc := ⟨.hbm, 93, rfl⟩
abbrev main_v77_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

def cc0_transform_2 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  ![arg0.toNat, c0_i32.toNat, c9_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== SwaReferenceIdeal.lean ====
abbrev S32x4x2560 : Shape := ⟨3, ![32, 4, 2560]⟩
abbrev S32x128x4x64 : Shape := ⟨4, ![32, 128, 4, 64]⟩
abbrev S32 : Shape := ⟨1, ![32]⟩
abbrev S32x4x2048 : Shape := ⟨3, ![32, 4, 2048]⟩
abbrev S32x4x32x64 : Shape := ⟨4, ![32, 4, 32, 64]⟩
abbrev S32x4x256 : Shape := ⟨3, ![32, 4, 256]⟩
abbrev S32x4x4x64 : Shape := ⟨4, ![32, 4, 4, 64]⟩
abbrev S4 : Shape := ⟨1, ![4]⟩
abbrev S_ : Shape := ⟨0, ![]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S32x4x32x16 : Shape := ⟨4, ![32, 4, 32, 16]⟩
abbrev S32x4x32x8 : Shape := ⟨4, ![32, 4, 32, 8]⟩
abbrev S1x4x1x8 : Shape := ⟨4, ![1, 4, 1, 8]⟩
abbrev S32x4x32x48 : Shape := ⟨4, ![32, 4, 32, 48]⟩
abbrev S32x4x4x16 : Shape := ⟨4, ![32, 4, 4, 16]⟩
abbrev S32x4x4x8 : Shape := ⟨4, ![32, 4, 4, 8]⟩
abbrev S32x4x4x48 : Shape := ⟨4, ![32, 4, 4, 48]⟩
abbrev S32x132x4x64 : Shape := ⟨4, ![32, 132, 4, 64]⟩
abbrev S132 : Shape := ⟨1, ![132]⟩
abbrev S32x4x4x8x64 : Shape := ⟨5, ![32, 4, 4, 8, 64]⟩
abbrev S32x4x132x4x8 : Shape := ⟨5, ![32, 4, 132, 4, 8]⟩
abbrev S32x4x8x4x132 : Shape := ⟨5, ![32, 4, 8, 4, 132]⟩
abbrev S1x132 : Shape := ⟨2, ![1, 132]⟩
abbrev S4x132 : Shape := ⟨2, ![4, 132]⟩
abbrev S1x4x8x1x1 : Shape := ⟨5, ![1, 4, 8, 1, 1]⟩
abbrev S32x4x8x4 : Shape := ⟨4, ![32, 4, 8, 4]⟩
abbrev S32x4x8x4x1 : Shape := ⟨5, ![32, 4, 8, 4, 1]⟩
abbrev S32x4x64x8x4 : Shape := ⟨5, ![32, 4, 64, 8, 4]⟩
abbrev S32x128x64 : Shape := ⟨3, ![32, 128, 64]⟩
abbrev S32x128x256 : Shape := ⟨3, ![32, 128, 256]⟩

abbrev nBuf : Space → Nat
  | .hbm => 152
  | .vmem => 0
  | .smem => 0
  | _ => 0

abbrev hbmTy0_0 (i : Nat) : BufTy := match i % 128 with
  | 0 => ⟨S32x4x2560, .f32⟩
  | 1 => ⟨S32x128x4x64, .f32⟩
  | 2 => ⟨S32x128x4x64, .f32⟩
  | 3 => ⟨S32, .f32⟩
  | 4 => ⟨S32x4x2048, .f32⟩
  | 5 => ⟨S32x4x32x64, .f32⟩
  | 6 => ⟨S32x4x256, .f32⟩
  | 7 => ⟨S32x4x4x64, .f32⟩
  | 8 => ⟨S32x4x256, .f32⟩
  | 9 => ⟨S32x4x4x64, .f32⟩
  | 10 => ⟨S4, .i32⟩
  | 11 => ⟨S_, .i32⟩
  | 12 => ⟨S4, .i32⟩
  | 13 => ⟨S4, .i32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S4, .f32⟩
  | 23 => ⟨S4x1, .f32⟩
  | 24 => ⟨S1x8, .f32⟩
  | 25 => ⟨S4x8, .f32⟩
  | 26 => ⟨S4x8, .f32⟩
  | 27 => ⟨S4x8, .f32⟩
  | 28 => ⟨S4x8, .f32⟩
  | 29 => ⟨S4x1x8, .f32⟩
  | 30 => ⟨S4x8, .f32⟩
  | 31 => ⟨S4x1x8, .f32⟩
  | 32 => ⟨S32x4x32x16, .f32⟩
  | 33 => ⟨S32x4x32x8, .f32⟩
  | 34 => ⟨S32x4x32x8, .f32⟩
  | 35 => ⟨S1x4x1x8, .f32⟩
  | 36 => ⟨S32x4x32x8, .f32⟩
  | 37 => ⟨S32x4x32x8, .f32⟩
  | 38 => ⟨S1x4x1x8, .f32⟩
  | 39 => ⟨S32x4x32x8, .f32⟩
  | 40 => ⟨S32x4x32x8, .f32⟩
  | 41 => ⟨S32x4x32x8, .f32⟩
  | 42 => ⟨S1x4x1x8, .f32⟩
  | 43 => ⟨S32x4x32x8, .f32⟩
  | 44 => ⟨S32x4x32x8, .f32⟩
  | 45 => ⟨S1x4x1x8, .f32⟩
  | 46 => ⟨S32x4x32x8, .f32⟩
  | 47 => ⟨S32x4x32x8, .f32⟩
  | 48 => ⟨S32x4x32x8, .f32⟩
  | 49 => ⟨S32x4x32x16, .f32⟩
  | 50 => ⟨S32x4x32x48, .f32⟩
  | 51 => ⟨S32x4x32x64, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S4, .f32⟩
  | 61 => ⟨S4x1, .f32⟩
  | 62 => ⟨S1x8, .f32⟩
  | 63 => ⟨S4x8, .f32⟩
  | 64 => ⟨S4x8, .f32⟩
  | 65 => ⟨S4x8, .f32⟩
  | 66 => ⟨S4x8, .f32⟩
  | 67 => ⟨S4x1x8, .f32⟩
  | 68 => ⟨S4x8, .f32⟩
  | 69 => ⟨S4x1x8, .f32⟩
  | 70 => ⟨S32x4x4x16, .f32⟩
  | 71 => ⟨S32x4x4x8, .f32⟩
  | 72 => ⟨S32x4x4x8, .f32⟩
  | 73 => ⟨S1x4x1x8, .f32⟩
  | 74 => ⟨S32x4x4x8, .f32⟩
  | 75 => ⟨S32x4x4x8, .f32⟩
  | 76 => ⟨S1x4x1x8, .f32⟩
  | 77 => ⟨S32x4x4x8, .f32⟩
  | 78 => ⟨S32x4x4x8, .f32⟩
  | 79 => ⟨S32x4x4x8, .f32⟩
  | 80 => ⟨S1x4x1x8, .f32⟩
  | 81 => ⟨S32x4x4x8, .f32⟩
  | 82 => ⟨S32x4x4x8, .f32⟩
  | 83 => ⟨S1x4x1x8, .f32⟩
  | 84 => ⟨S32x4x4x8, .f32⟩
  | 85 => ⟨S32x4x4x8, .f32⟩
  | 86 => ⟨S32x4x4x8, .f32⟩
  | 87 => ⟨S32x4x4x16, .f32⟩
  | 88 => ⟨S32x4x4x48, .f32⟩
  | 89 => ⟨S32x4x4x64, .f32⟩
  | 90 => ⟨S32x132x4x64, .f32⟩
  | 91 => ⟨S32x132x4x64, .f32⟩
  | 92 => ⟨S132, .i32⟩
  | 93 => ⟨S_, .i32⟩
  | 94 => ⟨S132, .i32⟩
  | 95 => ⟨S132, .i32⟩
  | 96 => ⟨S32x4x4x8x64, .f32⟩
  | 97 => ⟨S32x4x132x4x8, .f32⟩
  | 98 => ⟨S32x4x8x4x132, .f32⟩
  | 99 => ⟨S_, .f32⟩
  | 100 => ⟨S32x4x8x4x132, .f32⟩
  | 101 => ⟨S32x4x8x4x132, .f32⟩
  | 102 => ⟨S4x1, .i32⟩
  | 103 => ⟨S1x132, .i32⟩
  | 104 => ⟨S4x132, .i32⟩
  | 105 => ⟨S4x132, .i32⟩
  | 106 => ⟨S4x132, .i32⟩
  | 107 => ⟨S_, .i32⟩
  | 108 => ⟨S4x132, .i32⟩
  | 109 => ⟨S4x132, .i1⟩
  | 110 => ⟨S_, .i32⟩
  | 111 => ⟨S4x132, .i32⟩
  | 112 => ⟨S4x132, .i1⟩
  | 113 => ⟨S4x132, .i1⟩
  | 114 => ⟨S_, .i32⟩
  | 115 => ⟨S132, .i32⟩
  | 116 => ⟨S132, .i1⟩
  | 117 => ⟨S1x132, .i1⟩
  | 118 => ⟨S4x132, .i1⟩
  | 119 => ⟨S4x132, .i1⟩
  | 120 => ⟨S_, .f32⟩
  | 121 => ⟨S_, .f32⟩
  | 122 => ⟨S32x4x8x4x132, .i1⟩
  | 123 => ⟨S32x4x8x4x132, .f32⟩
  | 124 => ⟨S32x4x8x4x132, .f32⟩
  | 125 => ⟨S4x8, .f32⟩
  | 126 => ⟨S1x4x8x1x1, .f32⟩
  | 127 => ⟨S_, .f32⟩
  | _ => ⟨S32x4x2560, .f32⟩

abbrev hbmTy0_1 (i : Nat) : BufTy := match i % 128 with
  | 0 => ⟨S32x4x8x4, .f32⟩
  | 1 => ⟨S32x4x8x4x1, .f32⟩
  | 2 => ⟨S32x4x8x4x1, .f32⟩
  | 3 => ⟨S32x4x8x4x1, .f32⟩
  | 4 => ⟨S32x4x8x4x132, .f32⟩
  | 5 => ⟨S32x4x8x4x132, .f32⟩
  | 6 => ⟨S32x4x8x4x132, .f32⟩
  | 7 => ⟨S_, .f32⟩
  | 8 => ⟨S32x4x8x4, .f32⟩
  | 9 => ⟨S32x4x8x4x1, .f32⟩
  | 10 => ⟨S32x4x8x4x1, .f32⟩
  | 11 => ⟨S32x4x8x4x1, .f32⟩
  | 12 => ⟨S32x4x8x4x1, .f32⟩
  | 13 => ⟨S32x4x8x4x1, .f32⟩
  | 14 => ⟨S32x4x8x4x132, .f32⟩
  | 15 => ⟨S32x4x8x4x132, .f32⟩
  | 16 => ⟨S32x4x64x8x4, .f32⟩
  | 17 => ⟨S32x4x4x8x64, .f32⟩
  | 18 => ⟨S32x4x2048, .f32⟩
  | 19 => ⟨S32x128x64, .f32⟩
  | 20 => ⟨S32x128x4x64, .f32⟩
  | 21 => ⟨S32x128x256, .f32⟩
  | 22 => ⟨S32x128x4x64, .f32⟩
  | 23 => ⟨S32x128x256, .f32⟩
  | _ => ⟨S32x4x2560, .f32⟩

abbrev hbmTy (i : Nat) : BufTy := match i / 128 with
  | 0 => hbmTy0_0 i
  | 1 => hbmTy0_1 i
  | _ => ⟨S32x4x2560, .f32⟩

abbrev bufTy : (tb : Table) → Fin (tcTables nBuf tb) → BufTy
  | .hbm, ⟨i, _⟩ => hbmTy i
  | _, _ => ⟨S32x4x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_1 : Ref sig .tc := ⟨.hbm, 54, rfl⟩
abbrev main_v47 : Ref sig .tc := ⟨.hbm, 55, rfl⟩
abbrev main_v48 : Ref sig .tc := ⟨.hbm, 56, rfl⟩
abbrev main_cst_2 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_c_3 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_cst_4 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_c_5 : Ref sig .tc := ⟨.hbm, 107, rfl⟩
abbrev main_v96 : Ref sig .tc := ⟨.hbm, 108, rfl⟩
abbrev main_v97 : Ref sig .tc := ⟨.hbm, 109, rfl⟩
abbrev main_c_6 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_c_7 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_cst_8 : Ref sig .tc := ⟨.hbm, 120, rfl⟩
abbrev main_call0_v0 : Ref sig .tc := ⟨.hbm, 121, rfl⟩
abbrev main_call0_v1 : Ref sig .tc := ⟨.hbm, 122, rfl⟩
abbrev main_call0_v2 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_9 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_10 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩

abbrev nD : Nat := 1
abbrev τ : Topo := Topo.v7x

variable {F : FTy → Type} [FloatOps F]
-- ==== Mlp0Kernel.lean ====
abbrev S8320x2048 : Shape := ⟨2, ![8320, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S640x2048 : Shape := ⟨2, ![640, 2048]⟩
abbrev S1x2048x1024 : Shape := ⟨3, ![1, 2048, 1024]⟩
abbrev S1x1024x2048 : Shape := ⟨3, ![1, 1024, 2048]⟩
abbrev S640 : Shape := ⟨1, ![640]⟩
abbrev S640x1 : Shape := ⟨2, ![640, 1]⟩
abbrev S2048x1024 : Shape := ⟨2, ![2048, 1024]⟩
abbrev S640x1024 : Shape := ⟨2, ![640, 1024]⟩
abbrev S1024x2048 : Shape := ⟨2, ![1024, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S4x2048x8192, .bf16⟩
  | .hbm, ⟨6, _⟩ => ⟨S4x8192x2048, .bf16⟩
  | .hbm, ⟨7, _⟩ => ⟨S1x2048, .f32⟩
  | .hbm, ⟨8, _⟩ => ⟨S1x2048, .f32⟩
  | .hbm, ⟨9, _⟩ => ⟨S8320x2048, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S640x2048, .f32⟩
  | .local _ .vmem, ⟨9, _⟩ => ⟨S640x2048, .f32⟩
  | .local _ .vmem, ⟨10, _⟩ => ⟨S640x2048, .bf16⟩
  | .local _ .vmem, ⟨11, _⟩ => ⟨S640x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![13, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Mlp0ReferenceIdeal.lean ====
abbrev S8320x2048 : Shape := ⟨2, ![8320, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S8320x8192 : Shape := ⟨2, ![8320, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S8320x2048, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S1x2048, .f32⟩
  | .hbm, ⟨19, _⟩ => ⟨S8320x2048, .f32⟩
  | .hbm, ⟨20, _⟩ => ⟨S8320x2048, .f32⟩
  | .hbm, ⟨21, _⟩ => ⟨S1x2048x8192, .f32⟩
  | .hbm, ⟨22, _⟩ => ⟨S2048x8192, .f32⟩
  | .hbm, ⟨23, _⟩ => ⟨S1x8192x2048, .f32⟩
  | .hbm, ⟨24, _⟩ => ⟨S8192x2048, .f32⟩
  | .hbm, ⟨25, _⟩ => ⟨S8320x8192, .f32⟩
  | .hbm, ⟨26, _⟩ => ⟨S_, .f32⟩
  | .hbm, ⟨27, _⟩ => ⟨S8320x8192, .f32⟩
  | .hbm, ⟨28, _⟩ => ⟨S8320x8192, .f32⟩
  | .hbm, ⟨29, _⟩ => ⟨S8320x8192, .f32⟩
  | .hbm, ⟨30, _⟩ => ⟨S8320x2048, .f32⟩
  | .hbm, ⟨31, _⟩ => ⟨S8320x2048, .f32⟩
  | .hbm, ⟨32, _⟩ => ⟨S_, .f32⟩
  | .hbm, ⟨33, _⟩ => ⟨S8320, .f32⟩
  | .hbm, ⟨34, _⟩ => ⟨S8320x1, .f32⟩
  | .hbm, ⟨35, _⟩ => ⟨S_, .f32⟩
  | .hbm, ⟨36, _⟩ => ⟨S8320x1, .f32⟩
  | .hbm, ⟨37, _⟩ => ⟨S8320x1, .f32⟩
  | .hbm, ⟨38, _⟩ => ⟨S_, .f32⟩
  | .hbm, ⟨39, _⟩ => ⟨S8320x1, .f32⟩
  | .hbm, ⟨40, _⟩ => ⟨S8320x1, .f32⟩
  | .hbm, ⟨41, _⟩ => ⟨S8320x1, .f32⟩
  | .hbm, ⟨42, _⟩ => ⟨S8320x2048, .f32⟩
  | .hbm, ⟨43, _⟩ => ⟨S8320x2048, .f32⟩
  | .hbm, ⟨44, _⟩ => ⟨S1x2048, .f32⟩
  | .hbm, ⟨45, _⟩ => ⟨S8320x2048, .f32⟩
  | .hbm, ⟨46, _⟩ => ⟨S8320x2048, .f32⟩
  | .hbm, ⟨47, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Mlp1Kernel.lean ====
abbrev S8320x2048 : Shape := ⟨2, ![8320, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S640x2048 : Shape := ⟨2, ![640, 2048]⟩
abbrev S1x2048x1024 : Shape := ⟨3, ![1, 2048, 1024]⟩
abbrev S1x1024x2048 : Shape := ⟨3, ![1, 1024, 2048]⟩
abbrev S640 : Shape := ⟨1, ![640]⟩
abbrev S640x1 : Shape := ⟨2, ![640, 1]⟩
abbrev S2048x1024 : Shape := ⟨2, ![2048, 1024]⟩
abbrev S640x1024 : Shape := ⟨2, ![640, 1024]⟩
abbrev S1024x2048 : Shape := ⟨2, ![1024, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S4x2048x8192, .bf16⟩
  | .hbm, ⟨6, _⟩ => ⟨S4x8192x2048, .bf16⟩
  | .hbm, ⟨7, _⟩ => ⟨S1x2048, .f32⟩
  | .hbm, ⟨8, _⟩ => ⟨S1x2048, .f32⟩
  | .hbm, ⟨9, _⟩ => ⟨S8320x2048, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S640x2048, .f32⟩
  | .local _ .vmem, ⟨9, _⟩ => ⟨S640x2048, .f32⟩
  | .local _ .vmem, ⟨10, _⟩ => ⟨S640x2048, .bf16⟩
  | .local _ .vmem, ⟨11, _⟩ => ⟨S640x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![13, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Mlp1ReferenceIdeal.lean ====
abbrev S8320x2048 : Shape := ⟨2, ![8320, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S8320x8192 : Shape := ⟨2, ![8320, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S8320x2048, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S1x2048, .f32⟩
  | .hbm, ⟨19, _⟩ => ⟨S8320x2048, .f32⟩
  | .hbm, ⟨20, _⟩ => ⟨S8320x2048, .f32⟩
  | .hbm, ⟨21, _⟩ => ⟨S1x2048x8192, .f32⟩
  | .hbm, ⟨22, _⟩ => ⟨S2048x8192, .f32⟩
  | .hbm, ⟨23, _⟩ => ⟨S1x8192x2048, .f32⟩
  | .hbm, ⟨24, _⟩ => ⟨S8192x2048, .f32⟩
  | .hbm, ⟨25, _⟩ => ⟨S8320x8192, .f32⟩
  | .hbm, ⟨26, _⟩ => ⟨S_, .f32⟩
  | .hbm, ⟨27, _⟩ => ⟨S8320x8192, .f32⟩
  | .hbm, ⟨28, _⟩ => ⟨S8320x8192, .f32⟩
  | .hbm, ⟨29, _⟩ => ⟨S8320x8192, .f32⟩
  | .hbm, ⟨30, _⟩ => ⟨S8320x2048, .f32⟩
  | .hbm, ⟨31, _⟩ => ⟨S8320x2048, .f32⟩
  | .hbm, ⟨32, _⟩ => ⟨S_, .f32⟩
  | .hbm, ⟨33, _⟩ => ⟨S8320, .f32⟩
  | .hbm, ⟨34, _⟩ => ⟨S8320x1, .f32⟩
  | .hbm, ⟨35, _⟩ => ⟨S_, .f32⟩
  | .hbm, ⟨36, _⟩ => ⟨S8320x1, .f32⟩
  | .hbm, ⟨37, _⟩ => ⟨S8320x1, .f32⟩
  | .hbm, ⟨38, _⟩ => ⟨S_, .f32⟩
  | .hbm, ⟨39, _⟩ => ⟨S8320x1, .f32⟩
  | .hbm, ⟨40, _⟩ => ⟨S8320x1, .f32⟩
  | .hbm, ⟨41, _⟩ => ⟨S8320x1, .f32⟩
  | .hbm, ⟨42, _⟩ => ⟨S8320x2048, .f32⟩
  | .hbm, ⟨43, _⟩ => ⟨S8320x2048, .f32⟩
  | .hbm, ⟨44, _⟩ => ⟨S1x2048, .f32⟩
  | .hbm, ⟨45, _⟩ => ⟨S8320x2048, .f32⟩
  | .hbm, ⟨46, _⟩ => ⟨S8320x2048, .f32⟩
  | .hbm, ⟨47, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Mlp2Kernel.lean ====
abbrev S8320x2048 : Shape := ⟨2, ![8320, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S640x2048 : Shape := ⟨2, ![640, 2048]⟩
abbrev S1x2048x1024 : Shape := ⟨3, ![1, 2048, 1024]⟩
abbrev S1x1024x2048 : Shape := ⟨3, ![1, 1024, 2048]⟩
abbrev S640 : Shape := ⟨1, ![640]⟩
abbrev S640x1 : Shape := ⟨2, ![640, 1]⟩
abbrev S2048x1024 : Shape := ⟨2, ![2048, 1024]⟩
abbrev S640x1024 : Shape := ⟨2, ![640, 1024]⟩
abbrev S1024x2048 : Shape := ⟨2, ![1024, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S4x2048x8192, .bf16⟩
  | .hbm, ⟨6, _⟩ => ⟨S4x8192x2048, .bf16⟩
  | .hbm, ⟨7, _⟩ => ⟨S1x2048, .f32⟩
  | .hbm, ⟨8, _⟩ => ⟨S1x2048, .f32⟩
  | .hbm, ⟨9, _⟩ => ⟨S8320x2048, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S640x2048, .f32⟩
  | .local _ .vmem, ⟨9, _⟩ => ⟨S640x2048, .f32⟩
  | .local _ .vmem, ⟨10, _⟩ => ⟨S640x2048, .bf16⟩
  | .local _ .vmem, ⟨11, _⟩ => ⟨S640x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![13, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Mlp2ReferenceIdeal.lean ====
abbrev S8320x2048 : Shape := ⟨2, ![8320, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S8320x8192 : Shape := ⟨2, ![8320, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S8320x2048, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S1x2048, .f32⟩
  | .hbm, ⟨19, _⟩ => ⟨S8320x2048, .f32⟩
  | .hbm, ⟨20, _⟩ => ⟨S8320x2048, .f32⟩
  | .hbm, ⟨21, _⟩ => ⟨S1x2048x8192, .f32⟩
  | .hbm, ⟨22, _⟩ => ⟨S2048x8192, .f32⟩
  | .hbm, ⟨23, _⟩ => ⟨S1x8192x2048, .f32⟩
  | .hbm, ⟨24, _⟩ => ⟨S8192x2048, .f32⟩
  | .hbm, ⟨25, _⟩ => ⟨S8320x8192, .f32⟩
  | .hbm, ⟨26, _⟩ => ⟨S_, .f32⟩
  | .hbm, ⟨27, _⟩ => ⟨S8320x8192, .f32⟩
  | .hbm, ⟨28, _⟩ => ⟨S8320x8192, .f32⟩
  | .hbm, ⟨29, _⟩ => ⟨S8320x8192, .f32⟩
  | .hbm, ⟨30, _⟩ => ⟨S8320x2048, .f32⟩
  | .hbm, ⟨31, _⟩ => ⟨S8320x2048, .f32⟩
  | .hbm, ⟨32, _⟩ => ⟨S_, .f32⟩
  | .hbm, ⟨33, _⟩ => ⟨S8320, .f32⟩
  | .hbm, ⟨34, _⟩ => ⟨S8320x1, .f32⟩
  | .hbm, ⟨35, _⟩ => ⟨S_, .f32⟩
  | .hbm, ⟨36, _⟩ => ⟨S8320x1, .f32⟩
  | .hbm, ⟨37, _⟩ => ⟨S8320x1, .f32⟩
  | .hbm, ⟨38, _⟩ => ⟨S_, .f32⟩
  | .hbm, ⟨39, _⟩ => ⟨S8320x1, .f32⟩
  | .hbm, ⟨40, _⟩ => ⟨S8320x1, .f32⟩
  | .hbm, ⟨41, _⟩ => ⟨S8320x1, .f32⟩
  | .hbm, ⟨42, _⟩ => ⟨S8320x2048, .f32⟩
  | .hbm, ⟨43, _⟩ => ⟨S8320x2048, .f32⟩
  | .hbm, ⟨44, _⟩ => ⟨S1x2048, .f32⟩
  | .hbm, ⟨45, _⟩ => ⟨S8320x2048, .f32⟩
  | .hbm, ⟨46, _⟩ => ⟨S8320x2048, .f32⟩
  | .hbm, ⟨47, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== MlpKernel.lean ====
abbrev S8320x2048 : Shape := ⟨2, ![8320, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S640x2048 : Shape := ⟨2, ![640, 2048]⟩
abbrev S1x2048x1024 : Shape := ⟨3, ![1, 2048, 1024]⟩
abbrev S1x1024x2048 : Shape := ⟨3, ![1, 1024, 2048]⟩
abbrev S640 : Shape := ⟨1, ![640]⟩
abbrev S640x1 : Shape := ⟨2, ![640, 1]⟩
abbrev S2048x1024 : Shape := ⟨2, ![2048, 1024]⟩
abbrev S640x1024 : Shape := ⟨2, ![640, 1024]⟩
abbrev S1024x2048 : Shape := ⟨2, ![1024, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S4x2048x8192, .bf16⟩
  | .hbm, ⟨6, _⟩ => ⟨S4x8192x2048, .bf16⟩
  | .hbm, ⟨7, _⟩ => ⟨S1x2048, .f32⟩
  | .hbm, ⟨8, _⟩ => ⟨S1x2048, .f32⟩
  | .hbm, ⟨9, _⟩ => ⟨S8320x2048, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S640x2048, .f32⟩
  | .local _ .vmem, ⟨9, _⟩ => ⟨S640x2048, .f32⟩
  | .local _ .vmem, ⟨10, _⟩ => ⟨S640x2048, .bf16⟩
  | .local _ .vmem, ⟨11, _⟩ => ⟨S640x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![13, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S8320x2048 : Shape := ⟨2, ![8320, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S8320x8192 : Shape := ⟨2, ![8320, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S8320x2048, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S1x2048, .f32⟩
  | .hbm, ⟨19, _⟩ => ⟨S8320x2048, .f32⟩
  | .hbm, ⟨20, _⟩ => ⟨S8320x2048, .f32⟩
  | .hbm, ⟨21, _⟩ => ⟨S1x2048x8192, .f32⟩
  | .hbm, ⟨22, _⟩ => ⟨S2048x8192, .f32⟩
  | .hbm, ⟨23, _⟩ => ⟨S1x8192x2048, .f32⟩
  | .hbm, ⟨24, _⟩ => ⟨S8192x2048, .f32⟩
  | .hbm, ⟨25, _⟩ => ⟨S8320x8192, .f32⟩
  | .hbm, ⟨26, _⟩ => ⟨S_, .f32⟩
  | .hbm, ⟨27, _⟩ => ⟨S8320x8192, .f32⟩
  | .hbm, ⟨28, _⟩ => ⟨S8320x8192, .f32⟩
  | .hbm, ⟨29, _⟩ => ⟨S8320x8192, .f32⟩
  | .hbm, ⟨30, _⟩ => ⟨S8320x2048, .f32⟩
  | .hbm, ⟨31, _⟩ => ⟨S8320x2048, .f32⟩
  | .hbm, ⟨32, _⟩ => ⟨S_, .f32⟩
  | .hbm, ⟨33, _⟩ => ⟨S8320, .f32⟩
  | .hbm, ⟨34, _⟩ => ⟨S8320x1, .f32⟩
  | .hbm, ⟨35, _⟩ => ⟨S_, .f32⟩
  | .hbm, ⟨36, _⟩ => ⟨S8320x1, .f32⟩
  | .hbm, ⟨37, _⟩ => ⟨S8320x1, .f32⟩
  | .hbm, ⟨38, _⟩ => ⟨S_, .f32⟩
  | .hbm, ⟨39, _⟩ => ⟨S8320x1, .f32⟩
  | .hbm, ⟨40, _⟩ => ⟨S8320x1, .f32⟩
  | .hbm, ⟨41, _⟩ => ⟨S8320x1, .f32⟩
  | .hbm, ⟨42, _⟩ => ⟨S8320x2048, .f32⟩
  | .hbm, ⟨43, _⟩ => ⟨S8320x2048, .f32⟩
  | .hbm, ⟨44, _⟩ => ⟨S1x2048, .f32⟩
  | .hbm, ⟨45, _⟩ => ⟨S8320x2048, .f32⟩
  | .hbm, ⟨46, _⟩ => ⟨S8320x2048, .f32⟩
  | .hbm, ⟨47, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== OutKernel.lean ====
abbrev S8320x2048 : Shape := ⟨2, ![8320, 2048]⟩
abbrev S2048x2048 : Shape := ⟨2, ![2048, 2048]⟩
abbrev S2048 : Shape := ⟨1, ![2048]⟩
abbrev S1x2048 : Shape := ⟨2, ![1, 2048]⟩
abbrev S640x2048 : Shape := ⟨2, ![640, 2048]⟩
abbrev S640 : Shape := ⟨1, ![640]⟩
abbrev S640x1 : Shape := ⟨2, ![640, 1]⟩

abbrev nBuf : Space → Nat
  | .hbm => 9
  | .vmem => 9
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S8320x2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S640x2048, .f32⟩
  | .local _ .vmem, ⟨6, _⟩ => ⟨S640x2048, .f32⟩
  | .local _ .vmem, ⟨7, _⟩ => ⟨S640x2048, .f32⟩
  | .local _ .vmem, ⟨8, _⟩ => ⟨S640x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S8320x2048 : Shape := ⟨2, ![8320, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩

abbrev nBuf : Space → Nat
  | .hbm => 27
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S1x2048, .f32⟩
  | .hbm, ⟨8, _⟩ => ⟨S8320x2048, .f32⟩
  | .hbm, ⟨9, _⟩ => ⟨S8320x2048, .f32⟩
  | .hbm, ⟨10, _⟩ => ⟨S8320x2048, .f32⟩
  | .hbm, ⟨11, _⟩ => ⟨S_, .f32⟩
  | .hbm, ⟨12, _⟩ => ⟨S8320, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S8320x2048, .f32⟩
  | .hbm, ⟨22, _⟩ => ⟨S8320x2048, .f32⟩
  | .hbm, ⟨23, _⟩ => ⟨S1x2048, .f32⟩
  | .hbm, ⟨24, _⟩ => ⟨S8320x2048, .f32⟩
  | .hbm, ⟨25, _⟩ => ⟨S8320x2048, .f32⟩
  | .hbm, ⟨26, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== PlainKernel.lean ====
abbrev S8320x2048 : Shape := ⟨2, ![8320, 2048]⟩
abbrev S2048x2048 : Shape := ⟨2, ![2048, 2048]⟩
abbrev S2048 : Shape := ⟨1, ![2048]⟩
abbrev S1x2048 : Shape := ⟨2, ![1, 2048]⟩
abbrev S640x2048 : Shape := ⟨2, ![640, 2048]⟩
abbrev S640 : Shape := ⟨1, ![640]⟩
abbrev S640x1 : Shape := ⟨2, ![640, 1]⟩

abbrev nBuf : Space → Nat
  | .hbm => 7
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S2048, .f32⟩
  | .hbm, ⟨3, _⟩ => ⟨S8320x2048, .f32⟩
  | .hbm, ⟨4, _⟩ => ⟨S2048x2048, .bf16⟩
  | .hbm, ⟨5, _⟩ => ⟨S1x2048, .f32⟩
  | .hbm, ⟨6, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x2048, .bf16⟩
  | .local _ .vmem, ⟨3, _⟩ => ⟨S1x2048, .f32⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | .local _ .vmem, ⟨7, _⟩ => ⟨S640x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PlainReferenceIdeal.lean ====
abbrev S8320x2048 : Shape := ⟨2, ![8320, 2048]⟩
abbrev S2048x2048 : Shape := ⟨2, ![2048, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S2048, .f32⟩
  | .hbm, ⟨3, _⟩ => ⟨S8320x2048, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x2048, .f32⟩
  | .hbm, ⟨18, _⟩ => ⟨S8320x2048, .f32⟩
  | .hbm, ⟨19, _⟩ => ⟨S1x2048, .f32⟩
  | .hbm, ⟨20, _⟩ => ⟨S8320x2048, .f32⟩
  | .hbm, ⟨21, _⟩ => ⟨S8320x2048, .f32⟩
  | .hbm, ⟨22, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== GateKernel.lean ====
abbrev S8320x2048 : Shape := ⟨2, ![8320, 2048]⟩
abbrev S2048 : Shape := ⟨1, ![2048]⟩
abbrev S2048x2048 : Shape := ⟨2, ![2048, 2048]⟩
abbrev S2048x4096 : Shape := ⟨2, ![2048, 4096]⟩
abbrev S4096 : Shape := ⟨1, ![4096]⟩
abbrev S1x2048 : Shape := ⟨2, ![1, 2048]⟩
abbrev S1x4096 : Shape := ⟨2, ![1, 4096]⟩
abbrev S8320x4096 : Shape := ⟨2, ![8320, 4096]⟩
abbrev S640x2048 : Shape := ⟨2, ![640, 2048]⟩
abbrev S2048x1024 : Shape := ⟨2, ![2048, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩

abbrev nBuf : Space → Nat
  | .hbm => 12
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x4096, .f32⟩
  | .hbm, ⟨7, _⟩ => ⟨S2048x4096, .bf16⟩
  | .hbm, ⟨8, _⟩ => ⟨S4096, .f32⟩
  | .hbm, ⟨9, _⟩ => ⟨S1x2048, .f32⟩
  | .hbm, ⟨10, _⟩ => ⟨S1x4096, .f32⟩
  | .hbm, ⟨11, _⟩ => ⟨S8320x4096, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![13, 4], ![false, false]⟩

def k0_cond2 (i : grid0.Coords) : BitVec 1 :=
  let arg1 : BitVec 32 := BitVec.ofNat 32 (i 1).val
  let c2_i32 : BitVec 32 := 2#32
  let v11 : BitVec 1 := Scalar.cmpi .slt arg1 c2_i32
  let v12 : BitVec 32 := Scalar.extui v11
  let c0_i32_6 : BitVec 32 := 0#32
  let v13 : BitVec 1 := Scalar.cmpi .ne v12 c0_i32_6
  v13

def k0_cond3 (i : grid0.Coords) : BitVec 1 :=
  let arg1 : BitVec 32 := BitVec.ofNat 32 (i 1).val
  let c2_i32_7 : BitVec 32 := 2#32
  let v14 : BitVec 1 := Scalar.cmpi .sge arg1 c2_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateReferenceIdeal.lean ====
abbrev S8320x2048 : Shape := ⟨2, ![8320, 2048]⟩
abbrev S2048 : Shape := ⟨1, ![2048]⟩
abbrev S2048x2048 : Shape := ⟨2, ![2048, 2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S8320x4096 : Shape := ⟨2, ![8320, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S8320x2048, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x2048, .f32⟩
  | .hbm, ⟨18, _⟩ => ⟨S8320x2048, .f32⟩
  | .hbm, ⟨19, _⟩ => ⟨S1x2048, .f32⟩
  | .hbm, ⟨20, _⟩ => ⟨S8320x2048, .f32⟩
  | .hbm, ⟨21, _⟩ => ⟨S8320x2048, .f32⟩
  | .hbm, ⟨22, _⟩ => ⟨S8320x2048, .f32⟩
  | .hbm, ⟨23, _⟩ => ⟨S1x2048, .f32⟩
  | .hbm, ⟨24, _⟩ => ⟨S8320x2048, .f32⟩
  | .hbm, ⟨25, _⟩ => ⟨S8320x2048, .f32⟩
  | .hbm, ⟨26, _⟩ => ⟨S8320x2048, .f32⟩
  | .hbm, ⟨27, _⟩ => ⟨S8320x2048, .f32⟩
  | .hbm, ⟨28, _⟩ => ⟨S_, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S_, .f32⟩
  | .hbm, ⟨33, _⟩ => ⟨S8320x2048, .f32⟩
  | .hbm, ⟨34, _⟩ => ⟨S8320x2048, .f32⟩
  | .hbm, ⟨35, _⟩ => ⟨S8320x2048, .f32⟩
  | .hbm, ⟨36, _⟩ => ⟨S_, .f32⟩
  | .hbm, ⟨37, _⟩ => ⟨S8320x2048, .f32⟩
  | .hbm, ⟨38, _⟩ => ⟨S8320x2048, .f32⟩
  | .hbm, ⟨39, _⟩ => ⟨S_, .f32⟩
  | .hbm, ⟨40, _⟩ => ⟨S8320x2048, .f32⟩
  | .hbm, ⟨41, _⟩ => ⟨S8320x2048, .f32⟩
  | .hbm, ⟨42, _⟩ => ⟨S8320x2048, .f32⟩
  | .hbm, ⟨43, _⟩ => ⟨S8320x2048, .f32⟩
  | .hbm, ⟨44, _⟩ => ⟨S1x2048, .f32⟩
  | .hbm, ⟨45, _⟩ => ⟨S8320x2048, .f32⟩
  | .hbm, ⟨46, _⟩ => ⟨S8320x2048, .f32⟩
  | .hbm, ⟨47, _⟩ => ⟨S8320x4096, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== InKernel.lean ====
abbrev S8320x2048 : Shape := ⟨2, ![8320, 2048]⟩
abbrev S2048 : Shape := ⟨1, ![2048]⟩
abbrev S2048x2560 : Shape := ⟨2, ![2048, 2560]⟩
abbrev S2560 : Shape := ⟨1, ![2560]⟩
abbrev S1x2048 : Shape := ⟨2, ![1, 2048]⟩
abbrev S1x2560 : Shape := ⟨2, ![1, 2560]⟩
abbrev S8320x2560 : Shape := ⟨2, ![8320, 2560]⟩
abbrev S640x2048 : Shape := ⟨2, ![640, 2048]⟩
abbrev S2048x1280 : Shape := ⟨2, ![2048, 1280]⟩
abbrev S1x1280 : Shape := ⟨2, ![1, 1280]⟩
abbrev S640x1280 : Shape := ⟨2, ![640, 1280]⟩
abbrev S640 : Shape := ⟨1, ![640]⟩
abbrev S640x1 : Shape := ⟨2, ![640, 1]⟩

abbrev nBuf : Space → Nat
  | .hbm => 8
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x2560, .f32⟩
  | .hbm, ⟨3, _⟩ => ⟨S2560, .f32⟩
  | .hbm, ⟨4, _⟩ => ⟨S2048x2560, .bf16⟩
  | .hbm, ⟨5, _⟩ => ⟨S1x2048, .f32⟩
  | .hbm, ⟨6, _⟩ => ⟨S1x2560, .f32⟩
  | .hbm, ⟨7, _⟩ => ⟨S8320x2560, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1x1280, .f32⟩
  | .local _ .vmem, ⟨6, _⟩ => ⟨S1x1280, .f32⟩
  | .local _ .vmem, ⟨7, _⟩ => ⟨S640x1280, .f32⟩
  | .local _ .vmem, ⟨8, _⟩ => ⟨S640x1280, .f32⟩
  | .local _ .vmem, ⟨9, _⟩ => ⟨S640x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InReferenceIdeal.lean ====
abbrev S8320x2048 : Shape := ⟨2, ![8320, 2048]⟩
abbrev S2048 : Shape := ⟨1, ![2048]⟩
abbrev S2048x2560 : Shape := ⟨2, ![2048, 2560]⟩
abbrev S2560 : Shape := ⟨1, ![2560]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S8320x2560 : Shape := ⟨2, ![8320, 2560]⟩
abbrev S1x2560 : Shape := ⟨2, ![1, 2560]⟩

abbrev nBuf : Space → Nat
  | .hbm => 24
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x2560, .f32⟩
  | .hbm, ⟨3, _⟩ => ⟨S2560, .f32⟩
  | .hbm, ⟨4, _⟩ => ⟨S8320x2048, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x2048, .f32⟩
  | .hbm, ⟨16, _⟩ => ⟨S8320x2048, .f32⟩
  | .hbm, ⟨17, _⟩ => ⟨S1x2048, .f32⟩
  | .hbm, ⟨18, _⟩ => ⟨S8320x2048, .f32⟩
  | .hbm, ⟨19, _⟩ => ⟨S8320x2048, .f32⟩
  | .hbm, ⟨20, _⟩ => ⟨S8320x2560, .f32⟩
  | .hbm, ⟨21, _⟩ => ⟨S1x2560, .f32⟩
  | .hbm, ⟨22, _⟩ => ⟨S8320x2560, .f32⟩
  | .hbm, ⟨23, _⟩ => ⟨S8320x2560, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.LruRef.lean ====
module

public import proofs.«01_k».proof.Proof.Gen.LruReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.LruReferenceIdeal.Closed

open Cert.LruReferenceIdeal Cert.LruReferenceIdeal.Gen

/-- A row of channels, repeated for each sequence and each step. -/
abbrev chan (b : FVec Ideal S2048 .f32) : FVec Ideal S32x4x2048 .f32 :=
  broadcastInDim S32x4x2048 ![0, 1, 2] bcast_S1x1x2048_S32x4x2048_0_1_2 (broadcastInDim S1x1x2048 ![2] bcast_S2048_S1x1x2048_2 b)

/-- The number of word `w` at each sequence, step and channel. -/
abbrev fill (w : BitVec 32) : FVec Ideal S32x4x2048 .f32 :=
  broadcastInDim S32x4x2048 ![] bcast_S_S32x4x2048 (constant S_ .f32 w)

/-- The three earlier inputs followed by the four new ones. -/
def ext (gu : FVec Ideal S32x4x4096 .f32) (cb : FVec Ideal S32x3x2048 .f32) : FVec Ideal S32x7x2048 .f32 :=
  concatenate S32x7x2048 1 [⟨S32x3x2048, cb⟩, ⟨S32x4x2048, (extractStridedSlice S32x4x2048 ![0, 0, 2048] gu slices_S32x4x4096_S32x4x2048_0_0_2048)⟩] concatenates_S32x3x2048_S32x4x2048_S32x7x2048_d1

/-- The causal convolution over four steps. -/
def conv (e : FVec Ideal S32x7x2048 .f32) (w : FVec Ideal S4x2048 .f32) (b : FVec Ideal S2048 .f32) : FVec Ideal S32x4x2048 .f32 :=
  addf (addf (addf (addf (chan b)
    (mulf (extractStridedSlice S32x4x2048 ![0, 0, 0] e slices_S32x7x2048_S32x4x2048_0_0_0) (chan (shapeCast _ (extractStridedSlice S1x2048 ![0, 0] w slices_S4x2048_S1x2048_0_0) shapeCasts_S1x2048_S2048))))
    (mulf (extractStridedSlice S32x4x2048 ![0, 1, 0] e slices_S32x7x2048_S32x4x2048_0_1_0) (chan (shapeCast _ (extractStridedSlice S1x2048 ![1, 0] w slices_S4x2048_S1x2048_1_0) shapeCasts_S1x2048_S2048))))
    (mulf (extractStridedSlice S32x4x2048 ![0, 2, 0] e slices_S32x7x2048_S32x4x2048_0_2_0) (chan (shapeCast _ (extractStridedSlice S1x2048 ![2, 0] w slices_S4x2048_S1x2048_2_0) shapeCasts_S1x2048_S2048))))
    (mulf (extractStridedSlice S32x4x2048 ![0, 3, 0] e slices_S32x7x2048_S32x4x2048_0_3_0) (chan (shapeCast _ (extractStridedSlice S1x2048 ![3, 0] w slices_S4x2048_S1x2048_3_0) shapeCasts_S1x2048_S2048)))

/-- The projection by eight blocks of 256 channels each. -/
def blocks (w : FVec Ideal S8x256x256 .f32) (x : FVec Ideal S32x4x2048 .f32) : FVec Ideal S32x4x2048 .f32 :=
  shapeCast _ (transpose S32x4x8x256 [2, 3, 0, 1] (Host.dotGeneral dot_S8x256x256_S32x4x8x256_S8x256x32x4_1_3_2_01_0_2 none w
    (shapeCast _ x shapeCasts_S32x4x2048_S32x4x8x256)) transposes_S8x256x32x4_S32x4x8x256_2_3_0_1) shapeCasts_S32x4x8x256_S32x4x2048

/-- The logistic function of `x` plus a bias. -/
def sigm (x : FVec Ideal S32x4x2048 .f32) (b : FVec Ideal S2048 .f32) : FVec Ideal S32x4x2048 .f32 :=
  Host.divf (fill 0x3F800000#32) (addf (fill 0x3F800000#32) (Host.exp (Host.negf (addf x (chan b)))))

/-- Minus `l`, less zero. -/
abbrev shifted (l : FVec Ideal S2048 .f32) : FVec Ideal S2048 .f32 :=
  subf (Host.negf l) (broadcastInDim S2048 ![] bcast_S_S2048 (constant S_ .f32 0x00000000#32))

/-- The logarithm of the logistic function of `l`, channel by channel. -/
def logSig (l : FVec Ideal S2048 .f32) : FVec Ideal S2048 .f32 :=
  Host.negf (select (cmpf .une (shifted l) (shifted l))
    (addf (Host.negf l) (broadcastInDim S2048 ![] bcast_S_S2048 (constant S_ .f32 0x00000000#32)))
    (addf (maximumf (Host.negf l) (broadcastInDim S2048 ![] bcast_S_S2048 (constant S_ .f32 0x00000000#32)))
      (Host.log1p (Host.exp (Host.negf (Host.absf (shifted l)))))))

/-- The logarithm of the decay: eight times the gate times the channel's logarithm. -/
def logA (r : FVec Ideal S32x4x2048 .f32) (l : FVec Ideal S2048 .f32) : FVec Ideal S32x4x2048 .f32 :=
  mulf (mulf (fill 0x41000000#32) r) (chan l)

/-- The part of a step that does not depend on the state. -/
def drive (la x s : FVec Ideal S32x4x2048 .f32) : FVec Ideal S32x4x2048 .f32 :=
  mulf (Host.sqrt (Host.negf (Host.expm1 (mulf (fill 0x40000000#32) la)))) (mulf s x)

/-- The state after each of the four steps, from decays `a` and drives `d`. -/
def st1 (a d : FVec Ideal S32x4x2048 .f32) (h : FVec Ideal S32x2048 .f32) : FVec Ideal S32x2048 .f32 :=
  addf (mulf (shapeCast _ (extractStridedSlice S32x1x2048 ![0, 0, 0] a slices_S32x4x2048_S32x1x2048_0_0_0) shapeCasts_S32x1x2048_S32x2048) h) (shapeCast _ (extractStridedSlice S32x1x2048 ![0, 0, 0] d slices_S32x4x2048_S32x1x2048_0_0_0) shapeCasts_S32x1x2048_S32x2048)
@[inherit_doc st1] def st2 (a d : FVec Ideal S32x4x2048 .f32) (h : FVec Ideal S32x2048 .f32) : FVec Ideal S32x2048 .f32 :=
  addf (mulf (shapeCast _ (extractStridedSlice S32x1x2048 ![0, 1, 0] a slices_S32x4x2048_S32x1x2048_0_1_0) shapeCasts_S32x1x2048_S32x2048) (st1 a d h)) (shapeCast _ (extractStridedSlice S32x1x2048 ![0, 1, 0] d slices_S32x4x2048_S32x1x2048_0_1_0) shapeCasts_S32x1x2048_S32x2048)
@[inherit_doc st1] def st3 (a d : FVec Ideal S32x4x2048 .f32) (h : FVec Ideal S32x2048 .f32) : FVec Ideal S32x2048 .f32 :=
  addf (mulf (shapeCast _ (extractStridedSlice S32x1x2048 ![0, 2, 0] a slices_S32x4x2048_S32x1x2048_0_2_0) shapeCasts_S32x1x2048_S32x2048) (st2 a d h)) (shapeCast _ (extractStridedSlice S32x1x2048 ![0, 2, 0] d slices_S32x4x2048_S32x1x2048_0_2_0) shapeCasts_S32x1x2048_S32x2048)
@[inherit_doc st1] def st4 (a d : FVec Ideal S32x4x2048 .f32) (h : FVec Ideal S32x2048 .f32) : FVec Ideal S32x2048 .f32 :=
  addf (mulf (shapeCast _ (extractStridedSlice S32x1x2048 ![0, 3, 0] a slices_S32x4x2048_S32x1x2048_0_3_0) shapeCasts_S32x1x2048_S32x2048) (st3 a d h)) (shapeCast _ (extractStridedSlice S32x1x2048 ![0, 3, 0] d slices_S32x4x2048_S32x1x2048_0_3_0) shapeCasts_S32x1x2048_S32x2048)

/-- The gated states, in the call's order of rows: step, then sequence. -/
def gated (h1 h2 h3 h4 : FVec Ideal S32x2048 .f32) (gu : FVec Ideal S32x4x4096 .f32) : FVec Ideal S128x2048 .bf16 :=
  truncf .bf16 (shapeCast _ (transpose S4x32x2048 [1, 0, 2] (mulf (concatenate S32x4x2048 1
    [⟨S32x1x2048, broadcastInDim S32x1x2048 ![0, 2] bcast_S32x2048_S32x1x2048_0_2 h1⟩, ⟨S32x1x2048, broadcastInDim S32x1x2048 ![0, 2] bcast_S32x2048_S32x1x2048_0_2 h2⟩, ⟨S32x1x2048, broadcastInDim S32x1x2048 ![0, 2] bcast_S32x2048_S32x1x2048_0_2 h3⟩, ⟨S32x1x2048, broadcastInDim S32x1x2048 ![0, 2] bcast_S32x2048_S32x1x2048_0_2 h4⟩]
    concatenates_S32x1x2048_S32x1x2048_S32x1x2048_S32x1x2048_S32x4x2048_d1)
    (extractStridedSlice S32x4x2048 ![0, 0, 0] gu slices_S32x4x4096_S32x4x2048_0_0_0)) transposes_S32x4x2048_S4x32x2048_1_0_2) shapeCasts_S4x32x2048_S128x2048) bitsLt_bf16_f32

section
variable (gu : FVec Ideal S32x4x4096 .f32) (cb : FVec Ideal S32x3x2048 .f32) (h0 : FVec Ideal S32x2048 .f32)
  (cw : FVec Ideal S4x2048 .f32) (cbias : FVec Ideal S2048 .f32) (wa : FVec Ideal S8x256x256 .f32) (ba : FVec Ideal S2048 .f32)
  (wx : FVec Ideal S8x256x256 .f32) (bx lam : FVec Ideal S2048 .f32)

/-- The convolution at the arguments. -/
abbrev CONV : FVec Ideal S32x4x2048 .f32 := conv (ext gu cb) cw cbias
/-- The logarithm of the decay at the arguments. -/
abbrev LOGA : FVec Ideal S32x4x2048 .f32 := logA (sigm (blocks wa (CONV gu cb cw cbias)) ba) (logSig lam)
/-- The decay at the arguments. -/
def DECAY : FVec Ideal S32x4x2048 .f32 := Host.exp (LOGA gu cb cw cbias wa ba lam)
/-- The drive at the arguments. -/
def DRIVE : FVec Ideal S32x4x2048 .f32 :=
  drive (LOGA gu cb cw cbias wa ba lam) (CONV gu cb cw cbias) (sigm (blocks wx (CONV gu cb cw cbias)) bx)

/-- The gated states. -/
def REFy : FVec Ideal S128x2048 .bf16 :=
  gated (st1 (DECAY gu cb cw cbias wa ba lam) (DRIVE gu cb cw cbias wa ba wx bx lam) h0)
    (st2 (DECAY gu cb cw cbias wa ba lam) (DRIVE gu cb cw cbias wa ba wx bx lam) h0)
    (st3 (DECAY gu cb cw cbias wa ba lam) (DRIVE gu cb cw cbias wa ba wx bx lam) h0)
    (st4 (DECAY gu cb cw cbias wa ba lam) (DRIVE gu cb cw cbias wa ba wx bx lam) h0) gu

/-- The last state. -/
def REFh : FVec Ideal S1x32x2048 .f32 :=
  shapeCast _ (st4 (DECAY gu cb cw cbias wa ba lam) (DRIVE gu cb cw cbias wa ba wx bx lam) h0) shapeCasts_S32x2048_S1x32x2048

end

/-- The last three inputs, kept for the next call. -/
def REFc (gu : FVec Ideal S32x4x4096 .f32) (cb : FVec Ideal S32x3x2048 .f32) : FVec Ideal S1x96x2048 .f32 :=
  shapeCast _ (transpose S3x32x2048 [1, 0, 2] (extractStridedSlice S32x3x2048 ![0, 4, 0] (ext gu cb) slices_S32x7x2048_S32x3x2048_0_4_0) transposes_S32x3x2048_S3x32x2048_1_0_2) shapeCasts_S3x32x2048_S1x96x2048

/-- The logistic function at one number, as the reference writes it. -/
def sig1 (x : EReal) : EReal := Ideal.div 1 (1 + Ideal.exp (-x))

/-- The logarithm of the logistic function at one number, as the reference writes it. -/
def logSig1 (x : EReal) : EReal := -(max (-x) 0 + Ideal.log1p (Ideal.exp (-FloatOps.absf (F := Ideal) (φ := .f32) (-x))))

theorem ext_at (gu : FVec Ideal S32x4x4096 .f32) (cb : FVec Ideal S32x3x2048 .f32) (i : Fin 32) (s : Fin 7) (j : Fin 2048) :
    ext gu cb (ix3 i s j) = if h : s.val < 3 then cb (ix3 i ⟨s.val, h⟩ j) else gu (ix3 i ⟨s.val - 3, by omega⟩ ⟨2048 + j.val, by omega⟩) := by
  pointwise [ext]

theorem conv_at (e : FVec Ideal S32x7x2048 .f32) (w : FVec Ideal S4x2048 .f32) (b : FVec Ideal S2048 .f32) (i : Fin 32) (s : Fin 4) (j : Fin 2048) :
    conv e w b (ix3 i s j) = b (ix1 j) + e (ix3 i ⟨s.val, by omega⟩ j) * w (ix2 0 j) + e (ix3 i ⟨1 + s.val, by omega⟩ j) * w (ix2 1 j)
      + e (ix3 i ⟨2 + s.val, by omega⟩ j) * w (ix2 2 j) + e (ix3 i ⟨3 + s.val, by omega⟩ j) * w (ix2 3 j) := by
  pointwise [conv]

theorem blocks_at (w : FVec Ideal S8x256x256 .f32) (x : FVec Ideal S32x4x2048 .f32) (i : Fin 32) (s : Fin 4) (j : Fin 2048) :
    blocks w x (ix3 i s j) = ∑ k : Fin 256, w (ix3 ⟨j.val / 256, by omega⟩ k ⟨j.val % 256, by omega⟩)
      * x (ix3 i s ⟨j.val / 256 * 256 + k.val, by omega⟩) := by
  pointwise [blocks]

theorem sigm_at (x : FVec Ideal S32x4x2048 .f32) (b : FVec Ideal S2048 .f32) (i : Fin 32) (s : Fin 4) (j : Fin 2048) :
    sigm x b (ix3 i s j) = sig1 (x (ix3 i s j) + b (ix1 j)) := by
  pointwise [sigm, sig1]

theorem logSig_at (l : FVec Ideal S2048 .f32) (j : Fin 2048) :
    logSig l (ix1 j) = logSig1 (l (ix1 j)) := by
  pointwise [logSig, logSig1]
  rw [if_neg (fun h => h rfl)]

theorem logA_at (r : FVec Ideal S32x4x2048 .f32) (l : FVec Ideal S2048 .f32) (i : Fin 32) (s : Fin 4) (j : Fin 2048) :
    logA r l (ix3 i s j) = Ideal.ofBits FTy.f32 1090519040#32 * r (ix3 i s j) * l (ix1 j) := by
  pointwise [logA]

theorem drive_at (r l s' : FVec Ideal S32x4x2048 .f32) (i : Fin 32) (s : Fin 4) (j : Fin 2048) :
    drive r l s' (ix3 i s j) = Ideal.sqrt (-(Ideal.exp (Ideal.ofBits FTy.f32 1073741824#32 * r (ix3 i s j)) - 1)) * (s' (ix3 i s j) * l (ix3 i s j)) := by
  pointwise [drive]

theorem st_at (a d : FVec Ideal S32x4x2048 .f32) (h : FVec Ideal S32x2048 .f32) (i : Fin 32) (j : Fin 2048) :
    st1 a d h (ix2 i j) = a (ix3 i 0 j) * h (ix2 i j) + d (ix3 i 0 j)
    ∧ st2 a d h (ix2 i j) = a (ix3 i 1 j) * st1 a d h (ix2 i j) + d (ix3 i 1 j)
    ∧ st3 a d h (ix2 i j) = a (ix3 i 2 j) * st2 a d h (ix2 i j) + d (ix3 i 2 j)
    ∧ st4 a d h (ix2 i j) = a (ix3 i 3 j) * st3 a d h (ix2 i j) + d (ix3 i 3 j) := by
  refine ⟨?_, ?_, ?_, ?_⟩
  · pointwise [st1]
  · pointwise [st2]
  · pointwise [st3]
  · pointwise [st4]

theorem gated_at (h1 h2 h3 h4 : FVec Ideal S32x2048 .f32) (gu : FVec Ideal S32x4x4096 .f32) (i : Fin 128) (j : Fin 2048) :
    gated h1 h2 h3 h4 gu (ix2 i j) = (if i.val < 32 then h1 (ix2 ⟨i.val % 32, by omega⟩ j)
      else if i.val < 64 then h2 (ix2 ⟨i.val % 32, by omega⟩ j)
      else if i.val < 96 then h3 (ix2 ⟨i.val % 32, by omega⟩ j) else h4 (ix2 ⟨i.val % 32, by omega⟩ j))
      * gu (ix3 ⟨i.val % 32, by omega⟩ ⟨i.val / 32, by omega⟩ ⟨j.val, by omega⟩) := by
  pointwise [gated]
  have e1 : i.val / 32 < 1 ↔ i.val < 32 := by omega
  have e2 : i.val / 32 - 1 < 1 ↔ i.val < 64 := by omega
  have e3 : i.val / 32 - 1 - 1 < 1 ↔ i.val < 96 := by omega
  simp only [e1, e2, e3]
  rfl

theorem REFc_at (gu : FVec Ideal S32x4x4096 .f32) (cb : FVec Ideal S32x3x2048 .f32) (i : Fin 96) (j : Fin 2048) :
    REFc gu cb (ix3 0 i j) = ext gu cb (ix3 ⟨i.val % 32, by omega⟩ ⟨4 + i.val / 32, by omega⟩ j) := by
  pointwise [REFc]

end Cert.LruReferenceIdeal.Closed

end
-- ==== Proof.LruScan.lean ====
module

public import proofs.«01_k».proof.Proof.Gen.LruKernelIdeal.Frame
public import proofs.«01_k».proof.Proof.LruRef
public import Idealize.ShloMosaic.Lib.Pipeline.RowLoads

@[expose] public section

set_option maxRecDepth 16384

noncomputable section

open Idealize.ShloMosaic Idealize.ShloMosaic.TcCoe Idealize.SL.Sem
open Idealize.ShloMosaic.Pipeline (Dat)
open scoped BigOperators

namespace Cert.LruKernelIdeal.Whole

open Cert.LruKernelIdeal Cert.LruKernelIdeal.Gen Cert.LruReferenceIdeal.Closed

open RowLoads

/-- A load of 32 rows of an array stored whole. -/
theorem read_rows (κ : Kind) (sp : Space) (v : View sig κ sp S128x2048 .f32) (X : FVec Ideal S128x2048 .f32) (o : Nat) (h : o + 32 ≤ 128)
    (inb : ∀ a, (![0, 0] : Fin 2 → Nat) a + (![128, 2048] : Fin 2 → Nat) a ≤ S128x2048.size a)
    (inb' : ∀ a, (![o, 0] : Fin 2 → Nat) a + (![32, 2048] : Fin 2 → Nat) a ≤ S128x2048.size a) :
    v.readCov (Val := Elt Ideal) [⟨Rect.unit ![0, 0] ![128, 2048] inb, X⟩] (Rect.unit ![o, 0] ![32, 2048] inb').toLoadRect
      = rowsFrom 32 X o h := by
  rw [View.readCov_eq_canon']
  funext j
  have hj : (Rect.unit (s := S128x2048) ![o, 0] ![32, 2048] inb').toLoadRect.idx j
      = (Rect.unit (s := S128x2048) ![0, 0] ![128, 2048] inb).emb
          (ix2 ⟨o + (j 0).val, by have : (j 0).val < 32 := (j 0).isLt; omega⟩ (j 1)) := by
    funext a; apply Fin.ext
    fin_cases a
    · show o + 1 * (j 0).val = 0 + 1 * (o + (j 0).val); omega
    · show 0 + 1 * (j 1).val = 0 + 1 * (j 1).val; omega
  refine (congrArg _ hj).trans ?_
  rw [View.canon_cons_emb]
  rfl

/-- A load of 32 rows passes over 32 rows stored elsewhere. -/
theorem read_skip (κ : Kind) (sp : Space) (v : View sig κ sp S128x2048 .f32) (o o' : Nat) (h : o + 32 ≤ o' ∨ o' + 32 ≤ o)
    (x : FVec Ideal S32x2048 .f32) (L : List (View.Piece (Elt Ideal) S128x2048 .f32))
    (inb : ∀ a, (![o, 0] : Fin 2 → Nat) a + (![32, 2048] : Fin 2 → Nat) a ≤ S128x2048.size a)
    (inb' : ∀ a, (![o', 0] : Fin 2 → Nat) a + (![32, 2048] : Fin 2 → Nat) a ≤ S128x2048.size a) :
    v.readCov (Val := Elt Ideal) (⟨Rect.unit ![o, 0] ![32, 2048] inb, x⟩ :: L) (Rect.unit ![o', 0] ![32, 2048] inb').toLoadRect
      = v.readCov (Val := Elt Ideal) L (Rect.unit ![o', 0] ![32, 2048] inb').toLoadRect := by
  rw [View.readCov_eq_canon', View.readCov_eq_canon']
  funext j
  refine View.canon_cons_of_not_mem _ _ ?_
  rw [Rect.mem_set_unit]
  intro k
  have k0 := k 0
  have hj : (j 0).val < 32 := (j 0).isLt
  have e : (((Rect.unit (s := S128x2048) ![o', 0] ![32, 2048] inb').toLoadRect.idx j) 0).val = o' + 1 * (j 0).val := rfl
  rw [e] at k0
  have k1 : o ≤ o' + 1 * (j 0).val ∧ o' + 1 * (j 0).val < o + 32 := k0
  omega

/-- What the input scratch holds at a row: the kept inputs in the first 96 rows, then the new ones. -/
def inputs (p : FVec Ideal S128x2048 .f32) (q : FVec Ideal S96x2048 .f32) : FVec Ideal S224x2048 .f32 := fun y =>
  if h : (y 0).val < 96 then q (ix2 ⟨(y 0).val, h⟩ (y 1))
  else p (ix2 ⟨(y 0).val - 96, by have : (y 0).val < 224 := (y 0).isLt; omega⟩ (y 1))

/-- The input scratch after both stores. -/
theorem canon_inputs (p : FVec Ideal S128x2048 .f32) (q : FVec Ideal S96x2048 .f32)
    (inb : ∀ a, (![96, 0] : Fin 2 → Nat) a + (![128, 2048] : Fin 2 → Nat) a ≤ S224x2048.size a)
    (inb' : ∀ a, (![0, 0] : Fin 2 → Nat) a + (![96, 2048] : Fin 2 → Nat) a ≤ S224x2048.size a) :
    View.canon (Val := Elt Ideal) (s := S224x2048) (e := .f32)
      [⟨Rect.unit ![96, 0] ![128, 2048] inb, p⟩, ⟨Rect.unit ![0, 0] ![96, 2048] inb', q⟩] = inputs p q := by
  funext y
  have hy : (y 0).val < 224 := (y 0).isLt
  have hy1 : (y 1).val < 2048 := (y 1).isLt
  by_cases h : (y 0).val < 96
  · rw [View.canon_cons_of_not_mem _ _ (by
      rw [Rect.mem_set_unit]; intro k; have := (k 0).1; have : 96 ≤ (y 0).val := this; omega)]
    have e : y = (Rect.unit (s := S224x2048) ![0, 0] ![96, 2048] inb').emb (ix2 ⟨(y 0).val, h⟩ (y 1)) := by
      funext a; apply Fin.ext
      fin_cases a
      · show (y 0).val = 0 + 1 * (y 0).val; omega
      · show (y 1).val = 0 + 1 * (y 1).val; omega
    conv_lhs => rw [e]
    rw [View.canon_cons_emb]
    unfold inputs; rw [dif_pos h]
  · have e : y = (Rect.unit (s := S224x2048) ![96, 0] ![128, 2048] inb).emb (ix2 ⟨(y 0).val - 96, by omega⟩ (y 1)) := by
      funext a; apply Fin.ext
      fin_cases a
      · show (y 0).val = 96 + 1 * ((y 0).val - 96); omega
      · show (y 1).val = 0 + 1 * (y 1).val; omega
    conv_lhs => rw [e]
    rw [View.canon_cons_emb]
    unfold inputs; rw [dif_neg h]

/-- A load of `k` rows of the input scratch. -/
theorem read_inputs (κ : Kind) (sp : Space) (v : View sig κ sp S224x2048 .f32) (p : FVec Ideal S128x2048 .f32) (q : FVec Ideal S96x2048 .f32) (k o : Nat) (h : o + k ≤ 224)
    (inb : ∀ a, (![96, 0] : Fin 2 → Nat) a + (![128, 2048] : Fin 2 → Nat) a ≤ S224x2048.size a)
    (inb' : ∀ a, (![0, 0] : Fin 2 → Nat) a + (![96, 2048] : Fin 2 → Nat) a ≤ S224x2048.size a)
    (inb'' : ∀ a, (![o, 0] : Fin 2 → Nat) a + (![k, 2048] : Fin 2 → Nat) a ≤ S224x2048.size a) :
    v.readCov (Val := Elt Ideal) [⟨Rect.unit ![96, 0] ![128, 2048] inb, p⟩, ⟨Rect.unit ![0, 0] ![96, 2048] inb', q⟩]
      (Rect.unit ![o, 0] ![k, 2048] inb'').toLoadRect = rowsFrom k (inputs p q) o h := by
  rw [View.readCov_eq_canon', canon_inputs]
  funext j
  unfold rowsFrom
  refine congrArg (inputs p q) ?_
  funext a; apply Fin.ext
  fin_cases a
  · show o + 1 * (j 0).val = o + (j 0).val; omega
  · show 0 + 1 * (j 1).val = (j 1).val; omega

/-- Four steps of the recurrence, from decays `a`, drives `d` and the first state. -/
def s1 (a d : FVec Ideal S128x2048 .f32) (h : FVec Ideal S32x2048 .f32) : FVec Ideal S32x2048 .f32 :=
  k0_pay29 (k0_pay28 h (rowsFrom 32 a 0 (by omega))) (rowsFrom 32 d 0 (by omega))
@[inherit_doc s1] def s2 (a d : FVec Ideal S128x2048 .f32) (h : FVec Ideal S32x2048 .f32) : FVec Ideal S32x2048 .f32 :=
  k0_pay31 (k0_pay28 h (rowsFrom 32 a 0 (by omega))) (rowsFrom 32 d 0 (by omega)) (rowsFrom 32 a 32 (by omega)) (rowsFrom 32 d 32 (by omega))
@[inherit_doc s1] def s3 (a d : FVec Ideal S128x2048 .f32) (h : FVec Ideal S32x2048 .f32) : FVec Ideal S32x2048 .f32 :=
  k0_pay33 (k0_pay28 h (rowsFrom 32 a 0 (by omega))) (rowsFrom 32 d 0 (by omega)) (rowsFrom 32 a 32 (by omega)) (rowsFrom 32 d 32 (by omega))
    (rowsFrom 32 a 64 (by omega)) (rowsFrom 32 d 64 (by omega))
@[inherit_doc s1] def s4 (a d : FVec Ideal S128x2048 .f32) (h : FVec Ideal S32x2048 .f32) : FVec Ideal S32x2048 .f32 :=
  k0_pay35 (k0_pay28 h (rowsFrom 32 a 0 (by omega))) (rowsFrom 32 d 0 (by omega)) (rowsFrom 32 a 32 (by omega)) (rowsFrom 32 d 32 (by omega))
    (rowsFrom 32 a 64 (by omega)) (rowsFrom 32 d 64 (by omega)) (rowsFrom 32 a 96 (by omega)) (rowsFrom 32 d 96 (by omega))

/-- Each step, at a sequence and a channel. -/
theorem s_at (a d : FVec Ideal S128x2048 .f32) (h : FVec Ideal S32x2048 .f32) (i : Fin 32) (j : Fin 2048) :
    s1 a d h (ix2 i j) = a (ix2 ⟨i.val, by omega⟩ j) * h (ix2 i j) + d (ix2 ⟨i.val, by omega⟩ j)
    ∧ s2 a d h (ix2 i j) = a (ix2 ⟨32 + i.val, by omega⟩ j) * s1 a d h (ix2 i j) + d (ix2 ⟨32 + i.val, by omega⟩ j)
    ∧ s3 a d h (ix2 i j) = a (ix2 ⟨64 + i.val, by omega⟩ j) * s2 a d h (ix2 i j) + d (ix2 ⟨64 + i.val, by omega⟩ j)
    ∧ s4 a d h (ix2 i j) = a (ix2 ⟨96 + i.val, by omega⟩ j) * s3 a d h (ix2 i j) + d (ix2 ⟨96 + i.val, by omega⟩ j) := by
  have e : (⟨0 + i.val, by omega⟩ : Fin 128) = ⟨i.val, by omega⟩ := Fin.ext (by show 0 + i.val = i.val; omega)
  refine ⟨?_, ?_, ?_, ?_⟩
  · unfold s1; pointwise [k0_pay29, k0_pay28]
    rw [← e]; rfl
  · unfold s2 s1; pointwise [k0_pay31]
    rfl
  · unfold s3 s2; pointwise [k0_pay33]
    rfl
  · unfold s4 s3; pointwise [k0_pay35]
    rfl

/-- Four arrays of 32 rows, one under the other. -/
def stacked (p1 p2 p3 p4 : FVec Ideal S32x2048 .f32) : FVec Ideal S128x2048 .f32 := fun y =>
  if (y 0).val < 32 then p1 (ix2 ⟨(y 0).val % 32, by omega⟩ (y 1))
  else if (y 0).val < 64 then p2 (ix2 ⟨(y 0).val % 32, by omega⟩ (y 1))
  else if (y 0).val < 96 then p3 (ix2 ⟨(y 0).val % 32, by omega⟩ (y 1))
  else p4 (ix2 ⟨(y 0).val % 32, by omega⟩ (y 1))

/-- The state scratch after the four write-backs. -/
theorem read_states (κ : Kind) (sp : Space) (v : View sig κ sp S128x2048 .f32) (d0 : FVec Ideal S128x2048 .f32) (p1 p2 p3 p4 : FVec Ideal S32x2048 .f32)
    (inb inb' : ∀ a, (![0, 0] : Fin 2 → Nat) a + (![128, 2048] : Fin 2 → Nat) a ≤ S128x2048.size a)
    (i1 : ∀ a, (![0, 0] : Fin 2 → Nat) a + (![32, 2048] : Fin 2 → Nat) a ≤ S128x2048.size a)
    (i2 : ∀ a, (![32, 0] : Fin 2 → Nat) a + (![32, 2048] : Fin 2 → Nat) a ≤ S128x2048.size a)
    (i3 : ∀ a, (![64, 0] : Fin 2 → Nat) a + (![32, 2048] : Fin 2 → Nat) a ≤ S128x2048.size a)
    (i4 : ∀ a, (![96, 0] : Fin 2 → Nat) a + (![32, 2048] : Fin 2 → Nat) a ≤ S128x2048.size a) :
    v.readCov (Val := Elt Ideal) [⟨Rect.unit ![96, 0] ![32, 2048] i4, p4⟩, ⟨Rect.unit ![64, 0] ![32, 2048] i3, p3⟩,
      ⟨Rect.unit ![32, 0] ![32, 2048] i2, p2⟩, ⟨Rect.unit ![0, 0] ![32, 2048] i1, p1⟩, ⟨Rect.unit ![0, 0] ![128, 2048] inb, d0⟩]
      (Rect.unit ![0, 0] ![128, 2048] inb').toLoadRect = stacked p1 p2 p3 p4 := by
  rw [View.readCov_eq_canon']
  funext y
  have hr : (y 0).val < 128 := (y 0).isLt
  have hj : (Rect.unit (s := S128x2048) ![0, 0] ![128, 2048] inb').toLoadRect.idx y = y := by
    funext a; apply Fin.ext
    fin_cases a
    · show 0 + 1 * (y 0).val = (y 0).val; omega
    · show 0 + 1 * (y 1).val = (y 1).val; omega
  refine (congrArg _ hj).trans ?_
  unfold stacked
  have out : ∀ (o : Nat) (h : (y 0).val < o ∨ o + 32 ≤ (y 0).val) (io : ∀ a, (![o, 0] : Fin 2 → Nat) a + (![32, 2048] : Fin 2 → Nat) a ≤ S128x2048.size a),
      (y : S128x2048.Idx) ∉ (Rect.unit (s := S128x2048) ![o, 0] ![32, 2048] io).set := by
    intro o h io
    rw [Rect.mem_set_unit]; intro k
    have k1 : o ≤ (y 0).val ∧ (y 0).val < o + 32 := k 0
    omega
  have on : ∀ (o : Nat) (h : o ≤ (y 0).val ∧ (y 0).val < o + 32) (h' : o % 32 = 0) (io : ∀ a, (![o, 0] : Fin 2 → Nat) a + (![32, 2048] : Fin 2 → Nat) a ≤ S128x2048.size a),
      (y : S128x2048.Idx) = (Rect.unit (s := S128x2048) ![o, 0] ![32, 2048] io).emb (ix2 ⟨(y 0).val % 32, by omega⟩ (y 1)) := by
    intro o h h' io
    funext a; apply Fin.ext
    fin_cases a
    · show (y 0).val = o + 1 * ((y 0).val % 32); omega
    · show (y 1).val = 0 + 1 * (y 1).val; omega
  by_cases h1 : (y 0).val < 32
  · rw [if_pos h1]
    refine (View.canon_cons_of_not_mem _ _ ?_).trans ?_
    · exact out 96 (by omega) i4
    refine (View.canon_cons_of_not_mem _ _ ?_).trans ?_
    · exact out 64 (by omega) i3
    refine (View.canon_cons_of_not_mem _ _ ?_).trans ?_
    · exact out 32 (by omega) i2
    refine (congrArg _ (on 0 (by omega) (by omega) i1)).trans ?_
    exact View.canon_cons_emb _ _ _ _
  · rw [if_neg h1]
    by_cases h2 : (y 0).val < 64
    · rw [if_pos h2]
      refine (View.canon_cons_of_not_mem _ _ ?_).trans ?_
      · exact out 96 (by omega) i4
      refine (View.canon_cons_of_not_mem _ _ ?_).trans ?_
      · exact out 64 (by omega) i3
      refine (congrArg _ (on 32 (by omega) (by omega) i2)).trans ?_
      exact View.canon_cons_emb _ _ _ _
    · rw [if_neg h2]
      by_cases h3 : (y 0).val < 96
      · rw [if_pos h3]
        refine (View.canon_cons_of_not_mem _ _ ?_).trans ?_
        · exact out 96 (by omega) i4
        refine (congrArg _ (on 64 (by omega) (by omega) i3)).trans ?_
        exact View.canon_cons_emb _ _ _ _
      · rw [if_neg h3]
        refine (congrArg _ (on 96 (by omega) (by omega) i4)).trans ?_
        exact View.canon_cons_emb _ _ _ _

end Cert.LruKernelIdeal.Whole

end
-- ==== Proof.LruScalar.lean ====
module

public import proofs.«01_k».proof.Proof.LruRef

@[expose] public section

noncomputable section

open Idealize.ShloMosaic

namespace Cert.LruReferenceIdeal.Closed

/-- The word of eight. -/
theorem eight_nonneg : 0 ≤ Ideal.ofBits FTy.f32 1090519040#32 := by
  simp [Ideal.ofBits, Ideal.ieee]
  norm_num [Nat.shiftRight_eq_div_pow]
  exact EReal.mul_nonneg_iff.mpr (Or.inl ⟨EReal.coe_nonneg.mpr (by norm_num), EReal.coe_nonneg.mpr (by norm_num)⟩)

/-- The word of two. -/
theorem two_nonneg : 0 ≤ Ideal.ofBits FTy.f32 1073741824#32 := by
  simp [Ideal.ofBits, Ideal.ieee]
  norm_num [Nat.shiftRight_eq_div_pow]
  exact EReal.mul_nonneg_iff.mpr (Or.inl ⟨EReal.coe_nonneg.mpr (by norm_num), EReal.coe_nonneg.mpr (by norm_num)⟩)

/-- The word of minus one. -/
theorem neg_one : Ideal.ofBits FTy.f32 3212836864#32 = -1 := IdealRules.sign_bit.ideal_negOnePat .f32

/-- The exponential is not negative. -/
theorem exp_nonneg (x : EReal) : 0 ≤ Ideal.exp x := by
  induction x with
  | bot => exact le_refl _
  | top => exact le_top
  | coe r => exact EReal.coe_nonneg.mpr (Real.exp_pos r).le

/-- The logistic function is not negative. -/
theorem sig1_nonneg (x : EReal) : 0 ≤ sig1 x := by
  unfold sig1 Ideal.div
  have h := exp_nonneg (-x)
  have h1 : (0 : EReal) < 1 + Ideal.exp (-x) := lt_of_lt_of_le zero_lt_one (le_add_of_nonneg_right h)
  rw [if_neg h1.ne', one_mul]
  exact EReal.inv_nonneg_of_nonneg h1.le

/-- The logarithm of one plus a number that is not negative. -/
theorem log1p_nonneg (x : EReal) (hx : 0 ≤ x) : 0 ≤ Ideal.log1p x := by
  unfold Ideal.log1p
  induction x with
  | bot => exact absurd hx (by simp)
  | top =>
    rw [EReal.add_top_of_ne_bot (by decide)]
    exact le_top
  | coe r =>
    have hr : 0 ≤ r := EReal.coe_nonneg.mp hx
    have e : (1 : EReal) + (r : EReal) = ((1 + r : ℝ) : EReal) := by norm_cast
    rw [e]
    unfold Ideal.log
    show 0 ≤ (if 1 + r ≤ 0 then (⊥ : EReal) else (Real.log (1 + r) : EReal))
    rw [if_neg (by linarith)]
    exact EReal.coe_nonneg.mpr (Real.log_nonneg (by linarith))

/-- The logarithm of the logistic function is not positive. -/
theorem logSig1_nonpos (x : EReal) : logSig1 x ≤ 0 := by
  unfold logSig1
  have h : 0 ≤ max (-x) 0 + Ideal.log1p (Ideal.exp (-FloatOps.absf (F := Ideal) (φ := .f32) (-x))) :=
    add_nonneg (le_max_right _ _) (log1p_nonneg _ (exp_nonneg _))
  have := EReal.neg_le_neg_iff.mpr h
  simpa using this

/-- Twice the logarithm of the decay is not positive. -/
theorem twice_nonpos (x l : EReal) : Ideal.ofBits FTy.f32 1073741824#32 * (Ideal.ofBits FTy.f32 1090519040#32 * sig1 x * logSig1 l) ≤ 0 := by
  have h1 : 0 ≤ Ideal.ofBits FTy.f32 1090519040#32 * sig1 x := EReal.mul_nonneg_iff.mpr (Or.inl ⟨eight_nonneg, sig1_nonneg x⟩)
  have h2 : Ideal.ofBits FTy.f32 1090519040#32 * sig1 x * logSig1 l ≤ 0 := EReal.mul_nonpos_iff.mpr (Or.inl ⟨h1, logSig1_nonpos l⟩)
  exact EReal.mul_nonpos_iff.mpr (Or.inl ⟨two_nonneg, h2⟩)

/-- The exponential less one, as the kernel computes it from `x` and `exp x`. -/
def em1 (x : EReal) : EReal :=
  if Ideal.exp x = 1 then x
  else if Ideal.exp x - 1 = Ideal.ofBits FTy.f32 3212836864#32 then Ideal.ofBits FTy.f32 3212836864#32
  else Ideal.div ((Ideal.exp x - 1) * x) (if Ideal.exp x = 1 then 1 else Ideal.log (Ideal.exp x))

/-- At a number that is not positive it is the exponential less one. -/
theorem em1_eq (x : EReal) (hx : x ≤ 0) : em1 x = Ideal.exp x - 1 := by
  unfold em1
  split_ifs with h1 h2
  · induction x with
    | bot => exact absurd (show (0 : EReal) = 1 from h1) zero_ne_one
    | top => exact absurd hx (by simp)
    | coe r =>
      have e : Ideal.exp (r : EReal) = (Real.exp r : EReal) := rfl
      rw [e] at h1 ⊢
      have h3 : Real.exp r = 1 := by exact_mod_cast h1
      have h4 : r = 0 := Real.exp_eq_one_iff r |>.mp h3
      subst h4
      rw [Real.exp_zero, ← EReal.coe_one, ← EReal.coe_sub, sub_self]
  · exact h2.symm
  · induction x with
    | bot =>
      refine absurd ?_ h2
      rw [neg_one]
      show (0 : EReal) - 1 = -1
      simp
    | top => exact absurd hx (by simp)
    | coe r =>
      have e : Ideal.exp (r : EReal) = (Real.exp r : EReal) := rfl
      rw [e] at h1 ⊢
      have h3 : Real.exp r ≠ 1 := fun h => h1 (by exact_mod_cast h)
      have h4 : r ≠ 0 := fun h => h3 (by rw [h, Real.exp_zero])
      have el : Ideal.log ((Real.exp r : ℝ) : EReal) = (r : EReal) := by
        unfold Ideal.log
        show (if Real.exp r ≤ 0 then (⊥ : EReal) else (Real.log (Real.exp r) : EReal)) = _
        rw [if_neg (not_le.mpr (Real.exp_pos r)), Real.log_exp]
      rw [el]
      unfold Ideal.div
      have h5 : (r : EReal) ≠ 0 := by exact_mod_cast h4
      rw [if_neg h5]
      have e2 : ((Real.exp r : ℝ) : EReal) - 1 = ((Real.exp r - 1 : ℝ) : EReal) := by norm_cast
      rw [e2, ← EReal.coe_mul, ← EReal.coe_inv, ← EReal.coe_mul]
      congr 1
      field_simp

end Cert.LruReferenceIdeal.Closed

end
-- ==== Proof.LruGate.lean ====
module

public import proofs.«01_k».proof.Proof.Gen.LruKernelIdeal.Frame
public import proofs.«01_k».proof.Proof.LruScalar
public import proofs.«01_k».proof.Proof.LruScan

@[expose] public section

set_option maxRecDepth 16384

noncomputable section

open Idealize.ShloMosaic Idealize.ShloMosaic.TcCoe Idealize.SL.Sem
open Idealize.ShloMosaic.Pipeline (Dat)
open scoped BigOperators

namespace Cert.LruKernelIdeal.Whole

open Cert.LruKernelIdeal Cert.LruKernelIdeal.Gen Cert.LruReferenceIdeal.Closed

open RowLoads

section
variable (v32 : FVec Ideal S1x2048 .f32) (v33 : FVec Ideal S128x2048 .f32) (v34 : FVec Ideal S1x2048 .f32) (v39 : FVec Ideal S128x2048 .f32)
  (v40 : FVec Ideal S1x2048 .f32) (v44 : FVec Ideal S128x2048 .f32) (v45 : FVec Ideal S1x2048 .f32) (v49 : FVec Ideal S128x2048 .f32) (v50 : FVec Ideal S1x2048 .f32)

/-- Block `n` of the eight, as a load of a weight block. -/
abbrev wblk (W : FVec Ideal S8x256x256 .bf16) (n : Nat) (inb : ∀ a, (![n, 0, 0] : Fin 3 → Nat) a + (![1, 256, 256] : Fin 3 → Nat) a ≤ S8x256x256.size a) :
    FVec Ideal S1x256x256 .bf16 := View.ld (Val := Elt Ideal) (e' := .bf16) W (Rect.unit (s := S8x256x256) ![n, 0, 0] ![1, 256, 256] inb)

theorem wblk_at (W : FVec Ideal S8x256x256 .bf16) (n : Nat) (hn : n < 8) (inb) (k l : Fin 256) : wblk W n inb (ix3 0 k l) = W (ix3 ⟨n, hn⟩ k l) := by
  show W _ = W _
  refine congrArg W ?_
  funext a; apply Fin.ext
  fin_cases a
  · show n + 1 * 0 = n; omega
  · show 0 + 1 * k.val = k.val; omega
  · show 0 + 1 * l.val = l.val; omega

/-- The sum of one block is the sum of the block that holds the channel. -/
theorem term (x : FVec Ideal S128x2048 .bf16) (W : FVec Ideal S8x256x256 .bf16) (r : Fin 128) (j : Fin 2048) (n : Nat) (hn : n < 8)
    (hj : j.val / 256 = n) (inb) (l : Fin 256) (hl : l.val = j.val % 256) (c : Fin 256 → Fin 2048) (hc : ∀ k, (c k).val = n * 256 + k.val) :
    ∑ k : Fin 256, x (ix2 r (c k)) * wblk W n inb (ix3 0 k l)
      = ∑ k : Fin 256, x (ix2 r ⟨j.val / 256 * 256 + k.val, by omega⟩) * W (ix3 ⟨j.val / 256, by omega⟩ k ⟨j.val % 256, by omega⟩) := by
  subst hj
  refine Finset.sum_congr rfl fun k _ => ?_
  rw [wblk_at W _ hn inb k l]
  have e1 : c k = ⟨j.val / 256 * 256 + k.val, by omega⟩ := Fin.ext (hc k)
  have e2 : l = ⟨j.val % 256, by omega⟩ := Fin.ext hl
  rw [e1]
  exact congrArg (fun z => x (ix2 r ⟨j.val / 256 * 256 + k.val, by omega⟩) * W (ix3 ⟨j.val / 256, by omega⟩ k z)) e2

/-- The first projection by eight blocks. -/
def gateA (W : FVec Ideal S8x256x256 .bf16) : FVec Ideal S128x2048 .f32 :=
  k0_pay17 (k0_pay12 v32 v33 v34 v39 v40 v44 v45 v49 v50)
    (k0_pay13 v32 v33 v34 v39 v40 v44 v45 v49 v50 (wblk W 0 inb_S8x256x256_S1x256x256_0_0_0))
    (k0_pay14 v32 v33 v34 v39 v40 v44 v45 v49 v50 (wblk W 1 inb_S8x256x256_S1x256x256_1_0_0))
    (k0_pay15 v32 v33 v34 v39 v40 v44 v45 v49 v50 (wblk W 2 inb_S8x256x256_S1x256x256_2_0_0))
    (k0_pay16 v32 v33 v34 v39 v40 v44 v45 v49 v50)
    (wblk W 3 inb_S8x256x256_S1x256x256_3_0_0) (wblk W 4 inb_S8x256x256_S1x256x256_4_0_0) (wblk W 5 inb_S8x256x256_S1x256x256_5_0_0)
    (wblk W 6 inb_S8x256x256_S1x256x256_6_0_0) (wblk W 7 inb_S8x256x256_S1x256x256_7_0_0)

theorem gateA_at (W : FVec Ideal S8x256x256 .bf16) (r : Fin 128) (j : Fin 2048) :
    gateA v32 v33 v34 v39 v40 v44 v45 v49 v50 W (ix2 r j)
      = ∑ k : Fin 256, (k0_pay12 v32 v33 v34 v39 v40 v44 v45 v49 v50) (ix2 r ⟨j.val / 256 * 256 + k.val, by omega⟩) * W (ix3 ⟨j.val / 256, by omega⟩ k ⟨j.val % 256, by omega⟩) := by
  unfold gateA
  pointwise [k0_pay17, k0_pay13, k0_pay14, k0_pay15, k0_pay16]
  generalize k0_pay12 v32 v33 v34 v39 v40 v44 v45 v49 v50 = x
  by_cases h0 : j.val < 256
  · rw [dif_pos h0]
    refine term x W r j 0 (by omega) ?_ _ _ ?_ _ ?_
    · omega
    · dsimp only; omega
    · intro k; dsimp only; omega
  rw [dif_neg h0]
  by_cases h1 : j.val - 256 < 256
  · rw [dif_pos h1]
    refine term x W r j 1 (by omega) ?_ _ _ ?_ _ ?_
    · omega
    · dsimp only; omega
    · intro k; rfl
  rw [dif_neg h1]
  by_cases h2 : j.val - 256 - 256 < 256
  · rw [dif_pos h2]
    refine term x W r j 2 (by omega) ?_ _ _ ?_ _ ?_
    · omega
    · dsimp only; omega
    · intro k; rfl
  rw [dif_neg h2]
  by_cases h3 : j.val - 256 - 256 - 256 < 256
  · rw [dif_pos h3]
    refine term x W r j 3 (by omega) ?_ _ _ ?_ _ ?_
    · omega
    · dsimp only; omega
    · intro k; rfl
  rw [dif_neg h3]
  by_cases h4 : j.val - 256 - 256 - 256 - 256 < 256
  · rw [dif_pos h4]
    refine term x W r j 4 (by omega) ?_ _ _ ?_ _ ?_
    · omega
    · dsimp only; omega
    · intro k; rfl
  rw [dif_neg h4]
  by_cases h5 : j.val - 256 - 256 - 256 - 256 - 256 < 256
  · rw [dif_pos h5]
    refine term x W r j 5 (by omega) ?_ _ _ ?_ _ ?_
    · omega
    · dsimp only; omega
    · intro k; rfl
  rw [dif_neg h5]
  by_cases h6 : j.val - 256 - 256 - 256 - 256 - 256 - 256 < 256
  · rw [dif_pos h6]
    refine term x W r j 6 (by omega) ?_ _ _ ?_ _ ?_
    · omega
    · dsimp only; omega
    · intro k; rfl
  rw [dif_neg h6]
  refine term x W r j 7 (by omega) ?_ _ _ ?_ _ ?_
  · omega
  · dsimp only; omega
  · intro k; rfl

end

/-- The second projection by eight blocks, through the logistic function. -/
def gateX (x : FVec Ideal S128x2048 .bf16) (W : FVec Ideal S8x256x256 .bf16) (b : FVec Ideal S1x2048 .f32) : FVec Ideal S128x2048 .f32 :=
  k0_pay22 x (k0_pay18 x (wblk W 0 inb_S8x256x256_S1x256x256_0_0_0)) (k0_pay19 x (wblk W 1 inb_S8x256x256_S1x256x256_1_0_0)) (k0_pay20 x)
    (k0_pay21 (wblk W 2 inb_S8x256x256_S1x256x256_2_0_0)) (constant S128x256 FTy.f32 0#32)
    (wblk W 3 inb_S8x256x256_S1x256x256_3_0_0) (wblk W 4 inb_S8x256x256_S1x256x256_4_0_0) (wblk W 5 inb_S8x256x256_S1x256x256_5_0_0)
    (wblk W 6 inb_S8x256x256_S1x256x256_6_0_0) (wblk W 7 inb_S8x256x256_S1x256x256_7_0_0) b

theorem gateX_at (x : FVec Ideal S128x2048 .bf16) (W : FVec Ideal S8x256x256 .bf16) (b : FVec Ideal S1x2048 .f32)  (r : Fin 128) (j : Fin 2048) :
    gateX x W b (ix2 r j) = sig1 (∑ k : Fin 256, x (ix2 r ⟨j.val / 256 * 256 + k.val, by omega⟩) * W (ix3 ⟨j.val / 256, by omega⟩ k ⟨j.val % 256, by omega⟩) + b (ix2 0 j)) := by
  unfold gateX
  pointwise [k0_pay22, k0_pay18, k0_pay19, k0_pay20, k0_pay21]
  show sig1 _ = sig1 _
  refine congrArg sig1 (congrArg (· + b (ix2 0 j)) ?_)
  by_cases h0 : j.val < 256
  · rw [dif_pos h0]
    refine term x W r j 0 (by omega) ?_ _ _ ?_ _ ?_
    · omega
    · dsimp only; omega
    · intro k; dsimp only; omega
  rw [dif_neg h0]
  by_cases h1 : j.val - 256 < 256
  · rw [dif_pos h1]
    refine term x W r j 1 (by omega) ?_ _ _ ?_ _ ?_
    · omega
    · dsimp only; omega
    · intro k; rfl
  rw [dif_neg h1]
  by_cases h2 : j.val - 256 - 256 < 256
  · rw [dif_pos h2]
    refine term x W r j 2 (by omega) ?_ _ _ ?_ _ ?_
    · omega
    · dsimp only; omega
    · intro k; rfl
  rw [dif_neg h2]
  by_cases h3 : j.val - 256 - 256 - 256 < 256
  · rw [dif_pos h3]
    refine term x W r j 3 (by omega) ?_ _ _ ?_ _ ?_
    · omega
    · dsimp only; omega
    · intro k; rfl
  rw [dif_neg h3]
  by_cases h4 : j.val - 256 - 256 - 256 - 256 < 256
  · rw [dif_pos h4]
    refine term x W r j 4 (by omega) ?_ _ _ ?_ _ ?_
    · omega
    · dsimp only; omega
    · intro k; rfl
  rw [dif_neg h4]
  by_cases h5 : j.val - 256 - 256 - 256 - 256 - 256 < 256
  · rw [dif_pos h5]
    refine term x W r j 5 (by omega) ?_ _ _ ?_ _ ?_
    · omega
    · dsimp only; omega
    · intro k; rfl
  rw [dif_neg h5]
  by_cases h6 : j.val - 256 - 256 - 256 - 256 - 256 - 256 < 256
  · rw [dif_pos h6]
    refine term x W r j 6 (by omega) ?_ _ _ ?_ _ ?_
    · omega
    · dsimp only; omega
    · intro k; rfl
  rw [dif_neg h6]
  refine term x W r j 7 (by omega) ?_ _ _ ?_ _ ?_
  · omega
  · dsimp only; omega
  · intro k; rfl

/-- Eight times the gate. -/
theorem pay23_at (g : FVec Ideal S128x2048 .f32) (b : FVec Ideal S1x2048 .f32) (r : Fin 128) (j : Fin 2048) :
    k0_pay23 g b (ix2 r j) = Ideal.ofBits FTy.f32 1090519040#32 * sig1 (g (ix2 r j) + b (ix2 0 j)) := by
  pointwise [k0_pay23]
  rfl

/-- The channel's logarithm, repeated along the rows. -/
theorem pay24_at (l : FVec Ideal S1x2048 .f32) (r : Fin 128) (j : Fin 2048) : k0_pay24 (F := Ideal) (k0_pay9 l) (ix2 r j) = logSig1 (l (ix2 0 j)) := by
  pointwise [k0_pay24, k0_pay9]
  rw [if_neg (fun h => h rfl)]
  unfold logSig1
  simp only [zero_sub]

/-- The decay. -/
def decayK (g : FVec Ideal S128x2048 .f32) (b l : FVec Ideal S1x2048 .f32) : FVec Ideal S128x2048 .f32 :=
  k0_pay26 (k0_pay23 g b) (k0_pay24 (k0_pay9 l))

theorem decayK_at (g : FVec Ideal S128x2048 .f32) (b l : FVec Ideal S1x2048 .f32) (r : Fin 128) (j : Fin 2048) :
    decayK g b l (ix2 r j) = Ideal.exp (Ideal.ofBits FTy.f32 1090519040#32 * sig1 (g (ix2 r j) + b (ix2 0 j)) * logSig1 (l (ix2 0 j))) := by
  unfold decayK
  pointwise [k0_pay26, k0_pay25]
  rw [pay23_at, pay24_at]

/-- The drive. -/
def driveK (x s : FVec Ideal S128x2048 .f32) (g : FVec Ideal S128x2048 .f32) (b l : FVec Ideal S1x2048 .f32) : FVec Ideal S128x2048 .f32 :=
  k0_pay27 x s (k0_pay23 g b) (k0_pay24 (k0_pay9 l))

theorem driveK_at (x s : FVec Ideal S128x2048 .f32) (g : FVec Ideal S128x2048 .f32) (b l : FVec Ideal S1x2048 .f32) (r : Fin 128) (j : Fin 2048) :
    driveK x s g b l (ix2 r j) = Ideal.sqrt (-(Ideal.exp (Ideal.ofBits FTy.f32 1073741824#32
        * (Ideal.ofBits FTy.f32 1090519040#32 * sig1 (g (ix2 r j) + b (ix2 0 j)) * logSig1 (l (ix2 0 j)))) - 1)) * (s (ix2 r j) * x (ix2 r j)) := by
  unfold driveK
  pointwise [k0_pay27, k0_pay25]
  rw [pay23_at, pay24_at]
  refine Eq.trans (congrArg (fun z => Ideal.sqrt (0 - z) * (s (ix2 r j) * x (ix2 r j))) (em1_eq _ (twice_nonpos _ _))) ?_
  simp only [zero_sub]

theorem pay11_at (v32 : FVec Ideal S1x2048 .f32) (v33 : FVec Ideal S128x2048 .f32) (v34 : FVec Ideal S1x2048 .f32) (v39 : FVec Ideal S128x2048 .f32)
  (v40 : FVec Ideal S1x2048 .f32) (v44 : FVec Ideal S128x2048 .f32) (v45 : FVec Ideal S1x2048 .f32) (v49 : FVec Ideal S128x2048 .f32) (v50 : FVec Ideal S1x2048 .f32)
  (r : Fin 128) (j : Fin 2048) : k0_pay11 v32 v33 v34 v39 v40 v44 v45 v49 v50 (ix2 r j) = v32 (ix2 0 j) + v33 (ix2 r j) * v34 (ix2 0 j) + v39 (ix2 r j) * v40 (ix2 0 j) + v44 (ix2 r j) * v45 (ix2 0 j) + v49 (ix2 r j) * v50 (ix2 0 j)
    ∧ k0_pay12 v32 v33 v34 v39 v40 v44 v45 v49 v50 (ix2 r j) = k0_pay11 v32 v33 v34 v39 v40 v44 v45 v49 v50 (ix2 r j):= by
  constructor
  · pointwise [k0_pay11]
  · pointwise [k0_pay12]

end Cert.LruKernelIdeal.Whole

end
-- ==== Proof.LruBlocks.lean ====
module

public import proofs.«01_k».proof.Proof.Gen.LruKernelIdeal.Frame
public import proofs.«01_k».proof.Proof.LruRef
public import proofs.«01_k».proof.Proof.LruScan
public import proofs.«01_k».proof.Proof.LruGate

@[expose] public section

set_option maxRecDepth 16384

noncomputable section

open Idealize.ShloMosaic Idealize.ShloMosaic.TcCoe Idealize.SL.Sem
open Idealize.ShloMosaic.Pipeline (Dat)
open scoped BigOperators

namespace Cert.LruKernelIdeal.Whole

open Cert.LruKernelIdeal Cert.LruKernelIdeal.Gen Cert.LruReferenceIdeal.Closed

open RowLoads

variable (m : (ℓ : Loc nD τ sig) → Buf (Elt Ideal) ℓ)

/-- Every window's block index: the grid has one point. -/
theorem idx : ∀ t : Fin cfg0.N, win0_0.index t = ![0, 0]
    ∧ win0_1.index t = ![0, 1]
    ∧ win0_2.index t = ![0, 0, 0]
    ∧ win0_3.index t = ![0, 0, 0]
    ∧ win0_4.index t = ![0, 0]
    ∧ win0_5.index t = ![0, 0]
    ∧ win0_6.index t = ![0, 0, 0]
    ∧ win0_7.index t = ![0, 0]
    ∧ win0_8.index t = ![0, 0, 0]
    ∧ win0_9.index t = ![0, 0]
    ∧ win0_10.index t = ![0, 0]
    ∧ win0_11.index t = ![0, 0]
    ∧ win0_12.index t = ![0, 0, 0]
    ∧ win0_13.index t = ![0, 0, 0] :=
  (by decide +kernel : ∀ t : Fin grid0.N, _)

section
variable (c : Dev nD) (t : Fin cfg0.N)

/-- The gate block: rows by step, then sequence. -/
theorem blk0 (r : Fin 128) (j : Fin 2048) : (show FVec Ideal S128x2048 .f32 from iblk m c 0 t) (ix2 r j)
    = (show FVec Ideal S32x4x4096 .f32 from m ((c : Thread nD τ).loc main_arg0)) (ix3 ⟨r.val % 32, by omega⟩ ⟨r.val / 32, by omega⟩ ⟨j.val, by omega⟩) := by
  have e : ((cfg0.win 0).blk t).view.emb (ix2 r j) = ix2 r ⟨j.val, by omega⟩ := by blk_ext [idx t]
  refine (congrArg (V m c main_v1) e).trans ?_
  entry_read
  pointwise []

/-- The input block. -/
theorem blk1 (r : Fin 128) (j : Fin 2048) : (show FVec Ideal S128x2048 .f32 from iblk m c 1 t) (ix2 r j)
    = (show FVec Ideal S32x4x4096 .f32 from m ((c : Thread nD τ).loc main_arg0)) (ix3 ⟨r.val % 32, by omega⟩ ⟨r.val / 32, by omega⟩ ⟨2048 + j.val, by omega⟩) := by
  have e : ((cfg0.win 1).blk t).view.emb (ix2 r j) = ix2 r ⟨2048 + j.val, by omega⟩ := by blk_ext [idx t]
  refine (congrArg (V m c main_v1) e).trans ?_
  entry_read
  pointwise []

/-- The kept inputs. -/
theorem blk2 (r : Fin 96) (j : Fin 2048) : (show FVec Ideal S1x96x2048 .f32 from iblk m c 2 t) (ix3 0 r j)
    = (show FVec Ideal S32x3x2048 .f32 from m ((c : Thread nD τ).loc main_arg1)) (ix3 ⟨r.val % 32, by omega⟩ ⟨r.val / 32, by omega⟩ j) := by
  have e : ((cfg0.win 2).blk t).view.emb (ix3 0 r j) = ix3 0 r j := by blk_ext [idx t]
  refine (congrArg (V m c main_v3) e).trans ?_
  entry_read
  pointwise []

/-- The first state. -/
theorem blk3 (r : Fin 32) (j : Fin 2048) : (show FVec Ideal S1x32x2048 .f32 from iblk m c 3 t) (ix3 0 r j)
    = (show FVec Ideal S32x2048 .f32 from m ((c : Thread nD τ).loc main_arg2)) (ix2 r j) := by
  have e : ((cfg0.win 3).blk t).view.emb (ix3 0 r j) = ix3 0 r j := by blk_ext [idx t]
  refine (congrArg (V m c main_v4) e).trans ?_
  entry_read
  pointwise []

/-- The convolution's weights. -/
theorem blk4 : (show FVec Ideal S4x2048 .f32 from iblk m c 4 t)
    = (show FVec Ideal S4x2048 .f32 from m ((c : Thread nD τ).loc main_arg3)) := by
  funext y
  have e : ((cfg0.win 4).blk t).view.emb y = y := by blk_ext [idx t]
  exact congrArg (V m c main_arg3) e

/-- The first blocks of weights. -/
theorem blk6 : (show FVec Ideal S8x256x256 .bf16 from iblk m c 6 t)
    = (show FVec Ideal S8x256x256 .f32 from m ((c : Thread nD τ).loc main_arg5)) := by
  funext y
  have e : ((cfg0.win 6).blk t).view.emb y = y := by blk_ext [idx t]
  refine (congrArg (V m c main_v5) e).trans ?_
  entry_read
  pointwise []

/-- The second blocks of weights. -/
theorem blk8 : (show FVec Ideal S8x256x256 .bf16 from iblk m c 8 t)
    = (show FVec Ideal S8x256x256 .f32 from m ((c : Thread nD τ).loc main_arg7)) := by
  funext y
  have e : ((cfg0.win 8).blk t).view.emb y = y := by blk_ext [idx t]
  refine (congrArg (V m c main_v6) e).trans ?_
  entry_read
  pointwise []

/-- The convolution's bias. -/
theorem blk5 (j : Fin 2048) : (show FVec Ideal S1x2048 .f32 from iblk m c 5 t) (ix2 0 j)
    = (show FVec Ideal S2048 .f32 from m ((c : Thread nD τ).loc main_arg4)) (ix1 j) := by
  have e : ((cfg0.win 5).blk t).view.emb (ix2 0 j) = ix2 0 j := by blk_ext [idx t]
  refine (congrArg (V m c main_v7) e).trans ?_
  entry_read
  pointwise []

/-- The first bias. -/
theorem blk7 (j : Fin 2048) : (show FVec Ideal S1x2048 .f32 from iblk m c 7 t) (ix2 0 j)
    = (show FVec Ideal S2048 .f32 from m ((c : Thread nD τ).loc main_arg6)) (ix1 j) := by
  have e : ((cfg0.win 7).blk t).view.emb (ix2 0 j) = ix2 0 j := by blk_ext [idx t]
  refine (congrArg (V m c main_v8) e).trans ?_
  entry_read
  pointwise []

/-- The second bias. -/
theorem blk9 (j : Fin 2048) : (show FVec Ideal S1x2048 .f32 from iblk m c 9 t) (ix2 0 j)
    = (show FVec Ideal S2048 .f32 from m ((c : Thread nD τ).loc main_arg8)) (ix1 j) := by
  have e : ((cfg0.win 9).blk t).view.emb (ix2 0 j) = ix2 0 j := by blk_ext [idx t]
  refine (congrArg (V m c main_v9) e).trans ?_
  entry_read
  pointwise []

/-- The channel's parameter. -/
theorem blk10 (j : Fin 2048) : (show FVec Ideal S1x2048 .f32 from iblk m c 10 t) (ix2 0 j)
    = (show FVec Ideal S2048 .f32 from m ((c : Thread nD τ).loc main_arg9)) (ix1 j) := by
  have e : ((cfg0.win 10).blk t).view.emb (ix2 0 j) = ix2 0 j := by blk_ext [idx t]
  refine (congrArg (V m c main_v10) e).trans ?_
  entry_read
  pointwise []

end

end Cert.LruKernelIdeal.Whole

end
-- ==== Proof.LruPoint.lean ====
module

public import proofs.«01_k».proof.Proof.Gen.LruKernelIdeal.Frame
public import proofs.«01_k».proof.Proof.LruScan
public import proofs.«01_k».proof.Proof.LruGate
public import proofs.«01_k».proof.Proof.LruBlocks

@[expose] public section

set_option maxRecDepth 16384

noncomputable section

open Idealize.ShloMosaic Idealize.ShloMosaic.TcCoe Idealize.SL.Sem
open Idealize.ShloMosaic.Pipeline (Dat)
open scoped BigOperators

namespace Cert.LruKernelIdeal.Whole

open Cert.LruKernelIdeal Cert.LruKernelIdeal.Gen Cert.LruReferenceIdeal.Closed

open RowLoads

variable (m : (ℓ : Loc nD τ sig) → Buf (Elt Ideal) ℓ)

section
variable (c : Dev nD) (t : Fin cfg0.N)

/-- The input scratch's contents. -/
def IN : FVec Ideal S224x2048 .f32 := inputs (k0_pay8 (iblk m c 1 t)) (k0_pay5 (iblk m c 2 t))

/-- A row of the convolution's weights, as a load of its block. -/
abbrev tap (n : Nat) (inb : ∀ a, (![n, 0] : Fin 2 → Nat) a + (![1, 2048] : Fin 2 → Nat) a ≤ S4x2048.size a) : FVec Ideal S1x2048 .f32 :=
  View.ld (Val := Elt Ideal) (e' := .f32) (show FVec Ideal S4x2048 .f32 from iblk m c 4 t) (Rect.unit (s := S4x2048) ![n, 0] ![1, 2048] inb)

/-- The convolution. -/
def XC : FVec Ideal S128x2048 .f32 := k0_pay11 (k0_pay10 (iblk m c 5 t)) (rowsFrom 128 (IN m c t) 0 (by omega)) (tap m c t 0 inb_S4x2048_S1x2048_0_0) (rowsFrom 128 (IN m c t) 32 (by omega)) (tap m c t 1 inb_S4x2048_S1x2048_1_0) (rowsFrom 128 (IN m c t) 64 (by omega)) (tap m c t 2 inb_S4x2048_S1x2048_2_0) (rowsFrom 128 (IN m c t) 96 (by omega)) (tap m c t 3 inb_S4x2048_S1x2048_3_0)
/-- The convolution, as the projections read it. -/
def XB : FVec Ideal S128x2048 .bf16 := k0_pay12 (k0_pay10 (iblk m c 5 t)) (rowsFrom 128 (IN m c t) 0 (by omega)) (tap m c t 0 inb_S4x2048_S1x2048_0_0) (rowsFrom 128 (IN m c t) 32 (by omega)) (tap m c t 1 inb_S4x2048_S1x2048_1_0) (rowsFrom 128 (IN m c t) 64 (by omega)) (tap m c t 2 inb_S4x2048_S1x2048_2_0) (rowsFrom 128 (IN m c t) 96 (by omega)) (tap m c t 3 inb_S4x2048_S1x2048_3_0)
/-- The first projection. -/
def GA : FVec Ideal S128x2048 .f32 := gateA (k0_pay10 (iblk m c 5 t)) (rowsFrom 128 (IN m c t) 0 (by omega)) (tap m c t 0 inb_S4x2048_S1x2048_0_0) (rowsFrom 128 (IN m c t) 32 (by omega)) (tap m c t 1 inb_S4x2048_S1x2048_1_0) (rowsFrom 128 (IN m c t) 64 (by omega)) (tap m c t 2 inb_S4x2048_S1x2048_2_0) (rowsFrom 128 (IN m c t) 96 (by omega)) (tap m c t 3 inb_S4x2048_S1x2048_3_0) (iblk m c 6 t)
/-- The decays. -/
def AK : FVec Ideal S128x2048 .f32 := decayK (GA m c t) (iblk m c 7 t) (iblk m c 10 t)
/-- The drives. -/
def DK : FVec Ideal S128x2048 .f32 := driveK (XC m c t) (gateX (XB m c t) (iblk m c 8 t) (iblk m c 9 t)) (GA m c t) (iblk m c 7 t) (iblk m c 10 t)
/-- The first state. -/
def H0 : FVec Ideal S32x2048 .f32 := k0_pay6 (iblk m c 3 t)

/-- The input scratch holds the reference's inputs, step by step. -/
theorem in_at (r : Fin 224) (j : Fin 2048) : IN m c t (ix2 r j)
    = ext (m ((c : Thread nD τ).loc main_arg0)) (m ((c : Thread nD τ).loc main_arg1)) (ix3 ⟨r.val % 32, by omega⟩ ⟨r.val / 32, by omega⟩ j) := by
  rw [ext_at]
  unfold IN inputs
  by_cases h : r.val < 96
  · have h' : r.val / 32 < 3 := by omega
    rw [dif_pos (show ((ix2 r j : S224x2048.Idx) 0).val < 96 from h), dif_pos h']
    pointwise [k0_pay5]
    exact blk2 m c t ⟨r.val, h⟩ j
  · have h' : ¬r.val / 32 < 3 := by omega
    rw [dif_neg (show ¬((ix2 r j : S224x2048.Idx) 0).val < 96 from h), dif_neg h']
    pointwise [k0_pay8]
    refine (blk1 m c t ⟨r.val - 96, by omega⟩ j).trans ?_
    have e1 : (r.val - 96) % 32 = r.val % 32 := by omega
    have e2 : (r.val - 96) / 32 = r.val / 32 - 3 := by omega
    simp only [e1, e2]

/-- A weight of the convolution. -/
theorem tap_at (n : Nat) (hn : n < 4) (inb) (j : Fin 2048) : tap m c t n inb (ix2 0 j)
    = (show FVec Ideal S4x2048 .f32 from (m ((c : Thread nD τ).loc main_arg3))) (ix2 ⟨n, hn⟩ j) := by
  unfold tap
  rw [blk4]
  show (show FVec Ideal S4x2048 .f32 from (m ((c : Thread nD τ).loc main_arg3))) _ = _
  refine congrArg (show FVec Ideal S4x2048 .f32 from (m ((c : Thread nD τ).loc main_arg3))) ?_
  funext a; apply Fin.ext
  fin_cases a
  · show n + 1 * 0 = n; omega
  · show 0 + 1 * j.val = j.val; omega

/-- The kernel's convolution is the reference's. -/
theorem xc_at (r : Fin 128) (j : Fin 2048) : XC m c t (ix2 r j)
    = CONV (m ((c : Thread nD τ).loc main_arg0)) (m ((c : Thread nD τ).loc main_arg1)) (m ((c : Thread nD τ).loc main_arg3)) (m ((c : Thread nD τ).loc main_arg4)) (ix3 ⟨r.val % 32, by omega⟩ ⟨r.val / 32, by omega⟩ j) := by
  have rd : ∀ (o : Nat) (h : o + 128 ≤ 224) (h' : o % 32 = 0) (hq : o / 32 + r.val / 32 < 7), rowsFrom 128 (IN m c t) o h (ix2 r j)
      = ext (m ((c : Thread nD τ).loc main_arg0)) (m ((c : Thread nD τ).loc main_arg1)) (ix3 ⟨r.val % 32, by omega⟩ ⟨o / 32 + r.val / 32, hq⟩ j) := by
    intro o h h' hq
    refine (in_at m c t ⟨o + r.val, by omega⟩ j).trans ?_
    have e1 : (o + r.val) % 32 = r.val % 32 := by omega
    have e2 : (o + r.val) / 32 = o / 32 + r.val / 32 := by omega
    simp only [e1, e2]
  unfold XC CONV
  rw [(pay11_at _ _ _ _ _ _ _ _ _ r j).1, conv_at, rd 0 (by omega) (by omega) (by omega), rd 32 (by omega) (by omega) (by omega),
    rd 64 (by omega) (by omega) (by omega), rd 96 (by omega) (by omega) (by omega), tap_at m c t 0 (by omega), tap_at m c t 1 (by omega),
    tap_at m c t 2 (by omega), tap_at m c t 3 (by omega)]
  have eb : k0_pay10 (iblk m c 5 t) (ix2 0 j) = (show FVec Ideal S2048 .f32 from (m ((c : Thread nD τ).loc main_arg4))) (ix1 j) := by
    pointwise [k0_pay10]; exact blk5 m c t j
  rw [eb]
  simp only [Nat.zero_div, Nat.zero_add]
  rfl

/-- and as the projections read it. -/
theorem xb_at (r : Fin 128) (j : Fin 2048) : XB m c t (ix2 r j)
    = CONV (m ((c : Thread nD τ).loc main_arg0)) (m ((c : Thread nD τ).loc main_arg1)) (m ((c : Thread nD τ).loc main_arg3)) (m ((c : Thread nD τ).loc main_arg4)) (ix3 ⟨r.val % 32, by omega⟩ ⟨r.val / 32, by omega⟩ j) :=
  (pay11_at _ _ _ _ _ _ _ _ _ r j).2.trans (xc_at m c t r j)

/-- The sum over a block of channels is the reference's. -/
theorem sum_at (W : FVec Ideal S8x256x256 .bf16) (w : FVec Ideal S8x256x256 .f32) (e : W = w) (r : Fin 128) (j : Fin 2048) :
    ∑ k : Fin 256, XB m c t (ix2 r ⟨j.val / 256 * 256 + k.val, by omega⟩) * W (ix3 ⟨j.val / 256, by omega⟩ k ⟨j.val % 256, by omega⟩)
      = blocks w (CONV (m ((c : Thread nD τ).loc main_arg0)) (m ((c : Thread nD τ).loc main_arg1)) (m ((c : Thread nD τ).loc main_arg3)) (m ((c : Thread nD τ).loc main_arg4))) (ix3 ⟨r.val % 32, by omega⟩ ⟨r.val / 32, by omega⟩ j) := by
  subst e
  rw [blocks_at]
  refine Finset.sum_congr rfl fun k _ => ?_
  rw [xb_at]
  exact mul_comm _ _

/-- The first projection is the reference's. -/
theorem ga_at (r : Fin 128) (j : Fin 2048) : GA m c t (ix2 r j)
    = blocks (m ((c : Thread nD τ).loc main_arg5)) (CONV (m ((c : Thread nD τ).loc main_arg0)) (m ((c : Thread nD τ).loc main_arg1)) (m ((c : Thread nD τ).loc main_arg3)) (m ((c : Thread nD τ).loc main_arg4))) (ix3 ⟨r.val % 32, by omega⟩ ⟨r.val / 32, by omega⟩ j) := by
  unfold GA
  rw [gateA_at]
  exact sum_at m c t _ _ (blk6 m c t) r j

/-- The second gate is the reference's. -/
theorem gx_at (r : Fin 128) (j : Fin 2048) : gateX (XB m c t) (iblk m c 8 t) (iblk m c 9 t) (ix2 r j)
    = sigm (blocks (m ((c : Thread nD τ).loc main_arg7)) (CONV (m ((c : Thread nD τ).loc main_arg0)) (m ((c : Thread nD τ).loc main_arg1)) (m ((c : Thread nD τ).loc main_arg3)) (m ((c : Thread nD τ).loc main_arg4)))) (m ((c : Thread nD τ).loc main_arg8)) (ix3 ⟨r.val % 32, by omega⟩ ⟨r.val / 32, by omega⟩ j) := by
  rw [gateX_at, sigm_at]
  exact congrArg sig1 (congrArg₂ (· + ·) (sum_at m c t _ _ (blk8 m c t) r j) (blk9 m c t j))

/-- The decays are the reference's. -/
theorem ak_at (r : Fin 128) (j : Fin 2048) : AK m c t (ix2 r j)
    = DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (ix3 ⟨r.val % 32, by omega⟩ ⟨r.val / 32, by omega⟩ j) := by
  unfold AK DECAY
  rw [decayK_at, ga_at]
  have e : ∀ (x : FVec Ideal Cert.LruReferenceIdeal.S32x4x2048 .f32) (i), Host.exp x i = Ideal.exp (x i) := fun _ _ => rfl
  rw [e, LOGA, logA_at, sigm_at, logSig_at]
  exact congrArg Ideal.exp (congrArg₂ (fun p q => Ideal.ofBits FTy.f32 1090519040#32 * sig1 (_ + p) * logSig1 q) (blk7 m c t j) (blk10 m c t j))

/-- The drive depends on the bias and on the channel's parameter through their values only. -/
theorem drive_congr (x y z u v w : EReal) (e : x = y) (e' : v = w) :
    Ideal.sqrt (-(Ideal.exp (Ideal.ofBits FTy.f32 1073741824#32 * (Ideal.ofBits FTy.f32 1090519040#32 * sig1 (u + x) * logSig1 v)) - 1)) * z
      = Ideal.sqrt (-(Ideal.exp (Ideal.ofBits FTy.f32 1073741824#32 * (Ideal.ofBits FTy.f32 1090519040#32 * sig1 (u + y) * logSig1 w)) - 1)) * z := by
  rw [e, e']

/-- The drives are the reference's. -/
theorem dk_at (r : Fin 128) (j : Fin 2048) : DK m c t (ix2 r j)
    = DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 ⟨r.val % 32, by omega⟩ ⟨r.val / 32, by omega⟩ j) := by
  unfold DK DRIVE
  rw [driveK_at, drive_at, ga_at, gx_at, xc_at, LOGA, logA_at, sigm_at, sigm_at, logSig_at]
  exact drive_congr _ _ _ _ _ _ (blk7 m c t j) (blk10 m c t j)

/-- The first state is the argument. -/
theorem h0_at (i : Fin 32) (j : Fin 2048) : H0 m c t (ix2 i j) = (show FVec Ideal S32x2048 .f32 from (m ((c : Thread nD τ).loc main_arg2))) (ix2 i j) := by
  unfold H0
  pointwise [k0_pay6]; exact blk3 m c t i j

end

end Cert.LruKernelIdeal.Whole

end
-- ==== Proof.LruLeft.lean ====
module

public import proofs.«01_k».proof.Proof.Gen.LruKernelIdeal.Frame
public import proofs.«01_k».proof.Proof.LruPoint

@[expose] public section

set_option maxRecDepth 16384

noncomputable section

open Idealize.ShloMosaic Idealize.ShloMosaic.TcCoe Idealize.SL.Sem
open Idealize.ShloMosaic.Pipeline (Dat)
open scoped BigOperators

namespace Cert.LruKernelIdeal.Whole

open Cert.LruKernelIdeal Cert.LruKernelIdeal.Gen Cert.LruReferenceIdeal.Closed

open RowLoads

/-- A load of 32 rows of the decays. -/
abbrev ra (a : FVec Ideal S128x2048 .f32) (I : ∀ a, (![0, 0] : Fin 2 → Nat) a + (![128, 2048] : Fin 2 → Nat) a ≤ S128x2048.size a) (o : Nat) (J : ∀ a, (![o, 0] : Fin 2 → Nat) a + (![32, 2048] : Fin 2 → Nat) a ≤ S128x2048.size a) : FVec Ideal S32x2048 .f32 :=
  (View.whole cc0_scratch1).readCov (Val := Elt Ideal) [⟨Rect.unit (s := S128x2048) ![0, 0] ![128, 2048] I, a⟩] (Rect.unit (s := S128x2048) ![o, 0] ![32, 2048] J).toLoadRect

/-- A load of 32 rows of the drives and states. -/
abbrev rd (L : List (View.Piece (Elt Ideal) S128x2048 .f32)) (o : Nat) (J : ∀ a, (![o, 0] : Fin 2 → Nat) a + (![32, 2048] : Fin 2 → Nat) a ≤ S128x2048.size a) : FVec Ideal S32x2048 .f32 :=
  (View.whole cc0_scratch2).readCov (Val := Elt Ideal) L (Rect.unit (s := S128x2048) ![o, 0] ![32, 2048] J).toLoadRect

section
variable (a d : FVec Ideal S128x2048 .f32) (h : FVec Ideal S32x2048 .f32) (I I' : ∀ a, (![0, 0] : Fin 2 → Nat) a + (![128, 2048] : Fin 2 → Nat) a ≤ S128x2048.size a)
  (J0 : ∀ a, (![0, 0] : Fin 2 → Nat) a + (![32, 2048] : Fin 2 → Nat) a ≤ S128x2048.size a) (J1 : ∀ a, (![32, 0] : Fin 2 → Nat) a + (![32, 2048] : Fin 2 → Nat) a ≤ S128x2048.size a) (J2 : ∀ a, (![64, 0] : Fin 2 → Nat) a + (![32, 2048] : Fin 2 → Nat) a ≤ S128x2048.size a) (J3 : ∀ a, (![96, 0] : Fin 2 → Nat) a + (![32, 2048] : Fin 2 → Nat) a ≤ S128x2048.size a)

/-- The last state, through the scratch arrays. -/
theorem scan_h : k0_pay35 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1) (ra a I 64 J2) (rd [⟨Rect.unit (s := S128x2048) ![32, 0] ![32, 2048] J1, k0_pay32 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1)⟩, ⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 64 J2) (ra a I 96 J3) (rd [⟨Rect.unit (s := S128x2048) ![64, 0] ![32, 2048] J2, k0_pay34 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1) (ra a I 64 J2) (rd [⟨Rect.unit (s := S128x2048) ![32, 0] ![32, 2048] J1, k0_pay32 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1)⟩, ⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 64 J2)⟩, ⟨Rect.unit (s := S128x2048) ![32, 0] ![32, 2048] J1, k0_pay32 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1)⟩, ⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 96 J3) = s4 a d h := by
  simp only [ra, rd, read_skip _ _ _ 0 32 (by omega), read_skip _ _ _ 0 64 (by omega), read_skip _ _ _ 0 96 (by omega), read_skip _ _ _ 32 64 (by omega), read_skip _ _ _ 32 96 (by omega), read_skip _ _ _ 64 96 (by omega)]
  simp only [read_rows _ _ _ _ 0 (by omega), read_rows _ _ _ _ 32 (by omega), read_rows _ _ _ _ 64 (by omega), read_rows _ _ _ _ 96 (by omega)]
  rfl

/-- All states, through the scratch arrays. -/
theorem scan_y : (View.whole cc0_scratch2).readCov (Val := Elt Ideal) [⟨Rect.unit (s := S128x2048) ![96, 0] ![32, 2048] J3, k0_pay36 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1) (ra a I 64 J2) (rd [⟨Rect.unit (s := S128x2048) ![32, 0] ![32, 2048] J1, k0_pay32 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1)⟩, ⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 64 J2) (ra a I 96 J3) (rd [⟨Rect.unit (s := S128x2048) ![64, 0] ![32, 2048] J2, k0_pay34 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1) (ra a I 64 J2) (rd [⟨Rect.unit (s := S128x2048) ![32, 0] ![32, 2048] J1, k0_pay32 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1)⟩, ⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 64 J2)⟩, ⟨Rect.unit (s := S128x2048) ![32, 0] ![32, 2048] J1, k0_pay32 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1)⟩, ⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 96 J3)⟩, ⟨Rect.unit (s := S128x2048) ![64, 0] ![32, 2048] J2, k0_pay34 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1) (ra a I 64 J2) (rd [⟨Rect.unit (s := S128x2048) ![32, 0] ![32, 2048] J1, k0_pay32 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1)⟩, ⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 64 J2)⟩, ⟨Rect.unit (s := S128x2048) ![32, 0] ![32, 2048] J1, k0_pay32 (F := Ideal) (k0_pay28 (F := Ideal) h (ra a I 0 J0)) (rd [⟨Rect.unit (s := S128x2048) ![0, 0] ![128, 2048] I, d⟩] 0 J0) (ra a I 32 J1) (rd [⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] 32 J1)⟩, ⟨Rect.unit (s := S128x2048) ![0, 0] ![32, 2048] J0, k0_pay30 (F := Ideal) (k0_pay28 (F := Ideal) h (ra a I 0 J0)) (rd [⟨Rect.unit (s := S128x2048) ![0, 0] ![128, 2048] I, d⟩] 0 J0) ⟩, ⟨Rect.unit (s := S128x2048) ![0, 0] ![128, 2048] I, d⟩] (Rect.unit (s := S128x2048) ![0, 0] ![128, 2048] I').toLoadRect
    = stacked (s1 a d h) (s2 a d h) (s3 a d h) (s4 a d h) := by
  rw [read_states]
  simp only [ra, rd, read_skip _ _ _ 0 32 (by omega), read_skip _ _ _ 0 64 (by omega), read_skip _ _ _ 0 96 (by omega), read_skip _ _ _ 32 64 (by omega), read_skip _ _ _ 32 96 (by omega), read_skip _ _ _ 64 96 (by omega)]
  simp only [read_rows _ _ _ _ 0 (by omega), read_rows _ _ _ _ 32 (by omega), read_rows _ _ _ _ 64 (by omega), read_rows _ _ _ _ 96 (by omega)]
  simp only [k0_pay30, k0_pay32, k0_pay34, k0_pay36, shapeCast_self]
  rfl

end

variable (m : (ℓ : Loc nD τ sig) → Buf (Elt Ideal) ℓ)

section
variable (c : Dev nD) (t : Fin cfg0.N)

set_option maxHeartbeats 2000000 in
/-- The last state the point leaves. -/
theorem left_h : (outsAt0 m c t).2.1 = k0_pay3 (F := Ideal) (s4 (AK m c t) (DK m c t) (H0 m c t)) := by
  unfold Gen.outsAt0; frame_out
  simp only [read_inputs _ _ _ _ _ 128 0 (by omega), read_inputs _ _ _ _ _ 128 32 (by omega), read_inputs _ _ _ _ _ 128 64 (by omega), read_inputs _ _ _ _ _ 128 96 (by omega)]
  generalize hA : k0_pay26 (F := Ideal) _ _ = A
  generalize hD : k0_pay27 (F := Ideal) _ _ _ _ = D
  refine (congrArg (fun z => k0_pay3 (F := Ideal) z) (scan_h A D (H0 m c t) _ _ _ _ _)).trans ?_
  subst hA hD; rfl

set_option maxHeartbeats 2000000 in
/-- The gated states the point leaves. -/
theorem left_y : (outsAt0 m c t).1 = k0_pay2 (F := Ideal) (stacked (s1 (AK m c t) (DK m c t) (H0 m c t)) (s2 (AK m c t) (DK m c t) (H0 m c t))
    (s3 (AK m c t) (DK m c t) (H0 m c t)) (s4 (AK m c t) (DK m c t) (H0 m c t))) (iblk m c 0 t) := by
  unfold Gen.outsAt0; frame_out
  simp only [read_inputs _ _ _ _ _ 128 0 (by omega), read_inputs _ _ _ _ _ 128 32 (by omega), read_inputs _ _ _ _ _ 128 64 (by omega), read_inputs _ _ _ _ _ 128 96 (by omega)]
  generalize hA : k0_pay26 (F := Ideal) _ _ = A
  generalize hD : k0_pay27 (F := Ideal) _ _ _ _ = D
  refine (congrArg (fun z => k0_pay2 (F := Ideal) z (iblk m c 0 t)) (scan_y A D (H0 m c t) _ _ _ _ _ _)).trans ?_
  subst hA hD; rfl

/-- The kept inputs the point leaves. -/
theorem left_c : (outsAt0 m c t).2.2 = k0_pay4 (F := Ideal) (rowsFrom 96 (IN m c t) 128 (by omega)) := by
  unfold Gen.outsAt0; frame_out
  exact congrArg (fun z => k0_pay4 (F := Ideal) z) (read_inputs _ _ _ _ _ 96 128 (by omega) _ _ _)

end

end Cert.LruKernelIdeal.Whole

end
-- ==== Proof.LruValue.lean ====
module

public import proofs.«01_k».proof.Proof.Gen.LruKernelIdeal.Frame
public import proofs.«01_k».proof.Proof.LruLeft

@[expose] public section

set_option maxRecDepth 16384

noncomputable section

open Idealize.ShloMosaic Idealize.ShloMosaic.TcCoe Idealize.SL.Sem
open Idealize.ShloMosaic.Pipeline (Dat)
open scoped BigOperators

namespace Cert.LruKernelIdeal.Whole

open Cert.LruKernelIdeal Cert.LruKernelIdeal.Gen Cert.LruReferenceIdeal.Closed

/-- Two positions with the same coordinates are one. -/
theorem idx3 {i i' : Fin 32} {s s' : Fin 4} {j j' : Fin 2048} (hi : i.val = i'.val) (hs : s.val = s'.val) (hj : j.val = j'.val) :
    (ix3 i s j : Cert.LruReferenceIdeal.S32x4x2048.Idx) = ix3 i' s' j' := by
  rw [Fin.ext hi, Fin.ext hs, Fin.ext hj]

theorem stacked_at (p1 p2 p3 p4 : FVec Ideal S32x2048 .f32) (r : Fin 128) (j : Fin 2048) :
    stacked p1 p2 p3 p4 (ix2 r j) = if r.val < 32 then p1 (ix2 ⟨r.val % 32, by omega⟩ j)
      else if r.val < 64 then p2 (ix2 ⟨r.val % 32, by omega⟩ j)
      else if r.val < 96 then p3 (ix2 ⟨r.val % 32, by omega⟩ j) else p4 (ix2 ⟨r.val % 32, by omega⟩ j) := rfl

theorem pay2_at (x g : FVec Ideal S128x2048 .f32) (r : Fin 128) (j : Fin 2048) : k0_pay2 (F := Ideal) x g (ix2 r j) = x (ix2 r j) * g (ix2 r j) := by
  pointwise [k0_pay2]

theorem unit_eta {n : Nat} (y : (⟨3, ![1, n, 2048]⟩ : Shape).Idx) : y = ix3 0 (y 1) (y 2) := by
  funext a; fin_cases a
  · exact Subsingleton.elim (α := Fin 1) _ _
  · rfl
  · rfl

variable (m : (ℓ : Loc nD τ sig) → Buf (Elt Ideal) ℓ)

section
variable (c : Dev nD) (t : Fin cfg0.N)

/-- The four states are those of the reference. -/
theorem states (i : Fin 32) (j : Fin 2048) :
    s1 (AK m c t) (DK m c t) (H0 m c t) (ix2 i j) = st1 (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2)) (ix2 i j)
    ∧ s2 (AK m c t) (DK m c t) (H0 m c t) (ix2 i j) = st2 (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2)) (ix2 i j)
    ∧ s3 (AK m c t) (DK m c t) (H0 m c t) (ix2 i j) = st3 (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2)) (ix2 i j)
    ∧ s4 (AK m c t) (DK m c t) (H0 m c t) (ix2 i j) = st4 (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2)) (ix2 i j) := by
  obtain ⟨k1, k2, k3, k4⟩ := s_at (AK m c t) (DK m c t) (H0 m c t) i j
  obtain ⟨r1, r2, r3, r4⟩ := st_at (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2)) i j
  have a0 : AK m c t (ix2 ⟨i.val, by omega⟩ j) = (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) (ix3 i 0 j) := by
    refine (ak_at m c t ⟨i.val, by omega⟩ j).trans (congrArg (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) ?_)
    exact idx3 (by show i.val % 32 = i.val; omega) (by show i.val / 32 = 0; omega) rfl
  have d0 : DK m c t (ix2 ⟨i.val, by omega⟩ j) = (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix3 i 0 j) := by
    refine (dk_at m c t ⟨i.val, by omega⟩ j).trans (congrArg (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
    exact idx3 (by show i.val % 32 = i.val; omega) (by show i.val / 32 = 0; omega) rfl
  have a1 : AK m c t (ix2 ⟨32 + i.val, by omega⟩ j) = (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) (ix3 i 1 j) := by
    refine (ak_at m c t ⟨32 + i.val, by omega⟩ j).trans (congrArg (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) ?_)
    exact idx3 (by show (32 + i.val) % 32 = i.val; omega) (by show (32 + i.val) / 32 = 1; omega) rfl
  have d1 : DK m c t (ix2 ⟨32 + i.val, by omega⟩ j) = (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix3 i 1 j) := by
    refine (dk_at m c t ⟨32 + i.val, by omega⟩ j).trans (congrArg (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
    exact idx3 (by show (32 + i.val) % 32 = i.val; omega) (by show (32 + i.val) / 32 = 1; omega) rfl
  have a2 : AK m c t (ix2 ⟨64 + i.val, by omega⟩ j) = (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) (ix3 i 2 j) := by
    refine (ak_at m c t ⟨64 + i.val, by omega⟩ j).trans (congrArg (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) ?_)
    exact idx3 (by show (64 + i.val) % 32 = i.val; omega) (by show (64 + i.val) / 32 = 2; omega) rfl
  have d2 : DK m c t (ix2 ⟨64 + i.val, by omega⟩ j) = (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix3 i 2 j) := by
    refine (dk_at m c t ⟨64 + i.val, by omega⟩ j).trans (congrArg (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
    exact idx3 (by show (64 + i.val) % 32 = i.val; omega) (by show (64 + i.val) / 32 = 2; omega) rfl
  have a3 : AK m c t (ix2 ⟨96 + i.val, by omega⟩ j) = (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) (ix3 i 3 j) := by
    refine (ak_at m c t ⟨96 + i.val, by omega⟩ j).trans (congrArg (DECAY (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9))) ?_)
    exact idx3 (by show (96 + i.val) % 32 = i.val; omega) (by show (96 + i.val) / 32 = 3; omega) rfl
  have d3 : DK m c t (ix2 ⟨96 + i.val, by omega⟩ j) = (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix3 i 3 j) := by
    refine (dk_at m c t ⟨96 + i.val, by omega⟩ j).trans (congrArg (DRIVE (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
    exact idx3 (by show (96 + i.val) % 32 = i.val; omega) (by show (96 + i.val) / 32 = 3; omega) rfl
  rw [a0, d0, h0_at] at k1
  rw [a1, d1] at k2; rw [a2, d2] at k3; rw [a3, d3] at k4
  have f1 := k1.trans r1.symm
  rw [f1] at k2; have f2 := k2.trans r2.symm
  rw [f2] at k3; have f3 := k3.trans r3.symm
  rw [f3] at k4; have f4 := k4.trans r4.symm
  exact ⟨f1, f2, f3, f4⟩

/-- The gated states of the point are those of the reference. -/
theorem point_y (r : Fin 128) (j : Fin 2048) : (outsAt0 m c t).1 (ix2 r j) = REFy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r j) := by
  rw [left_y]
  unfold REFy
  refine Eq.trans ?_ (gated_at _ _ _ _ _ r j).symm
  obtain ⟨f1, f2, f3, f4⟩ := states m c t ⟨r.val % 32, by omega⟩ j
  rw [← f1, ← f2, ← f3, ← f4, ← stacked_at]
  refine (pay2_at _ _ r j).trans ?_
  exact congrArg (_ * ·) (blk0 m c t r j)

/-- The last state of the point is the reference's. -/
theorem point_h (i : Fin 32) (j : Fin 2048) : (outsAt0 m c t).2.1 (ix3 0 i j) = REFh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 0 i j) := by
  rw [left_h]
  refine Eq.trans (b := s4 (AK m c t) (DK m c t) (H0 m c t) (ix2 i j)) ?_ (((states m c t i j).2.2.2).trans ?_)
  · pointwise [k0_pay3]
  · pointwise [REFh]

/-- The kept inputs of the point are the reference's. -/
theorem point_c (i : Fin 96) (j : Fin 2048) : (outsAt0 m c t).2.2 (ix3 0 i j) = REFc (m ((c : Thread nD τ).loc main_arg0)) (m ((c : Thread nD τ).loc main_arg1)) (ix3 0 i j) := by
  rw [left_c]
  refine Eq.trans (b := IN m c t (ix2 ⟨128 + i.val, by omega⟩ j)) ?_ ?_
  · pointwise [k0_pay4]
    rfl
  · refine (in_at m c t ⟨128 + i.val, by omega⟩ j).trans (Eq.trans ?_ (REFc_at _ _ i j).symm)
    have e1 : (128 + i.val) % 32 = i.val % 32 := by omega
    have e2 : (128 + i.val) / 32 = 4 + i.val / 32 := by omega
    simp only [e1, e2]

end

/-- The first result array after the run is the reference's. -/
theorem final_y (c : Dev nD) : (dats m 0 c).arrAt 11 (cfgs 0).N = REFy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  blk_simp; rw [after0_11]
  have e : ((cfg0.win 11).blk t).view.emb y = y := by blk_ext [idx t]
  obtain ⟨r, j, rfl⟩ : ∃ (r : Fin 128) (j : Fin 2048), y = ix2 r j := ⟨y 0, y 1, (ix2_eta y).symm⟩
  exact (point_y m c t r j).trans (congrArg (REFy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) e.symm)

/-- The second result array after the run is the reference's. -/
theorem final_h (c : Dev nD) : (dats m 0 c).arrAt 12 (cfgs 0).N = REFh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  blk_simp; rw [after0_12]
  have e : ((cfg0.win 12).blk t).view.emb y = y := by blk_ext [idx t]
  obtain ⟨i, j, rfl⟩ : ∃ (i : Fin 32) (j : Fin 2048), y = ix3 0 i j := ⟨y 1, y 2, unit_eta y⟩
  exact (point_h m c t i j).trans (congrArg (REFh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) e.symm)

/-- The third result array after the run is the reference's. -/
theorem final_c (c : Dev nD) : (dats m 0 c).arrAt 13 (cfgs 0).N = REFc (m ((c : Thread nD τ).loc main_arg0)) (m ((c : Thread nD τ).loc main_arg1)) := by
  refine (dats m 0 c).arrAt_eq_of_covers 13 _ (by decide +kernel) fun t hf y => ?_
  blk_simp; rw [after0_13]
  have e : ((cfg0.win 13).blk t).view.emb y = y := by blk_ext [idx t]
  obtain ⟨i, j, rfl⟩ : ∃ (i : Fin 96) (j : Fin 2048), y = ix3 0 i j := ⟨y 1, y 2, unit_eta y⟩
  exact (point_c m c t i j).trans (congrArg (REFc (m ((c : Thread nD τ).loc main_arg0)) (m ((c : Thread nD τ).loc main_arg1))) e.symm)

end Cert.LruKernelIdeal.Whole

end
-- ==== Proof.LruEq.lean ====
module

public import proofs.«01_k».proof.Defs
public import proofs.«01_k».proof.Proof.LruValue
public import proofs.«01_k».proof.Proof.Gen.LruReferenceIdeal.Run
public import Idealize.ShloMosaic.Lib.Claim

@[expose] public section

set_option maxRecDepth 16384

noncomputable section

open Idealize.ShloMosaic Idealize.ShloMosaic.TcCoe Idealize.SL.Sem

namespace Cert.LruEq

section
open Cert.LruReferenceIdeal Cert.LruReferenceIdeal.Gen Cert.LruReferenceIdeal.Value Idealize.ShloMosaic.StableHlo

/-- The reference's first result is its closed form at the arguments. -/
theorem closed_y (m : (ℓ : Loc nD τ sig) → Buf (Elt Ideal) ℓ) (c : Dev nD) :
    truncf .bf16 (shapeCast _ (transpose S4x32x2048 [1, 0, 2] (mulf ((concatenate S32x4x2048 1 [⟨S32x1x2048, ((broadcastInDim S32x1x2048 ![0, 2] bcast_S32x2048_S32x1x2048_0_2 (res_main_v77 (launchContents m c))) : (⟨S32x1x2048, .f32⟩ : BufTy).Contents (Elt Ideal))⟩, ⟨S32x1x2048, ((broadcastInDim S32x1x2048 ![0, 2] bcast_S32x2048_S32x1x2048_0_2 (res_main_v83 (launchContents m c))) : (⟨S32x1x2048, .f32⟩ : BufTy).Contents (Elt Ideal))⟩, ⟨S32x1x2048, ((broadcastInDim S32x1x2048 ![0, 2] bcast_S32x2048_S32x1x2048_0_2 (res_main_v89 (launchContents m c))) : (⟨S32x1x2048, .f32⟩ : BufTy).Contents (Elt Ideal))⟩, ⟨S32x1x2048, ((broadcastInDim S32x1x2048 ![0, 2] bcast_S32x2048_S32x1x2048_0_2 (res_main_v95 (launchContents m c))) : (⟨S32x1x2048, .f32⟩ : BufTy).Contents (Elt Ideal))⟩] concatenates_S32x1x2048_S32x1x2048_S32x1x2048_S32x1x2048_S32x4x2048_d1 : (⟨S32x4x2048, .f32⟩ : BufTy).Contents (Elt Ideal))) (extractStridedSlice S32x4x2048 ![0, 0, 0] ((launchContents m c) (Proc.devRef .tc main_arg0)) slices_S32x4x4096_S32x4x2048_0_0_0)) transposes_S32x4x2048_S4x32x2048_1_0_2) shapeCasts_S4x32x2048_S128x2048) bitsLt_bf16_f32
      = Closed.REFy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- The reference's second result is its closed form at the arguments. -/
theorem closed_h (m : (ℓ : Loc nD τ sig) → Buf (Elt Ideal) ℓ) (c : Dev nD) :
    shapeCast _ (res_main_v95 (launchContents m c)) shapeCasts_S32x2048_S1x32x2048
      = Closed.REFh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- The reference's third result is its closed form at the arguments. -/
theorem closed_c (m : (ℓ : Loc nD τ sig) → Buf (Elt Ideal) ℓ) (c : Dev nD) :
    shapeCast _ (transpose S3x32x2048 [1, 0, 2] (extractStridedSlice S32x3x2048 ![0, 4, 0] (res_main_v2 (launchContents m c)) slices_S32x7x2048_S32x3x2048_0_4_0) transposes_S32x3x2048_S3x32x2048_1_0_2) shapeCasts_S3x32x2048_S1x96x2048
      = Closed.REFc (m ((c.tc : Thread nD τ).loc main_arg0)) (m ((c.tc : Thread nD τ).loc main_arg1)) := rfl

end

set_option maxHeartbeats 2000000 in
/-- From memories that agree on the arguments, the kernel and the reference end with the same results. -/
theorem equal : Cert.algebraic_LruKernelIdeal_LruReferenceIdeal := by
  pair_intro
  · run_from Cert.LruKernelIdeal.Gen.run_main m g
  · run_from Cert.LruReferenceIdeal.Value.run m' g'
    · rw [← (hagree c).1]
      refine (closed_y m' c).trans (Eq.trans ?_ (Cert.LruKernelIdeal.Whole.final_y m c).symm)
      simp only [hagree c]
    · refine (closed_h m' c).trans (Eq.trans ?_ (Cert.LruKernelIdeal.Whole.final_h m c).symm)
      simp only [hagree c]
    · refine (closed_c m' c).trans (Eq.trans ?_ (Cert.LruKernelIdeal.Whole.final_c m c).symm)
      simp only [hagree c]

/-- The reference terminates with its arguments unchanged. -/
theorem kept : Cert.quiescent_LruReferenceIdeal := fun m ρ _ =>
  (θ_run Cert.LruReferenceIdeal.defs _ _).mono (fun r h => ⟨fun c => (h c).2.2.2, sem_eq_zero_of_no_sems (by decide) r.2⟩)
    (Cert.LruReferenceIdeal.Value.run (F := Ideal) m ρ)

end Cert.LruEq

end
-- ==== Proof.SwaRef.lean ====
module

public import proofs.«01_k».proof.Proof.Gen.SwaReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SwaReferenceIdeal.Closed

open Cert.SwaReferenceIdeal Cert.SwaReferenceIdeal.Gen

/-- The angle of each position and frequency. -/
def ang : FVec Ideal S4x8 .f32 :=
  (mulf (broadcastInDim S4x8 ![0, 1] bcast_S4x1_S4x8_0_1 (broadcastInDim S4x1 ![0] bcast_S4_S4x1_0 (sitofp .f32 (addi (broadcastInDim S4 ![] bcast_S_S4 (constantI S_ 32 16384#32)) (iotaInDim S4 32 0))))) (broadcastInDim S4x8 ![0, 1] bcast_S1x8_S4x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))

/-- The rotation of the queries. -/
def ropeQ (x : FVec Ideal S32x4x32x64 .f32) : FVec Ideal S32x4x32x64 .f32 :=
  (concatenate S32x4x32x64 3 [⟨S32x4x32x16, (concatenate S32x4x32x16 3 [⟨S32x4x32x8, (subf (mulf (extractStridedSlice S32x4x32x8 ![0, 0, 0, 0] (extractStridedSlice S32x4x32x16 ![0, 0, 0, 0] x slices_S32x4x32x64_S32x4x32x16_0_0_0_0) slices_S32x4x32x16_S32x4x32x8_0_0_0_0) (broadcastInDim S32x4x32x8 ![0, 1, 2, 3] bcast_S1x4x1x8_S32x4x32x8_0_1_2_3 (broadcastInDim S1x4x1x8 ![1, 2, 3] bcast_S4x1x8_S1x4x1x8_1_2_3 (broadcastInDim S4x1x8 ![0, 2] bcast_S4x8_S4x1x8_0_2 (Host.cos ang))))) (mulf (extractStridedSlice S32x4x32x8 ![0, 0, 0, 8] (extractStridedSlice S32x4x32x16 ![0, 0, 0, 0] x slices_S32x4x32x64_S32x4x32x16_0_0_0_0) slices_S32x4x32x16_S32x4x32x8_0_0_0_8) (broadcastInDim S32x4x32x8 ![0, 1, 2, 3] bcast_S1x4x1x8_S32x4x32x8_0_1_2_3 (broadcastInDim S1x4x1x8 ![1, 2, 3] bcast_S4x1x8_S1x4x1x8_1_2_3 (broadcastInDim S4x1x8 ![0, 2] bcast_S4x8_S4x1x8_0_2 (Host.sin ang))))))⟩, ⟨S32x4x32x8, (addf (mulf (extractStridedSlice S32x4x32x8 ![0, 0, 0, 8] (extractStridedSlice S32x4x32x16 ![0, 0, 0, 0] x slices_S32x4x32x64_S32x4x32x16_0_0_0_0) slices_S32x4x32x16_S32x4x32x8_0_0_0_8) (broadcastInDim S32x4x32x8 ![0, 1, 2, 3] bcast_S1x4x1x8_S32x4x32x8_0_1_2_3 (broadcastInDim S1x4x1x8 ![1, 2, 3] bcast_S4x1x8_S1x4x1x8_1_2_3 (broadcastInDim S4x1x8 ![0, 2] bcast_S4x8_S4x1x8_0_2 (Host.cos ang))))) (mulf (extractStridedSlice S32x4x32x8 ![0, 0, 0, 0] (extractStridedSlice S32x4x32x16 ![0, 0, 0, 0] x slices_S32x4x32x64_S32x4x32x16_0_0_0_0) slices_S32x4x32x16_S32x4x32x8_0_0_0_0) (broadcastInDim S32x4x32x8 ![0, 1, 2, 3] bcast_S1x4x1x8_S32x4x32x8_0_1_2_3 (broadcastInDim S1x4x1x8 ![1, 2, 3] bcast_S4x1x8_S1x4x1x8_1_2_3 (broadcastInDim S4x1x8 ![0, 2] bcast_S4x8_S4x1x8_0_2 (Host.sin ang))))))⟩] concatenates_S32x4x32x8_S32x4x32x8_S32x4x32x16_d3)⟩, ⟨S32x4x32x48, (extractStridedSlice S32x4x32x48 ![0, 0, 0, 16] x slices_S32x4x32x64_S32x4x32x48_0_0_0_16)⟩] concatenates_S32x4x32x16_S32x4x32x48_S32x4x32x64_d3)

/-- The rotation of the keys. -/
def ropeK (x : FVec Ideal S32x4x4x64 .f32) : FVec Ideal S32x4x4x64 .f32 :=
  (concatenate S32x4x4x64 3 [⟨S32x4x4x16, (concatenate S32x4x4x16 3 [⟨S32x4x4x8, (subf (mulf (extractStridedSlice S32x4x4x8 ![0, 0, 0, 0] (extractStridedSlice S32x4x4x16 ![0, 0, 0, 0] x slices_S32x4x4x64_S32x4x4x16_0_0_0_0) slices_S32x4x4x16_S32x4x4x8_0_0_0_0) (broadcastInDim S32x4x4x8 ![0, 1, 2, 3] bcast_S1x4x1x8_S32x4x4x8_0_1_2_3 (broadcastInDim S1x4x1x8 ![1, 2, 3] bcast_S4x1x8_S1x4x1x8_1_2_3 (broadcastInDim S4x1x8 ![0, 2] bcast_S4x8_S4x1x8_0_2 (Host.cos ang))))) (mulf (extractStridedSlice S32x4x4x8 ![0, 0, 0, 8] (extractStridedSlice S32x4x4x16 ![0, 0, 0, 0] x slices_S32x4x4x64_S32x4x4x16_0_0_0_0) slices_S32x4x4x16_S32x4x4x8_0_0_0_8) (broadcastInDim S32x4x4x8 ![0, 1, 2, 3] bcast_S1x4x1x8_S32x4x4x8_0_1_2_3 (broadcastInDim S1x4x1x8 ![1, 2, 3] bcast_S4x1x8_S1x4x1x8_1_2_3 (broadcastInDim S4x1x8 ![0, 2] bcast_S4x8_S4x1x8_0_2 (Host.sin ang))))))⟩, ⟨S32x4x4x8, (addf (mulf (extractStridedSlice S32x4x4x8 ![0, 0, 0, 8] (extractStridedSlice S32x4x4x16 ![0, 0, 0, 0] x slices_S32x4x4x64_S32x4x4x16_0_0_0_0) slices_S32x4x4x16_S32x4x4x8_0_0_0_8) (broadcastInDim S32x4x4x8 ![0, 1, 2, 3] bcast_S1x4x1x8_S32x4x4x8_0_1_2_3 (broadcastInDim S1x4x1x8 ![1, 2, 3] bcast_S4x1x8_S1x4x1x8_1_2_3 (broadcastInDim S4x1x8 ![0, 2] bcast_S4x8_S4x1x8_0_2 (Host.cos ang))))) (mulf (extractStridedSlice S32x4x4x8 ![0, 0, 0, 0] (extractStridedSlice S32x4x4x16 ![0, 0, 0, 0] x slices_S32x4x4x64_S32x4x4x16_0_0_0_0) slices_S32x4x4x16_S32x4x4x8_0_0_0_0) (broadcastInDim S32x4x4x8 ![0, 1, 2, 3] bcast_S1x4x1x8_S32x4x4x8_0_1_2_3 (broadcastInDim S1x4x1x8 ![1, 2, 3] bcast_S4x1x8_S1x4x1x8_1_2_3 (broadcastInDim S4x1x8 ![0, 2] bcast_S4x8_S4x1x8_0_2 (Host.sin ang))))))⟩] concatenates_S32x4x4x8_S32x4x4x8_S32x4x4x16_d3)⟩, ⟨S32x4x4x48, (extractStridedSlice S32x4x4x48 ![0, 0, 0, 16] x slices_S32x4x4x64_S32x4x4x48_0_0_0_16)⟩] concatenates_S32x4x4x16_S32x4x4x48_S32x4x4x64_d3)

/-- The queries of the projection. -/
def qs (x : FVec Ideal S32x4x2560 .f32) : FVec Ideal S32x4x32x64 .f32 :=
  (shapeCast _ (extractStridedSlice S32x4x2048 ![0, 0, 0] x slices_S32x4x2560_S32x4x2048_0_0_0) shapeCasts_S32x4x2048_S32x4x32x64)

/-- The keys of the projection. -/
def ks (x : FVec Ideal S32x4x2560 .f32) : FVec Ideal S32x4x4x64 .f32 :=
  (shapeCast _ (extractStridedSlice S32x4x256 ![0, 0, 2048] x slices_S32x4x2560_S32x4x256_0_0_2048) shapeCasts_S32x4x256_S32x4x4x64)

/-- The values of the projection. -/
def vs (x : FVec Ideal S32x4x2560 .f32) : FVec Ideal S32x4x4x64 .f32 :=
  (shapeCast _ (extractStridedSlice S32x4x256 ![0, 0, 2304] x slices_S32x4x2560_S32x4x256_0_0_2304) shapeCasts_S32x4x256_S32x4x4x64)

/-- All keys: those kept, then the new ones rotated. -/
def KALL (x : FVec Ideal S32x4x2560 .f32) (b : FVec Ideal S32x128x4x64 .f32) : FVec Ideal S32x132x4x64 .f32 :=
  (concatenate S32x132x4x64 1 [⟨S32x128x4x64, b⟩, ⟨S32x4x4x64, (ropeK (ks x))⟩] concatenates_S32x128x4x64_S32x4x4x64_S32x132x4x64_d1)

/-- All values: those kept, then the new ones. -/
def VALL (x : FVec Ideal S32x4x2560 .f32) (b : FVec Ideal S32x128x4x64 .f32) : FVec Ideal S32x132x4x64 .f32 :=
  (concatenate S32x132x4x64 1 [⟨S32x128x4x64, b⟩, ⟨S32x4x4x64, (vs x)⟩] concatenates_S32x128x4x64_S32x4x4x64_S32x132x4x64_d1)

/-- Which keys each of the four queries sees. -/
def band : IVec S4x132 1 :=
  (andi (andi (cmpi .sge (subi (broadcastInDim S4x132 ![0, 1] bcast_S4x1_S4x132_0_1 (broadcastInDim S4x1 ![0] bcast_S4_S4x1_0 (addi (broadcastInDim S4 ![] bcast_S_S4 (constantI S_ 32 16384#32)) (iotaInDim S4 32 0)))) (broadcastInDim S4x132 ![0, 1] bcast_S1x132_S4x132_0_1 (broadcastInDim S1x132 ![1] bcast_S132_S1x132_1 (addi (broadcastInDim S132 ![] bcast_S_S132 (constantI S_ 32 16256#32)) (iotaInDim S132 32 0))))) (broadcastInDim S4x132 ![] bcast_S_S4x132 (constantI S_ 32 0#32))) (cmpi .slt (subi (broadcastInDim S4x132 ![0, 1] bcast_S4x1_S4x132_0_1 (broadcastInDim S4x1 ![0] bcast_S4_S4x1_0 (addi (broadcastInDim S4 ![] bcast_S_S4 (constantI S_ 32 16384#32)) (iotaInDim S4 32 0)))) (broadcastInDim S4x132 ![0, 1] bcast_S1x132_S4x132_0_1 (broadcastInDim S1x132 ![1] bcast_S132_S1x132_1 (addi (broadcastInDim S132 ![] bcast_S_S132 (constantI S_ 32 16256#32)) (iotaInDim S132 32 0))))) (broadcastInDim S4x132 ![] bcast_S_S4x132 (constantI S_ 32 128#32)))) (broadcastInDim S4x132 ![0, 1] bcast_S1x132_S4x132_0_1 (broadcastInDim S1x132 ![1] bcast_S132_S1x132_1 (cmpi .sge (addi (broadcastInDim S132 ![] bcast_S_S132 (constantI S_ 32 16256#32)) (iotaInDim S132 32 0)) (broadcastInDim S132 ![] bcast_S_S132 (constantI S_ 32 0#32))))))

/-- The scaled products of queries and keys, outside the band the least number. -/
def logits (k : FVec Ideal S32x132x4x64 .f32) (q : FVec Ideal S32x4x32x64 .f32) : FVec Ideal S32x4x8x4x132 .f32 :=
  (select (broadcastInDim S32x4x8x4x132 ![3, 4] bcast_S4x132_S32x4x8x4x132_3_4 band) (mulf (transpose S32x4x8x4x132 [0, 1, 4, 3, 2] (Host.dotGeneral dot_S32x132x4x64_S32x4x4x8x64_S32x4x132x4x8_3_4_1_13_02_02 none k (shapeCast _ q shapeCasts_S32x4x32x64_S32x4x4x8x64)) transposes_S32x4x132x4x8_S32x4x8x4x132_0_1_4_3_2) (broadcastInDim S32x4x8x4x132 ![] bcast_S_S32x4x8x4x132 (constant S_ .f32 0x3E000000#32))) (broadcastInDim S32x4x8x4x132 ![] bcast_S_S32x4x8x4x132 (constant S_ .f32 0xFF800000#32)))

/-- The greatest logit of each query, the sink's included. -/
def top (l : FVec Ideal S32x4x8x4x132 .f32) (s : FVec Ideal S32 .f32) : FVec Ideal S32x4x8x4x1 .f32 :=
  (maximumf (broadcastInDim S32x4x8x4x1 ![0, 1, 2, 3] bcast_S32x4x8x4_S32x4x8x4x1_0_1_2_3 (Host.reduce FloatOps.maximumf l (constant S_ .f32 0xFF800000#32) reducesTo_S32x4x8x4x132_S32x4x8x4_d4 h_S_)) (broadcastInDim S32x4x8x4x1 ![0, 1, 2, 3, 4] bcast_S1x4x8x1x1_S32x4x8x4x1_0_1_2_3_4 (broadcastInDim S1x4x8x1x1 ![1, 2] bcast_S4x8_S1x4x8x1x1_1_2 (shapeCast _ s shapeCasts_S32_S4x8))))

/-- The exponentials of the logits. -/
def expo (l : FVec Ideal S32x4x8x4x132 .f32) (t : FVec Ideal S32x4x8x4x1 .f32) : FVec Ideal S32x4x8x4x132 .f32 :=
  (Host.exp (subf l (broadcastInDim S32x4x8x4x132 ![0, 1, 2, 3, 4] bcast_S32x4x8x4x1_S32x4x8x4x132_0_1_2_3_4 t)))

/-- The weights. -/
def wts (e : FVec Ideal S32x4x8x4x132 .f32) (t : FVec Ideal S32x4x8x4x1 .f32) (s : FVec Ideal S32 .f32) : FVec Ideal S32x4x8x4x132 .f32 :=
  (Host.divf e (broadcastInDim S32x4x8x4x132 ![0, 1, 2, 3, 4] bcast_S32x4x8x4x1_S32x4x8x4x132_0_1_2_3_4 (addf (broadcastInDim S32x4x8x4x1 ![0, 1, 2, 3] bcast_S32x4x8x4_S32x4x8x4x1_0_1_2_3 (Host.reduceAdd e (constant S_ .f32 0x00000000#32) reducesTo_S32x4x8x4x132_S32x4x8x4_d4 h_S_)) (Host.exp (subf (broadcastInDim S32x4x8x4x1 ![0, 1, 2, 3, 4] bcast_S1x4x8x1x1_S32x4x8x4x1_0_1_2_3_4 (broadcastInDim S1x4x8x1x1 ![1, 2] bcast_S4x8_S1x4x8x1x1_1_2 (shapeCast _ s shapeCasts_S32_S4x8))) t)))))

/-- The weighted values, a row for each query head. -/
def mixed (p : FVec Ideal S32x4x8x4x132 .f32) (v : FVec Ideal S32x132x4x64 .f32) : FVec Ideal S32x128x64 .f32 :=
  (shapeCast _ (shapeCast _ (transpose S32x4x4x8x64 [0, 4, 1, 3, 2] (Host.dotGeneral dot_S32x132x4x64_S32x4x8x4x132_S32x4x64x8x4_1_4_3_23_02_01 none v p) transposes_S32x4x64x8x4_S32x4x4x8x64_0_4_1_3_2) shapeCasts_S32x4x4x8x64_S32x4x2048) shapeCasts_S32x4x2048_S32x128x64)

/-- The last 128 keys. -/
def REFk (k : FVec Ideal S32x132x4x64 .f32) : FVec Ideal S32x128x256 .f32 :=
  (shapeCast _ (extractStridedSlice S32x128x4x64 ![0, 4, 0, 0] k slices_S32x132x4x64_S32x128x4x64_0_4_0_0) shapeCasts_S32x128x4x64_S32x128x256)

/-- The last 128 values. -/
def REFv (v : FVec Ideal S32x132x4x64 .f32) : FVec Ideal S32x128x256 .f32 :=
  (shapeCast _ (extractStridedSlice S32x128x4x64 ![0, 4, 0, 0] v slices_S32x132x4x64_S32x128x4x64_0_4_0_0) shapeCasts_S32x128x4x64_S32x128x256)

/-- The word of minus infinity reads as the bottom. -/
theorem off_bits : Ideal.ofBits FTy.f32 4286578688#32 = ⊥ := by
  simp [Ideal.ofBits, Ideal.ieee]

theorem qs_at (x : FVec Ideal S32x4x2560 .f32) (b : Fin 32) (t : Fin 4) (h : Fin 32) (d : Fin 64) :
    qs x (ix4 b t h d) = x (ix3 b t ⟨h.val * 64 + d.val, by omega⟩) := by
  pointwise [qs]

theorem ks_at (x : FVec Ideal S32x4x2560 .f32) (b : Fin 32) (t : Fin 4) (g : Fin 4) (d : Fin 64) :
    ks x (ix4 b t g d) = x (ix3 b t ⟨2048 + (g.val * 64 + d.val), by omega⟩) := by
  pointwise [ks]

theorem vs_at (x : FVec Ideal S32x4x2560 .f32) (b : Fin 32) (t : Fin 4) (g : Fin 4) (d : Fin 64) :
    vs x (ix4 b t g d) = x (ix3 b t ⟨2304 + (g.val * 64 + d.val), by omega⟩) := by
  pointwise [vs]

theorem ropeQ_at (x : FVec Ideal S32x4x32x64 .f32) (b : Fin 32) (t : Fin 4) (h : Fin 32) (d : Fin 64) :
    ropeQ x (ix4 b t h d) = if l' : d.val < 16 then
        if l : d.val < 8 then x (ix4 b t h ⟨d.val, by omega⟩) * Ideal.cos (ang (ix2 t ⟨d.val, by omega⟩)) - x (ix4 b t h ⟨8 + d.val, by omega⟩) * Ideal.sin (ang (ix2 t ⟨d.val, by omega⟩))
        else x (ix4 b t h ⟨8 + (d.val - 8), by omega⟩) * Ideal.cos (ang (ix2 t ⟨d.val - 8, by omega⟩)) + x (ix4 b t h ⟨d.val - 8, by omega⟩) * Ideal.sin (ang (ix2 t ⟨d.val - 8, by omega⟩))
      else x (ix4 b t h ⟨16 + (d.val - 16), by omega⟩) := by
  pointwise [ropeQ]

theorem ropeK_at (x : FVec Ideal S32x4x4x64 .f32) (b : Fin 32) (t : Fin 4) (h : Fin 4) (d : Fin 64) :
    ropeK x (ix4 b t h d) = if l' : d.val < 16 then
        if l : d.val < 8 then x (ix4 b t h ⟨d.val, by omega⟩) * Ideal.cos (ang (ix2 t ⟨d.val, by omega⟩)) - x (ix4 b t h ⟨8 + d.val, by omega⟩) * Ideal.sin (ang (ix2 t ⟨d.val, by omega⟩))
        else x (ix4 b t h ⟨8 + (d.val - 8), by omega⟩) * Ideal.cos (ang (ix2 t ⟨d.val - 8, by omega⟩)) + x (ix4 b t h ⟨d.val - 8, by omega⟩) * Ideal.sin (ang (ix2 t ⟨d.val - 8, by omega⟩))
      else x (ix4 b t h ⟨16 + (d.val - 16), by omega⟩) := by
  pointwise [ropeK]

theorem KALL_at (x : FVec Ideal S32x4x2560 .f32) (bk : FVec Ideal S32x128x4x64 .f32) (b : Fin 32) (s : Fin 132) (g : Fin 4) (d : Fin 64) :
    KALL x bk (ix4 b s g d) = if h : s.val < 128 then bk (ix4 b ⟨s.val, h⟩ g d) else ropeK (ks x) (ix4 b ⟨s.val - 128, by omega⟩ g d) := by
  pointwise [KALL]

theorem VALL_at (x : FVec Ideal S32x4x2560 .f32) (bk : FVec Ideal S32x128x4x64 .f32) (b : Fin 32) (s : Fin 132) (g : Fin 4) (d : Fin 64) :
    VALL x bk (ix4 b s g d) = if h : s.val < 128 then bk (ix4 b ⟨s.val, h⟩ g d) else vs x (ix4 b ⟨s.val - 128, by omega⟩ g d) := by
  pointwise [VALL]

theorem band_at (t : Fin 4) (s : Fin 132) : band (ix2 t s) = if t.val < s.val ∧ s.val ≤ 128 + t.val then 1#1 else 0#1 := by
  pointwise [band]
  revert t s; decide +kernel

theorem logits_at (k : FVec Ideal S32x132x4x64 .f32) (q : FVec Ideal S32x4x32x64 .f32) (b : Fin 32) (g : Fin 4) (e : Fin 8) (t : Fin 4) (s : Fin 132) :
    logits k q (ix5 b g e t s) = if t.val < s.val ∧ s.val ≤ 128 + t.val then (∑ d : Fin 64, k (ix4 b s g d) * q (ix4 b t ⟨g.val * 8 + e.val, by omega⟩ d)) * Ideal.ofBits FTy.f32 0x3E000000#32 else ⊥ := by
  pointwise [logits]
  rw [band_at, off_bits]
  by_cases h : t.val < s.val ∧ s.val ≤ 128 + t.val
  · rw [if_pos h, if_pos h]; rfl
  · rw [if_neg h, if_neg h]; rfl

theorem top_at (l : FVec Ideal S32x4x8x4x132 .f32) (s : FVec Ideal S32 .f32) (b : Fin 32) (g : Fin 4) (e : Fin 8) (t : Fin 4) :
    top l s (ix5 b g e t 0) = max (Finset.univ.sup fun k : Fin 132 => l (ix5 b g e t k)) (s (ix1 ⟨g.val * 8 + e.val, by omega⟩)) := by
  pointwise [top]
  rw [off_bits]
  rfl

theorem expo_at (l : FVec Ideal S32x4x8x4x132 .f32) (m : FVec Ideal S32x4x8x4x1 .f32) (b : Fin 32) (g : Fin 4) (e : Fin 8) (t : Fin 4) (s : Fin 132) :
    expo l m (ix5 b g e t s) = Ideal.exp (l (ix5 b g e t s) - m (ix5 b g e t 0)) := by
  pointwise [expo]

theorem wts_at (l : FVec Ideal S32x4x8x4x132 .f32) (m : FVec Ideal S32x4x8x4x1 .f32) (s : FVec Ideal S32 .f32) (b : Fin 32) (g : Fin 4) (e : Fin 8) (t : Fin 4) (k : Fin 132) :
    wts l m s (ix5 b g e t k) = Ideal.div (l (ix5 b g e t k)) ((∑ k : Fin 132, l (ix5 b g e t k)) + Ideal.exp (s (ix1 ⟨g.val * 8 + e.val, by omega⟩) - m (ix5 b g e t 0))) := by
  pointwise [wts]

theorem mixed_at (p : FVec Ideal S32x4x8x4x132 .f32) (v : FVec Ideal S32x132x4x64 .f32) (b : Fin 32) (r : Fin 128) (d : Fin 64) :
    mixed p v (ix3 b r d) = ∑ s : Fin 132, v (ix4 b s ⟨r.val / 8 % 4, by omega⟩ d) * p (ix5 b ⟨r.val / 8 % 4, by omega⟩ ⟨r.val % 8, by omega⟩ ⟨r.val / 32, by omega⟩ s) := by
  pointwise [mixed]

theorem REFk_at (k : FVec Ideal S32x132x4x64 .f32) (b : Fin 32) (r : Fin 128) (j : Fin 256) :
    REFk k (ix3 b r j) = k (ix4 b ⟨4 + r.val, by omega⟩ ⟨j.val / 64, by omega⟩ ⟨j.val % 64, by omega⟩) := by
  pointwise [REFk]

theorem REFv_at (k : FVec Ideal S32x132x4x64 .f32) (b : Fin 32) (r : Fin 128) (j : Fin 256) :
    REFv k (ix3 b r j) = k (ix4 b ⟨4 + r.val, by omega⟩ ⟨j.val / 64, by omega⟩ ⟨j.val % 64, by omega⟩) := by
  pointwise [REFv]

end Cert.SwaReferenceIdeal.Closed

end
-- ==== Proof.SwaPay.lean ====
module

public import proofs.«01_k».proof.Proof.Gen.SwaKernelIdeal.Frame
public import proofs.«01_k».proof.Proof.SwaRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SwaKernelIdeal.Whole

open Cert.SwaKernelIdeal Cert.SwaKernelIdeal.Gen Cert.SwaReferenceIdeal.Closed

/-- A selection on the equality of two small words. -/
theorem sel_eq {α : Type} {A B : BitVec 32} {a b : Nat} (ha : A = BitVec.ofNat 32 a) (hb : B = BitVec.ofNat 32 b) (la : a < 256) (lb : b < 256) (x y : α) :
    Scalar.select (IntOp.cmpi CmpIPredicate.eq A B) x y = if a = b then x else y := by
  subst ha hb
  by_cases h : a = b
  · subst h; simp [Scalar.select, IntOp.cmpi]
  · have h2 : (BitVec.ofNat 32 a = BitVec.ofNat 32 b) ↔ False := by
      refine ⟨fun e => h ?_, False.elim⟩
      have := congrArg BitVec.toNat e
      simp only [BitVec.toNat_ofNat] at this
      omega
    have h3 : (BitVec.ofNat 32 a == BitVec.ofNat 32 b) = false := by
      rw [beq_eq_false_iff_ne]; exact fun e => h2.mp e
    simp [Scalar.select, IntOp.cmpi, h, h3]

/-- The condition of the window over one token and one key. -/
theorem band_word (a : Fin 4) (j : Fin 256) :
    IntOp.ori
        (IntOp.andi (IntOp.cmpi CmpIPredicate.slt (BitVec.ofNat 32 j.val) 128#32)
          (IntOp.cmpi CmpIPredicate.slt (IntOp.subi (IntOp.addi (BitVec.ofNat 32 a.val) 128#32) (BitVec.ofNat 32 j.val)) 128#32))
        (IntOp.andi (IntOp.cmpi CmpIPredicate.sge (BitVec.ofNat 32 j.val) 128#32)
          (IntOp.cmpi CmpIPredicate.sle (IntOp.subi (BitVec.ofNat 32 j.val) 128#32) (BitVec.ofNat 32 a.val)))
      = if a.val < j.val ∧ j.val ≤ 128 + a.val then 1#1 else 0#1 := by
  revert a j; decide +kernel

/-- A selection on the condition of the window. -/
theorem sel_band {α : Type} {A : BitVec 32} {a : Nat} (ha : A = BitVec.ofNat 32 a) (la : a < 4) (j : Fin 256) (x y : α) :
    Scalar.select (IntOp.ori
        (IntOp.andi (IntOp.cmpi CmpIPredicate.slt (BitVec.ofNat 32 j.val) 128#32)
          (IntOp.cmpi CmpIPredicate.slt (IntOp.subi (IntOp.addi A 128#32) (BitVec.ofNat 32 j.val)) 128#32))
        (IntOp.andi (IntOp.cmpi CmpIPredicate.sge (BitVec.ofNat 32 j.val) 128#32)
          (IntOp.cmpi CmpIPredicate.sle (IntOp.subi (BitVec.ofNat 32 j.val) 128#32) A))) x y
      = if a < j.val ∧ j.val ≤ 128 + a then x else y := by
  subst ha
  rw [band_word ⟨a, la⟩ j]
  show Scalar.select (if a < j.val ∧ j.val ≤ 128 + a then 1#1 else 0#1) x y = _
  by_cases h : a < j.val ∧ j.val ≤ 128 + a
  · rw [if_pos h, if_pos h]; rfl
  · rw [if_neg h, if_neg h]; rfl

/-- The row of a query modulo the heads. -/
theorem pay15_at (t : Fin 128) (j : Fin 256) : k0_pay15 (ix2 t j) = BitVec.ofNat 32 (t.val % 32) := by
  pointwise [k0_pay15]
  clear j; revert t; decide +kernel

theorem pay16_at (t : Fin 128) (j : Fin 256) : k0_pay16 (ix2 t j) = BitVec.ofNat 32 (t.val % 32 / 8) := by
  pointwise [k0_pay16]
  rw [pay15_at]
  clear j; revert t; decide +kernel

theorem pay17_at (t : Fin 128) (j : Fin 256) : k0_pay17 (ix2 t j) = if t.val % 32 = 0 then 0#32 else 1#32 := by
  pointwise [k0_pay17]
  rw [pay15_at]
  clear j; revert t; decide +kernel

theorem pay21_at (t : Fin 128) (j : Fin 64) : k0_pay21 (ix2 t j) = BitVec.ofNat 32 (t.val % 32) := by
  pointwise [k0_pay21]
  clear j; revert t; decide +kernel

theorem pay22_at (t : Fin 128) (j : Fin 64) : k0_pay22 (ix2 t j) = BitVec.ofNat 32 (t.val % 32 / 8) := by
  pointwise [k0_pay22]
  rw [pay21_at]
  clear j; revert t; decide +kernel

theorem pay23_at (t : Fin 128) (j : Fin 64) : k0_pay23 (ix2 t j) = if t.val % 32 = 0 then 0#32 else 1#32 := by
  pointwise [k0_pay23]
  rw [pay21_at]
  clear j; revert t; decide +kernel

theorem pay2_at (x : FVec Ideal S1x4x256 .f32) (c u d : FVec Ideal S4x128 .f32) (t : Fin 4) (j : Fin 256) :
    k0_pay2 (F := Ideal) x c u d (ix2 t j) = if h : j.val < 128 then
      x (ix3 0 t j) * c (ix2 t ⟨j.val, by omega⟩) + x (ix3 0 t ⟨(j.val + 128 - 120) % 128, by omega⟩) * u (ix2 t ⟨j.val, by omega⟩) +
        x (ix3 0 t ⟨(j.val + 128 - 8) % 128, by omega⟩) * d (ix2 t ⟨j.val, by omega⟩)
    else
      x (ix3 0 t ⟨128 + (j.val - 128), by omega⟩) * c (ix2 t ⟨j.val - 128, by omega⟩) +
          x (ix3 0 t ⟨128 + (j.val - 128 + 128 - 120) % 128, by omega⟩) * u (ix2 t ⟨j.val - 128, by omega⟩) +
        x (ix3 0 t ⟨128 + (j.val - 128 + 128 - 8) % 128, by omega⟩) * d (ix2 t ⟨j.val - 128, by omega⟩) := by
  pointwise [k0_pay2]

/-- The rotation of one query row, read at one lane of its head. -/
def turnQ (x : FVec Ideal S1x128x64 .f32) (c u d : FVec Ideal S128x64 .f32) (t : Fin 128) (j : Nat) (l : j < 64) : EReal :=
  x (ix3 0 t ⟨j, l⟩) * c (ix2 t ⟨j, l⟩) +
    (if h : j < 56 then x (ix3 0 t ⟨8 + j, by omega⟩) else x (ix3 0 t ⟨j - 56, by omega⟩)) * u (ix2 t ⟨j, l⟩) +
    (if h : j < 8 then x (ix3 0 t ⟨56 + j, by omega⟩) else x (ix3 0 t ⟨j - 8, by omega⟩)) * d (ix2 t ⟨j, l⟩)

theorem turnQ_congr (x : FVec Ideal S1x128x64 .f32) (c u d : FVec Ideal S128x64 .f32) (t : Fin 128) {j k : Nat} (e : j = k) (l : j < 64) (l' : k < 64) :
    turnQ x c u d t j l = turnQ x c u d t k l' := by
  subst e; rfl

theorem pay14_at (x : FVec Ideal S1x128x64 .f32) (c u d : FVec Ideal S128x64 .f32) (t : Fin 128) (j : Fin 256) :
    k0_pay14 (F := Ideal) (k0_pay12 x) (k0_pay13 x) c u d (ix2 t j) = turnQ x c u d t (j.val % 64) (by omega) := by
  pointwise [k0_pay12, k0_pay13, k0_pay14]
  have hj := j.isLt
  by_cases h : j.val < 64
  · rw [dif_pos h]; exact turnQ_congr x c u d t (by omega) h _
  rw [dif_neg h]
  by_cases h1 : j.val - 64 < 64
  · rw [dif_pos h1]; exact turnQ_congr x c u d t (by omega) h1 _
  rw [dif_neg h1]
  by_cases h2 : j.val - 64 - 64 < 64
  · rw [dif_pos h2]; exact turnQ_congr x c u d t (by omega) h2 _
  rw [dif_neg h2]
  exact turnQ_congr x c u d t (j := j.val - 64 - 64 - 64) (by omega) (by omega) _

theorem pay19_at (x : FVec Ideal S128x256 .f32) (t : Fin 128) (j : Fin 256) :
    k0_pay19 (F := Ideal) x (ix2 t j)
      = if t.val / 32 < j.val ∧ j.val ≤ 128 + t.val / 32 then x (ix2 t j) * Ideal.ofBits FTy.f32 1040187392#32 else ⊥ := by
  pointwise [k0_pay19]
  rw [off_bits]
  refine sel_band ?_ (by omega) j _ _
  clear x j; revert t; decide +kernel

/-- A sum over the 256 lanes of which one head's 64 are kept. -/
theorem sum_block (g : Fin 4) (f : Fin 256 → EReal) :
    (∑ x : Fin 256, if g.val = x.val / 64 then f x else 0) = ∑ d : Fin 64, f ⟨64 * g.val + d.val, by omega⟩ := by
  rw [← (finProdFinEquiv (m := 4) (n := 64)).sum_comp, Fintype.sum_prod_type]
  refine (Finset.sum_eq_single g (fun b _ hb => ?_) (fun h => absurd (Finset.mem_univ g) h)).trans ?_
  · refine Finset.sum_eq_zero fun d _ => if_neg fun e => hb (Fin.ext ?_)
    have e' : g.val = (d.val + 64 * b.val) / 64 := e
    omega
  · refine Finset.sum_congr rfl fun d _ => ?_
    have e : g.val = (d.val + 64 * g.val) / 64 := by omega
    refine (if_pos e).trans (congrArg f (Fin.ext ?_))
    show d.val + 64 * g.val = 64 * g.val + d.val
    omega

theorem pay18_at (q : FVec Ideal S128x256 .f32) (k : FVec Ideal S256x256 .f32) (t : Fin 128) (j : Fin 256) :
    k0_pay18 (F := Ideal) q k0_pay15 8#32 k0_pay16 k0_pay17 1#1 k (ix2 t j)
      = ∑ d : Fin 64, q (ix2 t ⟨64 * (t.val % 32 / 8) + d.val, by omega⟩) * k (ix2 j ⟨64 * (t.val % 32 / 8) + d.val, by omega⟩) := by
  refine Eq.trans ?_ (sum_block ⟨t.val % 32 / 8, by omega⟩ fun x => q (ix2 t x) * k (ix2 j x))
  pointwise [k0_pay18]
  refine Finset.sum_congr rfl fun x hx => ?_
  clear hx
  rw [pay15_at, pay16_at, pay17_at]
  refine sel_eq (a := t.val % 32 / 8) (b := x.val / 64) ?_ ?_ (by omega) (by omega) _ _
  · clear q k j x; revert t; decide +kernel
  · clear q k j t; revert x; decide +kernel

/-- The largest of a row and the sink. -/
def topK (l : FVec Ideal S128x256 .f32) (s : FVec Ideal S128x1 .f32) (r : Fin 128) : EReal :=
  max (Finset.univ.sup fun x : Fin 256 => l (ix2 r x)) (s (ix2 r 0))

theorem pay20_at (l : FVec Ideal S128x256 .f32) (s : FVec Ideal S128x1 .f32) (v : FVec Ideal S256x256 .f32) (r : Fin 128) (j : Fin 256) :
    k0_pay20 (F := Ideal) l s v (ix2 r j)
      = ∑ x : Fin 256, Ideal.div (Ideal.exp (l (ix2 r x) - topK l s r))
          ((∑ x : Fin 256, Ideal.exp (l (ix2 r x) - topK l s r)) + Ideal.exp (s (ix2 r 0) - topK l s r)) * v (ix2 x j) := by
  pointwise [k0_pay20]
  rw [off_bits]
  rfl

/-- The lanes kept of one output row. -/
theorem pay1_at (o : FVec Ideal S128x256 .f32) (r : Fin 128) (d : Fin 64) :
    k0_pay1 (F := Ideal) o k0_pay21 8#32 k0_pay22 k0_pay23 (ix3 0 r d) = o (ix2 r ⟨64 * (r.val % 32 / 8) + d.val, by omega⟩) := by
  pointwise [k0_pay1]
  rw [pay21_at, pay22_at, pay23_at]
  have lt : r.val % 32 / 8 < 4 := by omega
  refine (sel_eq (a := r.val % 32 / 8) (b := 3) ?_ rfl (by omega) (by omega) _ _).trans ?_
  · clear o d lt; revert r; decide +kernel
  by_cases h3 : r.val % 32 / 8 = 3
  · rw [if_pos h3]; refine congrArg (fun z => o (ix2 r z)) (Fin.ext ?_); show 192 + d.val = 64 * (r.val % 32 / 8) + d.val; omega
  rw [if_neg h3]
  refine (sel_eq (a := r.val % 32 / 8) (b := 2) ?_ rfl (by omega) (by omega) _ _).trans ?_
  · clear o d lt h3; revert r; decide +kernel
  by_cases h2 : r.val % 32 / 8 = 2
  · rw [if_pos h2]; refine congrArg (fun z => o (ix2 r z)) (Fin.ext ?_); show 128 + d.val = 64 * (r.val % 32 / 8) + d.val; omega
  rw [if_neg h2]
  refine (sel_eq (a := r.val % 32 / 8) (b := 1) ?_ rfl (by omega) (by omega) _ _).trans ?_
  · clear o d lt h3 h2; revert r; decide +kernel
  by_cases h1 : r.val % 32 / 8 = 1
  · rw [if_pos h1]; refine congrArg (fun z => o (ix2 r z)) (Fin.ext ?_); show 64 + d.val = 64 * (r.val % 32 / 8) + d.val; omega
  rw [if_neg h1]
  refine (sel_eq (a := r.val % 32 / 8) (b := 0) ?_ rfl (by omega) (by omega) _ _).trans ?_
  · clear o d lt h3 h2 h1; revert r; decide +kernel
  have h0 : r.val % 32 / 8 = 0 := by omega
  rw [if_pos h0]; refine congrArg (fun z => o (ix2 r z)) (Fin.ext ?_); show d.val = 64 * (r.val % 32 / 8) + d.val; omega

end Cert.SwaKernelIdeal.Whole

end
-- ==== Proof.SwaTables.lean ====
module

public import proofs.«01_k».proof.Proof.Gen.SwaKernelIdeal.Frame
public import proofs.«01_k».proof.Proof.SwaRef
public import proofs.«01_k».proof.Proof.SwaPay
public import Idealize.ShloMosaic.Lib.Pipeline.RowLoads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SwaKernelIdeal.Whole

open Cert.SwaKernelIdeal Cert.SwaKernelIdeal.Gen Cert.SwaReferenceIdeal.Closed

open RowLoads

variable (m : (ℓ : Loc nD τ sig) → Buf (Elt Ideal) ℓ)

/-- The table of the cosines. -/
def baseC : FVec Ideal S4x64 .f32 := concatenate S4x64 1 [⟨S4x8, Host.cos ang⟩, ⟨S4x8, Host.cos ang⟩, ⟨S4x48, broadcastInDim S4x48 ![] bcast_S_S4x48 (constant (F := Ideal) S_ .f32 0x3F800000#32)⟩] concatenates_S4x8_S4x8_S4x48_S4x64_d1

/-- The table of the sines taken from above. -/
def baseU : FVec Ideal S4x64 .f32 := concatenate S4x64 1 [⟨S4x8, Host.negf (Host.sin ang)⟩, ⟨S4x8, broadcastInDim S4x8 ![] bcast_S_S4x8 (constant (F := Ideal) S_ .f32 0x00000000#32)⟩, ⟨S4x48, broadcastInDim S4x48 ![] bcast_S_S4x48 (constant (F := Ideal) S_ .f32 0x00000000#32)⟩] concatenates_S4x8_S4x8_S4x48_S4x64_d1

/-- The table of the sines taken from below. -/
def baseD : FVec Ideal S4x64 .f32 := concatenate S4x64 1 [⟨S4x8, broadcastInDim S4x8 ![] bcast_S_S4x8 (constant (F := Ideal) S_ .f32 0x00000000#32)⟩, ⟨S4x8, Host.sin ang⟩, ⟨S4x48, broadcastInDim S4x48 ![] bcast_S_S4x48 (constant (F := Ideal) S_ .f32 0x00000000#32)⟩] concatenates_S4x8_S4x8_S4x48_S4x64_d1

/-- A table repeated for the heads of each token. -/
def perHead (b : FVec Ideal S4x64 .f32) : FVec Ideal S128x64 .f32 :=
  shapeCast S128x64 (broadcastInDim S4x32x64 ![0, 2] bcast_S4x64_S4x32x64_0_2 (shapeCast S4x64 (broadcastInDim S1x4x1x64 ![0, 1, 2, 3] bcast_S1x4x1x64_S1x4x1x64_0_1_2_3 (shapeCast S1x4x1x64 b shapeCasts_S4x64_S1x4x1x64)) shapeCasts_S1x4x1x64_S4x64)) shapeCasts_S4x32x64_S128x64

/-- A table repeated for two heads side by side. -/
def perPair (b : FVec Ideal S4x64 .f32) : FVec Ideal S4x128 .f32 :=
  shapeCast S4x128 (broadcastInDim S1x4x2x64 ![0, 1, 2, 3] bcast_S1x4x1x64_S1x4x2x64_0_1_2_3 (shapeCast S1x4x1x64 b shapeCasts_S4x64_S1x4x1x64)) shapeCasts_S1x4x2x64_S4x128

variable (c : Dev nD)

set_option maxHeartbeats 2000000 in
theorem arr38 : V m c main_v38 = perHead baseC := rfl

set_option maxHeartbeats 2000000 in
theorem arr40 : V m c main_v40 = perHead baseU := rfl

set_option maxHeartbeats 2000000 in
theorem arr42 : V m c main_v42 = perHead baseD := rfl

set_option maxHeartbeats 2000000 in
theorem arr66 : V m c main_v66 = perPair baseC := rfl

set_option maxHeartbeats 2000000 in
theorem arr69 : V m c main_v69 = perPair baseU := rfl

set_option maxHeartbeats 2000000 in
theorem arr72 : V m c main_v72 = perPair baseD := rfl

/-- The table of the cosines at one lane of a head. -/
def tabC (t : Fin 4) (d : Nat) (_ : d < 64) : EReal :=
  if h : d < 8 then Ideal.cos (ang (ix2 t ⟨d, h⟩)) else if h' : d - 8 < 8 then Ideal.cos (ang (ix2 t ⟨d - 8, h'⟩)) else 1

/-- The table of the sines taken from above, at one lane of a head. -/
def tabU (t : Fin 4) (d : Nat) (_ : d < 64) : EReal :=
  if h : d < 8 then -Ideal.sin (ang (ix2 t ⟨d, h⟩)) else if _h : d - 8 < 8 then 0 else 0

/-- The table of the sines taken from below, at one lane of a head. -/
def tabD (t : Fin 4) (d : Nat) (_ : d < 64) : EReal :=
  if _h : d < 8 then 0 else if h' : d - 8 < 8 then Ideal.sin (ang (ix2 t ⟨d - 8, h'⟩)) else 0

theorem baseC_at (t : Fin 4) (d : Fin 64) : baseC (ix2 t d) = tabC t d.val d.isLt := by
  pointwise [baseC, tabC]

theorem baseU_at (t : Fin 4) (d : Fin 64) : baseU (ix2 t d) = tabU t d.val d.isLt := by
  pointwise [baseU, tabU]

theorem baseD_at (t : Fin 4) (d : Fin 64) : baseD (ix2 t d) = tabD t d.val d.isLt := by
  pointwise [baseD, tabD]

theorem perHead_at (b : FVec Ideal S4x64 .f32) (r : Fin 128) (d : Fin 64) : perHead b (ix2 r d) = b (ix2 ⟨r.val / 32, by omega⟩ d) := by
  pointwise [perHead]

theorem perPair_at (b : FVec Ideal S4x64 .f32) (r : Fin 4) (j : Fin 128) : perPair b (ix2 r j) = b (ix2 r ⟨j.val % 64, by omega⟩) := by
  pointwise [perPair]

end Cert.SwaKernelIdeal.Whole

end
-- ==== Proof.SwaCov.lean ====
module

public import proofs.«01_k».proof.Proof.Gen.SwaKernelIdeal.Frame
public import proofs.«01_k».proof.Proof.SwaRef
public import proofs.«01_k».proof.Proof.SwaPay
public import Idealize.ShloMosaic.Lib.Pipeline.RowLoads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SwaKernelIdeal.Whole

open Cert.SwaKernelIdeal Cert.SwaKernelIdeal.Gen Cert.SwaReferenceIdeal.Closed

open RowLoads

/-- The rows of one scratch: the kept ones, the new ones, then zeros. -/
def held (n : FVec Ideal S4x256 .f32) (o : FVec Ideal S128x256 .f32) (z : FVec Ideal S256x256 .f32) : FVec Ideal S256x256 .f32 := fun y =>
  if h : (y 0).val < 128 then o (ix2 ⟨(y 0).val, h⟩ (y 1))
  else if h' : (y 0).val < 132 then n (ix2 ⟨(y 0).val - 128, by omega⟩ (y 1))
  else z y

/-- The scratch after its three stores. -/
theorem canon_held (n : FVec Ideal S4x256 .f32) (o : FVec Ideal S128x256 .f32) (z : FVec Ideal S256x256 .f32)
    (ib : ∀ a, (![128, 0] : Fin 2 → Nat) a + S4x256.size a ≤ S256x256.size a)
    (ib' : ∀ a, (![0, 0] : Fin 2 → Nat) a + S128x256.size a ≤ S256x256.size a)
    (ib'' : ∀ a, (![0, 0] : Fin 2 → Nat) a + S256x256.size a ≤ S256x256.size a) :
    View.canon (Val := Elt Ideal) (s := S256x256) (e := .f32)
      [⟨Rect.unit ![128, 0] S4x256.size ib, n⟩, ⟨Rect.unit ![0, 0] S128x256.size ib', o⟩, ⟨Rect.unit ![0, 0] S256x256.size ib'', z⟩] = held n o z := by
  funext y
  have hy : (y 0).val < 256 := (y 0).isLt
  have hy1 : (y 1).val < 256 := (y 1).isLt
  by_cases h : (y 0).val < 128
  · rw [View.canon_cons_of_not_mem _ _ (by
      rw [Rect.mem_set_unit]; intro k; have := (k 0).1; have : 128 ≤ (y 0).val := this; omega)]
    have e : y = (Rect.unit (s := S256x256) ![0, 0] S128x256.size ib').emb (ix2 ⟨(y 0).val, h⟩ (y 1)) := by
      funext a; apply Fin.ext
      fin_cases a
      · show (y 0).val = 0 + 1 * (y 0).val; omega
      · show (y 1).val = 0 + 1 * (y 1).val; omega
    conv_lhs => rw [e]
    rw [View.canon_cons_emb]
    unfold held; rw [dif_pos h]
  by_cases h' : (y 0).val < 132
  · have e : y = (Rect.unit (s := S256x256) ![128, 0] S4x256.size ib).emb (ix2 ⟨(y 0).val - 128, by omega⟩ (y 1)) := by
      funext a; apply Fin.ext
      fin_cases a
      · show (y 0).val = 128 + 1 * ((y 0).val - 128); omega
      · show (y 1).val = 0 + 1 * (y 1).val; omega
    conv_lhs => rw [e]
    rw [View.canon_cons_emb]
    unfold held; rw [dif_neg h, dif_pos h']
  · rw [View.canon_cons_of_not_mem _ _ (by
      rw [Rect.mem_set_unit]; intro k; have := (k 0).2; have : (y 0).val < 128 + 4 := this; omega)]
    rw [View.canon_cons_of_not_mem _ _ (by
      rw [Rect.mem_set_unit]; intro k; have := (k 0).2; have : (y 0).val < 0 + 128 := this; omega)]
    have e : y = (Rect.unit (s := S256x256) ![0, 0] S256x256.size ib'').emb y := by
      funext a; apply Fin.ext
      fin_cases a
      · show (y 0).val = 0 + 1 * (y 0).val; omega
      · show (y 1).val = 0 + 1 * (y 1).val; omega
    conv_lhs => rw [e]
    rw [View.canon_cons_emb]
    unfold held; rw [dif_neg h, dif_neg h']

/-- A load of the whole scratch. -/
theorem read_whole (κ : Kind) (sp : Space) (v : View sig κ sp S256x256 .f32) (n : FVec Ideal S4x256 .f32) (o : FVec Ideal S128x256 .f32) (z : FVec Ideal S256x256 .f32)
    (ib : ∀ a, (![128, 0] : Fin 2 → Nat) a + S4x256.size a ≤ S256x256.size a)
    (ib' : ∀ a, (![0, 0] : Fin 2 → Nat) a + S128x256.size a ≤ S256x256.size a)
    (ib'' ib3 : ∀ a, (![0, 0] : Fin 2 → Nat) a + S256x256.size a ≤ S256x256.size a) :
    v.readCov (Val := Elt Ideal)
      [⟨Rect.unit ![128, 0] S4x256.size ib, n⟩, ⟨Rect.unit ![0, 0] S128x256.size ib', o⟩, ⟨Rect.unit ![0, 0] S256x256.size ib'', z⟩]
      (Rect.unit ![0, 0] S256x256.size ib3).toLoadRect = held n o z := by
  rw [View.readCov_eq_canon', canon_held]
  funext j
  refine congrArg (held n o z) ?_
  funext a; apply Fin.ext
  fin_cases a
  · show 0 + 1 * (j 0).val = (j 0).val; omega
  · show 0 + 1 * (j 1).val = (j 1).val; omega

/-- A load of the 128 rows from the fifth. -/
theorem read_next (κ : Kind) (sp : Space) (v : View sig κ sp S256x256 .f32) (n : FVec Ideal S4x256 .f32) (o : FVec Ideal S128x256 .f32) (z : FVec Ideal S256x256 .f32)
    (ib : ∀ a, (![128, 0] : Fin 2 → Nat) a + S4x256.size a ≤ S256x256.size a)
    (ib' : ∀ a, (![0, 0] : Fin 2 → Nat) a + S128x256.size a ≤ S256x256.size a)
    (ib'' : ∀ a, (![0, 0] : Fin 2 → Nat) a + S256x256.size a ≤ S256x256.size a)
    (ib3 : ∀ a, (![4, 0] : Fin 2 → Nat) a + S128x256.size a ≤ S256x256.size a) (r : Fin 128) (j : Fin 256) :
    v.readCov (Val := Elt Ideal)
      [⟨Rect.unit ![128, 0] S4x256.size ib, n⟩, ⟨Rect.unit ![0, 0] S128x256.size ib', o⟩, ⟨Rect.unit ![0, 0] S256x256.size ib'', z⟩]
      (Rect.unit (s := S256x256) ![4, 0] S128x256.size ib3).toLoadRect (ix2 r j) = held n o z (ix2 ⟨4 + r.val, by omega⟩ j) := by
  rw [View.readCov_eq_canon', canon_held]
  refine congrArg (held n o z) ?_
  funext a; apply Fin.ext
  fin_cases a
  · show 4 + 1 * r.val = 4 + r.val; omega
  · show 0 + 1 * j.val = j.val; omega

section
variable (m : (ℓ : Loc nD τ sig) → Buf (Elt Ideal) ℓ) (c : Dev nD) (t : Fin cfg0.N)

/-- What the scratch of the keys holds. -/
def keysK : FVec Ideal S256x256 .f32 :=
  held (k0_pay8 (F := Ideal) (k0_pay2 (F := Ideal) (iblk m c 1 t) (iblk m c 8 t) (iblk m c 9 t) (iblk m c 10 t)))
    (k0_pay6 (F := Ideal) (k0_pay5 (F := Ideal) (iblk m c 3 t))) (k0_pay3 (F := Ideal))

/-- What the scratch of the values holds. -/
def valsK : FVec Ideal S256x256 .f32 :=
  held (k0_pay9 (F := Ideal) (iblk m c 2 t)) (k0_pay7 (F := Ideal) (iblk m c 4 t)) (k0_pay4 (F := Ideal))

/-- The logits of one sequence. -/
def logitsK : FVec Ideal S128x256 .f32 :=
  k0_pay19 (F := Ideal) (k0_pay18 (F := Ideal)
    (k0_pay14 (F := Ideal) (k0_pay12 (F := Ideal) (iblk m c 0 t)) (k0_pay13 (F := Ideal) (iblk m c 0 t)) (iblk m c 5 t) (iblk m c 6 t) (iblk m c 7 t))
    k0_pay15 8#32 k0_pay16 k0_pay17 1#1 (keysK m c t))

theorem left1 : (outsAt0 m c t).1 = k0_pay1 (F := Ideal) (k0_pay20 (F := Ideal) (logitsK m c t) (iblk m c 11 t) (valsK m c t)) k0_pay21 8#32 k0_pay22 k0_pay23 := by
  unfold Gen.outsAt0; frame_out
  unfold logitsK keysK valsK
  rw [read_whole, read_whole]

theorem left2 (r : Fin 128) (j : Fin 256) : (outsAt0 m c t).2.1 (ix3 0 r j) = keysK m c t (ix2 ⟨4 + r.val, by omega⟩ j) := by
  unfold Gen.outsAt0; frame_out
  pointwise [k0_pay10]
  exact read_next ..

theorem left3 (r : Fin 128) (j : Fin 256) : (outsAt0 m c t).2.2 (ix3 0 r j) = valsK m c t (ix2 ⟨4 + r.val, by omega⟩ j) := by
  unfold Gen.outsAt0; frame_out
  pointwise [k0_pay11]
  exact read_next ..
end

end Cert.SwaKernelIdeal.Whole

end
-- ==== Proof.SwaBlocks.lean ====
module

public import proofs.«01_k».proof.Proof.Gen.SwaKernelIdeal.Frame
public import proofs.«01_k».proof.Proof.SwaRef
public import proofs.«01_k».proof.Proof.SwaPay
public import proofs.«01_k».proof.Proof.SwaTables
public import Idealize.ShloMosaic.Lib.Pipeline.RowLoads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SwaKernelIdeal.Whole

open Cert.SwaKernelIdeal Cert.SwaKernelIdeal.Gen Cert.SwaReferenceIdeal.Closed

open RowLoads

variable (m : (ℓ : Loc nD τ sig) → Buf (Elt Ideal) ℓ)

/-- Every window's block index. -/
theorem idx : ∀ t : Fin cfg0.N, win0_0.index t = ![t.val, 0, 0]
    ∧ win0_1.index t = ![t.val, 0, 8]
    ∧ win0_2.index t = ![t.val, 0, 9]
    ∧ win0_3.index t = ![t.val, 0, 0]
    ∧ win0_4.index t = ![t.val, 0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val, 0, 0]
    ∧ win0_13.index t = ![t.val, 0, 0]
    ∧ win0_14.index t = ![t.val, 0, 0] :=
  (by decide +kernel : ∀ t : Fin grid0.N, _)

/-- The sequence a point of the grid stands for. -/
def seq (t : Fin cfg0.N) : Fin 32 := ⟨t.val, t.isLt⟩

section
variable (c : Dev nD) (t : Fin cfg0.N)

/-- The query rows: a token, then its head. -/
theorem blk0 (r : Fin 128) (d : Fin 64) : (show FVec Ideal S1x128x64 .f32 from iblk m c 0 t) (ix3 0 r d)
    = (show FVec Ideal S32x4x2560 .f32 from m ((c : Thread nD τ).loc main_arg0)) (ix3 (seq t) ⟨r.val / 32, by omega⟩ ⟨r.val % 32 * 64 + d.val, by omega⟩) := by
  have e : ((cfg0.win 0).blk t).view.emb (ix3 0 r d) = ix3 (seq t) r d := by blk_ext [idx t, seq]
  refine (congrArg (V m c main_v1) e).trans ?_
  entry_read
  pointwise []

/-- The new keys. -/
theorem blk1 (r : Fin 4) (j : Fin 256) : (show FVec Ideal S1x4x256 .f32 from iblk m c 1 t) (ix3 0 r j)
    = (show FVec Ideal S32x4x2560 .f32 from m ((c : Thread nD τ).loc main_arg0)) (ix3 (seq t) r ⟨2048 + j.val, by omega⟩) := by
  have e : ((cfg0.win 1).blk t).view.emb (ix3 0 r j) = ix3 (seq t) r ⟨2048 + j.val, by omega⟩ := by blk_ext [idx t, seq]
  refine (congrArg (V m c main_arg0) e).trans ?_
  rfl

/-- The new values. -/
theorem blk2 (r : Fin 4) (j : Fin 256) : (show FVec Ideal S1x4x256 .f32 from iblk m c 2 t) (ix3 0 r j)
    = (show FVec Ideal S32x4x2560 .f32 from m ((c : Thread nD τ).loc main_arg0)) (ix3 (seq t) r ⟨2304 + j.val, by omega⟩) := by
  have e : ((cfg0.win 2).blk t).view.emb (ix3 0 r j) = ix3 (seq t) r ⟨2304 + j.val, by omega⟩ := by blk_ext [idx t, seq]
  refine (congrArg (V m c main_arg0) e).trans ?_
  rfl

/-- The kept keys. -/
theorem blk3 (r : Fin 128) (j : Fin 256) : (show FVec Ideal S1x128x256 .f32 from iblk m c 3 t) (ix3 0 r j)
    = (show FVec Ideal S32x128x4x64 .f32 from m ((c : Thread nD τ).loc main_arg1)) (ix4 (seq t) r ⟨j.val / 64, by omega⟩ ⟨j.val % 64, by omega⟩) := by
  have e : ((cfg0.win 3).blk t).view.emb (ix3 0 r j) = ix3 (seq t) r j := by blk_ext [idx t, seq]
  refine (congrArg (V m c main_v2) e).trans ?_
  entry_read
  pointwise []

/-- The kept values. -/
theorem blk4 (r : Fin 128) (j : Fin 256) : (show FVec Ideal S1x128x256 .f32 from iblk m c 4 t) (ix3 0 r j)
    = (show FVec Ideal S32x128x4x64 .f32 from m ((c : Thread nD τ).loc main_arg2)) (ix4 (seq t) r ⟨j.val / 64, by omega⟩ ⟨j.val % 64, by omega⟩) := by
  have e : ((cfg0.win 4).blk t).view.emb (ix3 0 r j) = ix3 (seq t) r j := by blk_ext [idx t, seq]
  refine (congrArg (V m c main_v3) e).trans ?_
  entry_read
  pointwise []

/-- A table of the query rows. -/
theorem blk5 (r : Fin 128) (d : Fin 64) : (show FVec Ideal S128x64 .f32 from iblk m c 5 t) (ix2 r d)
    = tabC ⟨r.val / 32, by omega⟩ d.val d.isLt := by
  have e : ((cfg0.win 5).blk t).view.emb (ix2 r d) = ix2 r d := by blk_ext [idx t, seq]
  refine (congrArg (V m c main_v38) e).trans ?_
  rw [arr38]
  exact (perHead_at ..).trans (baseC_at ..)

/-- A table of the query rows. -/
theorem blk6 (r : Fin 128) (d : Fin 64) : (show FVec Ideal S128x64 .f32 from iblk m c 6 t) (ix2 r d)
    = tabU ⟨r.val / 32, by omega⟩ d.val d.isLt := by
  have e : ((cfg0.win 6).blk t).view.emb (ix2 r d) = ix2 r d := by blk_ext [idx t, seq]
  refine (congrArg (V m c main_v40) e).trans ?_
  rw [arr40]
  exact (perHead_at ..).trans (baseU_at ..)

/-- A table of the query rows. -/
theorem blk7 (r : Fin 128) (d : Fin 64) : (show FVec Ideal S128x64 .f32 from iblk m c 7 t) (ix2 r d)
    = tabD ⟨r.val / 32, by omega⟩ d.val d.isLt := by
  have e : ((cfg0.win 7).blk t).view.emb (ix2 r d) = ix2 r d := by blk_ext [idx t, seq]
  refine (congrArg (V m c main_v42) e).trans ?_
  rw [arr42]
  exact (perHead_at ..).trans (baseD_at ..)

/-- A table of the new keys. -/
theorem blk8 (r : Fin 4) (j : Fin 128) : (show FVec Ideal S4x128 .f32 from iblk m c 8 t) (ix2 r j)
    = tabC r (j.val % 64) (by omega) := by
  have e : ((cfg0.win 8).blk t).view.emb (ix2 r j) = ix2 r j := by blk_ext [idx t, seq]
  refine (congrArg (V m c main_v66) e).trans ?_
  rw [arr66]
  exact (perPair_at ..).trans (baseC_at ..)

/-- A table of the new keys. -/
theorem blk9 (r : Fin 4) (j : Fin 128) : (show FVec Ideal S4x128 .f32 from iblk m c 9 t) (ix2 r j)
    = tabU r (j.val % 64) (by omega) := by
  have e : ((cfg0.win 9).blk t).view.emb (ix2 r j) = ix2 r j := by blk_ext [idx t, seq]
  refine (congrArg (V m c main_v69) e).trans ?_
  rw [arr69]
  exact (perPair_at ..).trans (baseU_at ..)

/-- A table of the new keys. -/
theorem blk10 (r : Fin 4) (j : Fin 128) : (show FVec Ideal S4x128 .f32 from iblk m c 10 t) (ix2 r j)
    = tabD r (j.val % 64) (by omega) := by
  have e : ((cfg0.win 10).blk t).view.emb (ix2 r j) = ix2 r j := by blk_ext [idx t, seq]
  refine (congrArg (V m c main_v72) e).trans ?_
  rw [arr72]
  exact (perPair_at ..).trans (baseD_at ..)

set_option maxHeartbeats 4000000 in
/-- The sinks of the rows. -/
theorem blk11 (r : Fin 128) : (show FVec Ideal S128x1 .f32 from iblk m c 11 t) (ix2 r 0)
    = (show FVec Ideal S32 .f32 from m ((c : Thread nD τ).loc main_arg3)) (ix1 ⟨r.val % 32, by omega⟩) := by
  have e : ((cfg0.win 11).blk t).view.emb (ix2 r 0) = ix2 r 0 := by blk_ext [idx t, seq]
  refine (congrArg (V m c main_v76) e).trans ?_
  entry_read
  pointwise []

end

end Cert.SwaKernelIdeal.Whole

end
-- ==== Proof.SwaPoint.lean ====
module

public import proofs.«01_k».proof.Proof.Gen.SwaKernelIdeal.Frame
public import proofs.«01_k».proof.Proof.SwaRef
public import proofs.«01_k».proof.Proof.SwaPay
public import proofs.«01_k».proof.Proof.SwaTables
public import proofs.«01_k».proof.Proof.SwaCov
public import proofs.«01_k».proof.Proof.SwaBlocks
public import Idealize.ShloMosaic.Lib.Pipeline.RowLoads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SwaKernelIdeal.Whole

open Cert.SwaKernelIdeal Cert.SwaKernelIdeal.Gen Cert.SwaReferenceIdeal.Closed

open RowLoads

/-- One lane of a rotation written with the three tables. -/
theorem turn_eq (t : Fin 4) (d : Nat) (l : d < 64) (a up dn : EReal) :
    a * tabC t d l + up * tabU t d l + dn * tabD t d l
      = if l' : d < 16 then
          if l'' : d < 8 then a * Ideal.cos (ang (ix2 t ⟨d, l''⟩)) - up * Ideal.sin (ang (ix2 t ⟨d, l''⟩))
          else a * Ideal.cos (ang (ix2 t ⟨d - 8, by omega⟩)) + dn * Ideal.sin (ang (ix2 t ⟨d - 8, by omega⟩))
        else a := by
  unfold tabC tabU tabD
  by_cases h : d < 8
  · have h2 : d < 16 := by omega
    rw [dif_pos h, dif_pos h, dif_pos h, dif_pos h2, dif_pos h, mul_zero, add_zero, mul_neg, sub_eq_add_neg]
  by_cases h2 : d < 16
  · have h3 : d - 8 < 8 := by omega
    rw [dif_neg h, dif_neg h, dif_neg h, dif_pos h2, dif_neg h, dif_pos h3, dif_pos h3, dif_pos h3, mul_zero, add_zero]
  · have h3 : ¬ d - 8 < 8 := by omega
    rw [dif_neg h, dif_neg h, dif_neg h, dif_neg h2, dif_neg h3, dif_neg h3, dif_neg h3, mul_zero, add_zero, mul_zero, add_zero, mul_one]

/-- The rotation of a query from its lane and the two lanes it mixes with. -/
theorem ropeQ_turn (x : FVec Ideal Cert.SwaReferenceIdeal.S32x4x32x64 .f32) (b : Fin 32) (t : Fin 4) (h : Fin 32) (d : Fin 64) (a up dn : EReal)
    (ha : a = x (ix4 b t h d)) (hu : ∀ l : d.val < 8, up = x (ix4 b t h ⟨8 + d.val, by omega⟩))
    (hd : ∀ (_ : ¬ d.val < 8) (l' : d.val < 16), dn = x (ix4 b t h ⟨d.val - 8, by omega⟩)) :
    a * tabC t d.val d.isLt + up * tabU t d.val d.isLt + dn * tabD t d.val d.isLt = ropeQ x (ix4 b t h d) := by
  rw [turn_eq, ropeQ_at]
  by_cases h2 : d.val < 16
  · rw [dif_pos h2, dif_pos h2]
    by_cases h1 : d.val < 8
    · rw [dif_pos h1, dif_pos h1, ha, hu h1]
    · rw [dif_neg h1, dif_neg h1, ha, hd h1 h2]
      have e : (⟨8 + (d.val - 8), by omega⟩ : Fin 64) = d := Fin.ext (by show 8 + (d.val - 8) = d.val; omega)
      rw [e]
  · rw [dif_neg h2, dif_neg h2, ha]
    have e : (⟨16 + (d.val - 16), by omega⟩ : Fin 64) = d := Fin.ext (by show 16 + (d.val - 16) = d.val; omega)
    rw [e]

/-- The rotation of a key likewise. -/
theorem ropeK_turn (x : FVec Ideal Cert.SwaReferenceIdeal.S32x4x4x64 .f32) (b : Fin 32) (t : Fin 4) (h : Fin 4) (d : Fin 64) (a up dn : EReal)
    (ha : a = x (ix4 b t h d)) (hu : ∀ l : d.val < 8, up = x (ix4 b t h ⟨8 + d.val, by omega⟩))
    (hd : ∀ (_ : ¬ d.val < 8) (l' : d.val < 16), dn = x (ix4 b t h ⟨d.val - 8, by omega⟩)) :
    a * tabC t d.val d.isLt + up * tabU t d.val d.isLt + dn * tabD t d.val d.isLt = ropeK x (ix4 b t h d) := by
  rw [turn_eq, ropeK_at]
  by_cases h2 : d.val < 16
  · rw [dif_pos h2, dif_pos h2]
    by_cases h1 : d.val < 8
    · rw [dif_pos h1, dif_pos h1, ha, hu h1]
    · rw [dif_neg h1, dif_neg h1, ha, hd h1 h2]
      have e : (⟨8 + (d.val - 8), by omega⟩ : Fin 64) = d := Fin.ext (by show 8 + (d.val - 8) = d.val; omega)
      rw [e]
  · rw [dif_neg h2, dif_neg h2, ha]
    have e : (⟨16 + (d.val - 16), by omega⟩ : Fin 64) = d := Fin.ext (by show 16 + (d.val - 16) = d.val; omega)
    rw [e]

/-- A sum over 256 keys whose last ones give nothing. -/
theorem sum_keys (f : Fin 256 → EReal) (h : ∀ k : Fin 256, 132 ≤ k.val → f k = 0) :
    ∑ k : Fin 256, f k = ∑ k : Fin 132, f ⟨k.val, by omega⟩ := by
  refine (Fin.sum_univ_add (a := 132) (b := 124) f).trans ?_
  rw [Finset.sum_eq_zero (s := Finset.univ) (f := fun i : Fin 124 => f (Fin.natAdd 132 i)) (fun i _ => h _ (by show 132 ≤ 132 + i.val; omega)), add_zero]
  rfl

/-- The largest of 256 values whose last ones are the bottom. -/
theorem sup_keys (f : Fin 256 → EReal) (h : ∀ k : Fin 256, 132 ≤ k.val → f k = ⊥) :
    (Finset.univ.sup f) = Finset.univ.sup fun k : Fin 132 => f ⟨k.val, by omega⟩ := by
  apply le_antisymm
  · refine Finset.sup_le fun k _ => ?_
    by_cases l : k.val < 132
    · exact Finset.le_sup (f := fun k : Fin 132 => f ⟨k.val, by omega⟩) (Finset.mem_univ (⟨k.val, l⟩ : Fin 132))
    · rw [h k (by omega)]; exact bot_le
  · exact Finset.sup_le fun k _ => Finset.le_sup (f := f) (Finset.mem_univ _)

section
variable (m : (ℓ : Loc nD τ sig) → Buf (Elt Ideal) ℓ) (c : Dev nD) (t : Fin cfg0.N)

/-- The projected rows. -/
abbrev X0 : FVec Ideal S32x4x2560 .f32 := m ((c : Thread nD τ).loc main_arg0)
/-- The kept keys. -/
abbrev X1 : FVec Ideal S32x128x4x64 .f32 := m ((c : Thread nD τ).loc main_arg1)
/-- The kept values. -/
abbrev X2 : FVec Ideal S32x128x4x64 .f32 := m ((c : Thread nD τ).loc main_arg2)
/-- The sinks. -/
abbrev X3 : FVec Ideal S32 .f32 := m ((c : Thread nD τ).loc main_arg3)

/-- The new keys of one token. -/
theorem key_new (r : Fin 4) (j : Fin 256) :
    k0_pay2 (F := Ideal) (iblk m c 1 t) (iblk m c 8 t) (iblk m c 9 t) (iblk m c 10 t) (ix2 r j)
      = ropeK (ks (X0 m c)) (ix4 (seq t) r ⟨j.val / 64, by omega⟩ ⟨j.val % 64, by omega⟩) := by
  rw [pay2_at]
  have hj := j.isLt
  have key : ∀ (k : Nat) (lk : k < 256), (show FVec Ideal S1x4x256 .f32 from iblk m c 1 t) (ix3 0 r ⟨k, lk⟩) = X0 m c (ix3 (seq t) r ⟨2048 + k, by omega⟩) := fun k lk => blk1 m c t r ⟨k, lk⟩
  by_cases h : j.val < 128
  · rw [dif_pos h]
    refine Eq.trans ?_ (ropeK_turn (ks (X0 m c)) (seq t) r ⟨j.val / 64, by omega⟩ ⟨j.val % 64, by omega⟩
      (X0 m c (ix3 (seq t) r ⟨2048 + j.val, by omega⟩)) (X0 m c (ix3 (seq t) r ⟨2048 + (j.val + 128 - 120) % 128, by omega⟩)) (X0 m c (ix3 (seq t) r ⟨2048 + (j.val + 128 - 8) % 128, by omega⟩)) ?_ ?_ ?_)
    · exact congrArg₂ (· + ·) (congrArg₂ (· + ·) (congrArg₂ (· * ·) (key _ _) (blk8 m c t r ⟨j.val, h⟩)) (congrArg₂ (· * ·) (key _ _) (blk9 m c t r ⟨j.val, h⟩))) (congrArg₂ (· * ·) (key _ _) (blk10 m c t r ⟨j.val, h⟩))
    · rw [ks_at]; refine congrArg (fun z => X0 m c (ix3 (seq t) r z)) (Fin.ext ?_)
      show 2048 + j.val = 2048 + (j.val / 64 * 64 + j.val % 64); omega
    · intro l; have l : j.val % 64 < 8 := l
      rw [ks_at]; refine congrArg (fun z => X0 m c (ix3 (seq t) r z)) (Fin.ext ?_)
      show 2048 + (j.val + 128 - 120) % 128 = 2048 + (j.val / 64 * 64 + (8 + j.val % 64)); omega
    · intro l l'; have l : ¬ j.val % 64 < 8 := l
      rw [ks_at]; refine congrArg (fun z => X0 m c (ix3 (seq t) r z)) (Fin.ext ?_)
      show 2048 + (j.val + 128 - 8) % 128 = 2048 + (j.val / 64 * 64 + (j.val % 64 - 8)); omega
  · rw [dif_neg h]
    have e64 : (j.val - 128) % 64 = j.val % 64 := by omega
    have b8 := blk8 m c t r ⟨j.val - 128, by omega⟩
    have b9 := blk9 m c t r ⟨j.val - 128, by omega⟩
    have b10 := blk10 m c t r ⟨j.val - 128, by omega⟩
    simp only [e64] at b8 b9 b10
    refine Eq.trans ?_ (ropeK_turn (ks (X0 m c)) (seq t) r ⟨j.val / 64, by omega⟩ ⟨j.val % 64, by omega⟩
      (X0 m c (ix3 (seq t) r ⟨2048 + (128 + (j.val - 128)), by omega⟩)) (X0 m c (ix3 (seq t) r ⟨2048 + (128 + (j.val - 128 + 128 - 120) % 128), by omega⟩)) (X0 m c (ix3 (seq t) r ⟨2048 + (128 + (j.val - 128 + 128 - 8) % 128), by omega⟩)) ?_ ?_ ?_)
    · exact congrArg₂ (· + ·) (congrArg₂ (· + ·) (congrArg₂ (· * ·) (key _ _) b8) (congrArg₂ (· * ·) (key _ _) b9)) (congrArg₂ (· * ·) (key _ _) b10)
    · rw [ks_at]; refine congrArg (fun z => X0 m c (ix3 (seq t) r z)) (Fin.ext ?_)
      show 2048 + (128 + (j.val - 128)) = 2048 + (j.val / 64 * 64 + j.val % 64); omega
    · intro l; have l : j.val % 64 < 8 := l
      rw [ks_at]; refine congrArg (fun z => X0 m c (ix3 (seq t) r z)) (Fin.ext ?_)
      show 2048 + (128 + (j.val - 128 + 128 - 120) % 128) = 2048 + (j.val / 64 * 64 + (8 + j.val % 64)); omega
    · intro l l'; have l : ¬ j.val % 64 < 8 := l
      rw [ks_at]; refine congrArg (fun z => X0 m c (ix3 (seq t) r z)) (Fin.ext ?_)
      show 2048 + (128 + (j.val - 128 + 128 - 8) % 128) = 2048 + (j.val / 64 * 64 + (j.val % 64 - 8)); omega

/-- The keys of the scratch are the reference's. -/
theorem keys_at (s : Fin 132) (j : Fin 256) : keysK m c t (ix2 ⟨s.val, by omega⟩ j)
    = KALL (X0 m c) (X1 m c) (ix4 (seq t) s ⟨j.val / 64, by omega⟩ ⟨j.val % 64, by omega⟩) := by
  rw [KALL_at]
  unfold keysK held
  by_cases h : s.val < 128
  · rw [dif_pos h]
    refine (dif_pos (show s.val < 128 from h)).trans ?_
    refine Eq.trans ?_ (blk3 m c t ⟨s.val, h⟩ j)
    pointwise [k0_pay6, k0_pay5]
  · rw [dif_neg h]
    refine (dif_neg (show ¬ s.val < 128 from h)).trans ?_
    refine (dif_pos (show s.val < 132 from s.isLt)).trans ?_
    refine Eq.trans ?_ (key_new m c t ⟨s.val - 128, by omega⟩ j)
    pointwise [k0_pay8]

/-- The values of the scratch are the reference's. -/
theorem vals_at (s : Fin 132) (j : Fin 256) : valsK m c t (ix2 ⟨s.val, by omega⟩ j)
    = VALL (X0 m c) (X2 m c) (ix4 (seq t) s ⟨j.val / 64, by omega⟩ ⟨j.val % 64, by omega⟩) := by
  rw [VALL_at]
  unfold valsK held
  by_cases h : s.val < 128
  · rw [dif_pos h]
    refine (dif_pos (show s.val < 128 from h)).trans ?_
    refine Eq.trans ?_ (blk4 m c t ⟨s.val, h⟩ j)
    pointwise [k0_pay7]
  · rw [dif_neg h]
    refine (dif_neg (show ¬ s.val < 128 from h)).trans ?_
    refine (dif_pos (show s.val < 132 from s.isLt)).trans ?_
    have p : k0_pay9 (F := Ideal) (iblk m c 2 t) (ix2 ⟨s.val - 128, by omega⟩ j) = (show FVec Ideal S1x4x256 .f32 from iblk m c 2 t) (ix3 0 ⟨s.val - 128, by omega⟩ j) := by
      pointwise [k0_pay9]
    refine p.trans ((blk2 m c t ⟨s.val - 128, by omega⟩ j).trans ?_)
    rw [vs_at]; refine congrArg (fun z => X0 m c (ix3 (seq t) _ z)) (Fin.ext ?_)
    show 2304 + j.val = 2304 + (j.val / 64 * 64 + j.val % 64); omega

/-- The scratch of the values is zero past the new ones. -/
theorem vals_pad (s : Fin 256) (h : 132 ≤ s.val) (j : Fin 256) : valsK m c t (ix2 s j) = 0 := by
  unfold valsK held
  refine (dif_neg (show ¬ s.val < 128 by omega)).trans ?_
  refine (dif_neg (show ¬ s.val < 132 by omega)).trans ?_
  pointwise [k0_pay4]

/-- The queries are the reference's. -/
theorem query_at (r : Fin 128) (d : Nat) (l : d < 64) :
    turnQ (iblk m c 0 t) (iblk m c 5 t) (iblk m c 6 t) (iblk m c 7 t) r d l
      = ropeQ (qs (X0 m c)) (ix4 (seq t) ⟨r.val / 32, by omega⟩ ⟨r.val % 32, by omega⟩ ⟨d, l⟩) := by
  have key : ∀ (k : Nat) (lk : k < 64), (show FVec Ideal S1x128x64 .f32 from iblk m c 0 t) (ix3 0 r ⟨k, lk⟩) = qs (X0 m c) (ix4 (seq t) ⟨r.val / 32, by omega⟩ ⟨r.val % 32, by omega⟩ ⟨k, lk⟩) := fun k lk => (blk0 m c t r ⟨k, lk⟩).trans (qs_at (X0 m c) (seq t) ⟨r.val / 32, by omega⟩ ⟨r.val % 32, by omega⟩ ⟨k, lk⟩).symm
  unfold turnQ
  refine Eq.trans (congrArg₂ (· + ·) (congrArg₂ (· + ·) (congrArg₂ (· * ·) rfl (blk5 m c t r ⟨d, l⟩)) (congrArg₂ (· * ·) rfl (blk6 m c t r ⟨d, l⟩))) (congrArg₂ (· * ·) rfl (blk7 m c t r ⟨d, l⟩))) ?_
  refine ropeQ_turn (qs (X0 m c)) (seq t) ⟨r.val / 32, by omega⟩ ⟨r.val % 32, by omega⟩ ⟨d, l⟩ _ _ _ (key d l) ?_ ?_
  · intro h; have h : d < 8 := h
    rw [dif_pos (show d < 56 by omega)]; exact key _ _
  · intro h h'; have h : ¬ d < 8 := h
    rw [dif_neg h]; exact key _ _

/-- The reference's logits. -/
def L : FVec Ideal Cert.SwaReferenceIdeal.S32x4x8x4x132 .f32 := logits (KALL (X0 m c) (X1 m c)) (ropeQ (qs (X0 m c)))

/-- The logits are the reference's. -/
theorem logits_eq (r : Fin 128) (s : Fin 132) : logitsK m c t (ix2 r ⟨s.val, by omega⟩)
    = L m c (ix5 (seq t) ⟨r.val / 8 % 4, by omega⟩ ⟨r.val % 8, by omega⟩ ⟨r.val / 32, by omega⟩ s) := by
  unfold logitsK L
  rw [pay19_at, logits_at]
  refine if_congr Iff.rfl ?_ rfl
  refine congrArg (· * Ideal.ofBits FTy.f32 1040187392#32) ?_
  rw [pay18_at]
  refine Finset.sum_congr rfl fun d _ => ?_
  rw [pay14_at, keys_at, mul_comm]
  refine congrArg₂ (· * ·) (congrArg (KALL (X0 m c) (X1 m c)) ?_) ((query_at ..).trans (congrArg (ropeQ (qs (X0 m c))) ?_))
  · have e1 : (⟨(64 * (r.val % 32 / 8) + d.val) / 64, by omega⟩ : Fin 4) = ⟨r.val / 8 % 4, by omega⟩ := Fin.ext (by show (64 * (r.val % 32 / 8) + d.val) / 64 = r.val / 8 % 4; omega)
    have e2 : (⟨(64 * (r.val % 32 / 8) + d.val) % 64, by omega⟩ : Fin 64) = d := Fin.ext (by show (64 * (r.val % 32 / 8) + d.val) % 64 = d.val; omega)
    exact congrArg₂ (fun y z => (ix4 (seq t) s y z : Cert.SwaReferenceIdeal.S32x132x4x64.Idx)) e1 e2
  · have e1 : (⟨r.val % 32, by omega⟩ : Fin 32) = ⟨r.val / 8 % 4 * 8 + r.val % 8, by omega⟩ := Fin.ext (by show r.val % 32 = r.val / 8 % 4 * 8 + r.val % 8; omega)
    have e2 : (⟨(64 * (r.val % 32 / 8) + d.val) % 64, by omega⟩ : Fin 64) = d := Fin.ext (by show (64 * (r.val % 32 / 8) + d.val) % 64 = d.val; omega)
    exact congrArg₂ (fun y z => (ix4 (seq t) ⟨r.val / 32, by omega⟩ y z : Cert.SwaReferenceIdeal.S32x4x32x64.Idx)) e1 e2

/-- The keys past the new ones are outside the window. -/
theorem logits_pad (r : Fin 128) (s : Fin 256) (h : 132 ≤ s.val) : logitsK m c t (ix2 r s) = ⊥ := by
  unfold logitsK
  rw [pay19_at]
  exact if_neg (by omega)

/-- The reference's largest logit or sink. -/
def T : FVec Ideal Cert.SwaReferenceIdeal.S32x4x8x4x1 .f32 := top (L m c) (X3 m c)

theorem sink_at (r : Fin 128) : (show FVec Ideal S128x1 .f32 from iblk m c 11 t) (ix2 r 0) = X3 m c (ix1 ⟨r.val / 8 % 4 * 8 + r.val % 8, by omega⟩) := by
  refine (blk11 m c t r).trans (congrArg (fun z => X3 m c (ix1 z)) (Fin.ext ?_))
  show r.val % 32 = r.val / 8 % 4 * 8 + r.val % 8; omega

theorem top_eq (r : Fin 128) : topK (logitsK m c t) (iblk m c 11 t) r
    = T m c (ix5 (seq t) ⟨r.val / 8 % 4, by omega⟩ ⟨r.val % 8, by omega⟩ ⟨r.val / 32, by omega⟩ 0) := by
  unfold topK T
  rw [top_at]
  refine congrArg₂ max ?_ (sink_at m c t r)
  rw [sup_keys _ fun k hk => logits_pad m c t r k hk]
  exact congrArg (Finset.univ.sup) (funext fun s => logits_eq m c t r s)

/-- The exponentials are the reference's. -/
theorem expo_eq (r : Fin 128) (s : Fin 132) : Ideal.exp (logitsK m c t (ix2 r ⟨s.val, by omega⟩) - topK (logitsK m c t) (iblk m c 11 t) r)
    = expo (L m c) (T m c) (ix5 (seq t) ⟨r.val / 8 % 4, by omega⟩ ⟨r.val % 8, by omega⟩ ⟨r.val / 32, by omega⟩ s) := by
  rw [expo_at, logits_eq, top_eq]

theorem expo_pad (r : Fin 128) (s : Fin 256) (h : 132 ≤ s.val) : Ideal.exp (logitsK m c t (ix2 r s) - topK (logitsK m c t) (iblk m c 11 t) r) = 0 := by
  rw [logits_pad m c t r s h, EReal.bot_sub]
  rfl

/-- The first result of one sequence. -/
theorem point_o (r : Fin 128) (d : Fin 64) : (outsAt0 m c t).1 (ix3 0 r d)
    = mixed (wts (expo (L m c) (T m c)) (T m c) (X3 m c)) (VALL (X0 m c) (X2 m c)) (ix3 (seq t) r d) := by
  rw [left1]
  refine (pay1_at ..).trans ((pay20_at ..).trans ?_)
  rw [mixed_at]
  refine (sum_keys _ fun k hk => ?_).trans (Finset.sum_congr rfl fun s _ => ?_)
  · refine (congrArg (_ * ·) (vals_pad m c t k hk _)).trans (mul_zero _)
  · rw [mul_comm, wts_at]
    refine congrArg₂ (· * ·) ((vals_at m c t s _).trans (congrArg (VALL (X0 m c) (X2 m c)) ?_)) (congrArg₂ Ideal.div (expo_eq m c t r s) (congrArg₂ (· + ·) ?_ ?_))
    · have e1 : (⟨(64 * (r.val % 32 / 8) + d.val) / 64, by omega⟩ : Fin 4) = ⟨r.val / 8 % 4, by omega⟩ := Fin.ext (by show (64 * (r.val % 32 / 8) + d.val) / 64 = r.val / 8 % 4; omega)
      have e2 : (⟨(64 * (r.val % 32 / 8) + d.val) % 64, by omega⟩ : Fin 64) = d := Fin.ext (by show (64 * (r.val % 32 / 8) + d.val) % 64 = d.val; omega)
      exact congrArg₂ (fun y z => (ix4 (seq t) s y z : Cert.SwaReferenceIdeal.S32x132x4x64.Idx)) e1 e2
    · rw [sum_keys _ fun k hk => expo_pad m c t r k hk]
      exact Finset.sum_congr rfl fun k _ => expo_eq m c t r k
    · exact congrArg Ideal.exp (congrArg₂ (· - ·) (sink_at m c t r) (top_eq m c t r))

theorem point_k (r : Fin 128) (j : Fin 256) : (outsAt0 m c t).2.1 (ix3 0 r j) = REFk (KALL (X0 m c) (X1 m c)) (ix3 (seq t) r j) := by
  rw [left2, REFk_at]
  exact keys_at m c t ⟨4 + r.val, by omega⟩ j

theorem point_v (r : Fin 128) (j : Fin 256) : (outsAt0 m c t).2.2 (ix3 0 r j) = REFv (VALL (X0 m c) (X2 m c)) (ix3 (seq t) r j) := by
  rw [left3, REFv_at]
  exact vals_at m c t ⟨4 + r.val, by omega⟩ j
end

end Cert.SwaKernelIdeal.Whole

end
-- ==== Proof.SwaValue.lean ====
module

public import proofs.«01_k».proof.Proof.Gen.SwaKernelIdeal.Frame
public import proofs.«01_k».proof.Proof.SwaRef
public import proofs.«01_k».proof.Proof.SwaPay
public import proofs.«01_k».proof.Proof.SwaTables
public import proofs.«01_k».proof.Proof.SwaCov
public import proofs.«01_k».proof.Proof.SwaBlocks
public import proofs.«01_k».proof.Proof.SwaPoint
public import Idealize.ShloMosaic.Lib.Pipeline.RowLoads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SwaKernelIdeal.Whole

open Cert.SwaKernelIdeal Cert.SwaKernelIdeal.Gen Cert.SwaReferenceIdeal.Closed

open RowLoads

/-- A position of a row of queries with a leading axis of one. -/
theorem lead64 (y : S1x128x64.Idx) : y = ix3 0 (y 1) (y 2) := by
  funext a; fin_cases a
  · exact Subsingleton.elim (α := Fin 1) _ _
  · rfl
  · rfl

/-- A position of a row of keys with a leading axis of one. -/
theorem lead256 (y : S1x128x256.Idx) : y = ix3 0 (y 1) (y 2) := by
  funext a; fin_cases a
  · exact Subsingleton.elim (α := Fin 1) _ _
  · rfl
  · rfl

/-- The reference's first result from its arguments. -/
def REFo (x : FVec Ideal S32x4x2560 .f32) (k v : FVec Ideal S32x128x4x64 .f32) (s : FVec Ideal S32 .f32) : FVec Ideal S32x128x64 .f32 :=
  mixed (wts (expo (logits (KALL x k) (ropeQ (qs x))) (top (logits (KALL x k) (ropeQ (qs x))) s)) (top (logits (KALL x k) (ropeQ (qs x))) s) s) (VALL x v)

variable (m : (ℓ : Loc nD τ sig) → Buf (Elt Ideal) ℓ)

/-- The first result array after the run is the reference's. -/
theorem final_o (c : Dev nD) : (dats m 0 c).arrAt 12 (cfgs 0).N = REFo (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp; rw [after0_12]
  obtain ⟨i, j, rfl⟩ : ∃ (i : Fin 128) (j : Fin 64), y = ix3 0 i j := ⟨y 1, y 2, lead64 y⟩
  have e : ((cfg0.win 12).blk t).view.emb (ix3 0 i j) = ix3 (seq t) i j := by blk_ext [idx t, seq]
  exact (point_o m c t i j).trans (congrArg (REFo (m ((c : Thread nD τ).loc main_arg0)) (m ((c : Thread nD τ).loc main_arg1)) (m ((c : Thread nD τ).loc main_arg2)) (m ((c : Thread nD τ).loc main_arg3))) e.symm)

/-- The second result array after the run is the reference's. -/
theorem final_k (c : Dev nD) : (dats m 0 c).arrAt 13 (cfgs 0).N = REFk (KALL (m ((c : Thread nD τ).loc main_arg0)) (m ((c : Thread nD τ).loc main_arg1))) := by
  refine (dats m 0 c).arrAt_eq_of_covers 13 _ (by decide +kernel) fun t hf y => ?_
  blk_simp; rw [after0_13]
  obtain ⟨i, j, rfl⟩ : ∃ (i : Fin 128) (j : Fin 256), y = ix3 0 i j := ⟨y 1, y 2, lead256 y⟩
  have e : ((cfg0.win 13).blk t).view.emb (ix3 0 i j) = ix3 (seq t) i j := by blk_ext [idx t, seq]
  exact (point_k m c t i j).trans (congrArg (REFk (KALL (m ((c : Thread nD τ).loc main_arg0)) (m ((c : Thread nD τ).loc main_arg1)))) e.symm)

/-- The third result array after the run is the reference's. -/
theorem final_v (c : Dev nD) : (dats m 0 c).arrAt 14 (cfgs 0).N = REFv (VALL (m ((c : Thread nD τ).loc main_arg0)) (m ((c : Thread nD τ).loc main_arg2))) := by
  refine (dats m 0 c).arrAt_eq_of_covers 14 _ (by decide +kernel) fun t hf y => ?_
  blk_simp; rw [after0_14]
  obtain ⟨i, j, rfl⟩ : ∃ (i : Fin 128) (j : Fin 256), y = ix3 0 i j := ⟨y 1, y 2, lead256 y⟩
  have e : ((cfg0.win 14).blk t).view.emb (ix3 0 i j) = ix3 (seq t) i j := by blk_ext [idx t, seq]
  exact (point_v m c t i j).trans (congrArg (REFv (VALL (m ((c : Thread nD τ).loc main_arg0)) (m ((c : Thread nD τ).loc main_arg2)))) e.symm)

end Cert.SwaKernelIdeal.Whole

end
-- ==== Proof.SwaEq.lean ====
module

public import proofs.«01_k».proof.Defs
public import proofs.«01_k».proof.Proof.SwaValue
public import proofs.«01_k».proof.Proof.Gen.SwaReferenceIdeal.Run
public import Idealize.ShloMosaic.Lib.Claim

@[expose] public section

set_option maxRecDepth 16384

noncomputable section

open Idealize.ShloMosaic Idealize.ShloMosaic.TcCoe Idealize.SL.Sem

namespace Cert.SwaEq

section
open Cert.SwaReferenceIdeal Cert.SwaReferenceIdeal.Gen Cert.SwaReferenceIdeal.Value Idealize.ShloMosaic.StableHlo

/-- The reference's first result is its closed form at the arguments. -/
theorem closed_o (m : (ℓ : Loc nD τ sig) → Buf (Elt Ideal) ℓ) (c : Dev nD) :
    res_main_v127 m c
      = Cert.SwaKernelIdeal.Whole.REFo (m ((c.tc : Thread nD τ).loc main_arg0)) (m ((c.tc : Thread nD τ).loc main_arg1)) (m ((c.tc : Thread nD τ).loc main_arg2)) (m ((c.tc : Thread nD τ).loc main_arg3)) := rfl

/-- The reference's second result is its closed form at the arguments. -/
theorem closed_k (m : (ℓ : Loc nD τ sig) → Buf (Elt Ideal) ℓ) (c : Dev nD) :
    res_main_v129 m c
      = Closed.REFk (Closed.KALL (m ((c.tc : Thread nD τ).loc main_arg0)) (m ((c.tc : Thread nD τ).loc main_arg1))) := rfl

/-- The reference's third result is its closed form at the arguments. -/
theorem closed_v (m : (ℓ : Loc nD τ sig) → Buf (Elt Ideal) ℓ) (c : Dev nD) :
    shapeCast _ (extractStridedSlice S32x128x4x64 ![0, 4, 0, 0] (concatenate S32x132x4x64 1 [⟨S32x128x4x64, (m ((c.tc : Thread nD τ).loc main_arg2))⟩, ⟨S32x4x4x64, (shapeCast _ (extractStridedSlice S32x4x256 ![0, 0, 2304] (m ((c.tc : Thread nD τ).loc main_arg0)) slices_S32x4x2560_S32x4x256_0_0_2304) shapeCasts_S32x4x256_S32x4x4x64)⟩] concatenates_S32x128x4x64_S32x4x4x64_S32x132x4x64_d1) slices_S32x132x4x64_S32x128x4x64_0_4_0_0) shapeCasts_S32x128x4x64_S32x128x256
      = Closed.REFv (Closed.VALL (m ((c.tc : Thread nD τ).loc main_arg0)) (m ((c.tc : Thread nD τ).loc main_arg2))) := rfl

end

set_option maxHeartbeats 2000000 in
/-- From memories that agree on the arguments, the kernel and the reference end with the same results. -/
theorem equal : Cert.algebraic_SwaKernelIdeal_SwaReferenceIdeal := by
  pair_intro
  · run_from Cert.SwaKernelIdeal.Gen.run_main m g
  · run_from Cert.SwaReferenceIdeal.Value.run m' g'
    · refine (closed_o m' c).trans (Eq.trans ?_ (Cert.SwaKernelIdeal.Whole.final_o m c).symm)
      simp only [hagree c]
    · refine (closed_k m' c).trans (Eq.trans ?_ (Cert.SwaKernelIdeal.Whole.final_k m c).symm)
      simp only [hagree c]
    · rw [← (hagree c).1]
      refine (closed_v m' c).trans (Eq.trans ?_ (Cert.SwaKernelIdeal.Whole.final_v m c).symm)
      simp only [hagree c]

/-- The reference terminates with its arguments unchanged. -/
theorem kept : Cert.quiescent_SwaReferenceIdeal := fun m ρ _ =>
  (θ_run Cert.SwaReferenceIdeal.defs _ _).mono (fun r h => ⟨fun c => (h c).2.2.2, sem_eq_zero_of_no_sems (by decide) r.2⟩)
    (Cert.SwaReferenceIdeal.Value.run (F := Ideal) m ρ)

end Cert.SwaEq

end
-- ==== Proof.Mlp0Step.lean ====
module

public import proofs.«01_k».proof.Proof.Gen.Mlp0KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Mlp0KernelIdeal.Whole

open Cert.Mlp0KernelIdeal Cert.Mlp0KernelIdeal.Gen

variable (m : (ℓ : Loc nD τ sig) → Buf (Elt Ideal) ℓ)

/-- A run's first point leaves the normalised rows in the first scratch. -/
theorem norm_A (c : Dev nD) (t : Fin cfg0.N) (h0 : t.val % 8 = 0) (h1 : ¬t.val % 8 = 7) :
    (outsAt0 m c t.val t.isLt).2.1 = k0_pay1 (iblk m c 0 t) (iblk m c 1 t) := by
  rw [outsAt0_A m c t h0 h1]; frame_out

/-- A run's middle point keeps the normalised rows. -/
theorem norm_B (c : Dev nD) (t : Fin cfg0.N) (h0 : ¬t.val % 8 = 0) (h1 : ¬t.val % 8 = 7) :
    (outsAt0 m c t.val t.isLt).2.1 = (outsAt0 m c (t.val - 1) (Nat.lt_of_le_of_lt (Nat.sub_le _ _) t.isLt)).2.1 := by
  rw [outsAt0_B m c t h0 h1]
  unfold sout0_B_0; rfl

/-- A run's last point keeps the normalised rows. -/
theorem norm_C (c : Dev nD) (t : Fin cfg0.N) (h0 : ¬t.val % 8 = 0) (h1 : t.val % 8 = 7) :
    (outsAt0 m c t.val t.isLt).2.1 = (outsAt0 m c (t.val - 1) (Nat.lt_of_le_of_lt (Nat.sub_le _ _) t.isLt)).2.1 := by
  rw [outsAt0_C m c t h0 h1]
  unfold sout0_C_0; rfl

/-- A run's first point leaves the first tile's contribution in the accumulator. -/
theorem acc_A (c : Dev nD) (t : Fin cfg0.N) (h0 : t.val % 8 = 0) (h1 : ¬t.val % 8 = 7) :
    (outsAt0 m c t.val t.isLt).2.2 = k0_pay3 (k0_pay1 (iblk m c 0 t) (iblk m c 1 t)) (iblk m c 2 t) (k0_pay2 (F := Ideal)) (iblk m c 3 t) := by
  rw [outsAt0_A m c t h0 h1]; frame_out

/-- A run's middle point adds its tile's contribution to the accumulator. -/
theorem acc_B (c : Dev nD) (t : Fin cfg0.N) (h0 : ¬t.val % 8 = 0) (h1 : ¬t.val % 8 = 7) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  rw [outsAt0_B m c t h0 h1]; frame_out
  rw [(Memref.isWhole_whole cc0_scratch0).read_unread, (Memref.isWhole_whole cc0_scratch1).read_unread]

/-- A run's last point adds its tile's contribution to the accumulator. -/
theorem acc_C (c : Dev nD) (t : Fin cfg0.N) (h0 : ¬t.val % 8 = 0) (h1 : t.val % 8 = 7) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  rw [outsAt0_C m c t h0 h1]; frame_out
  rw [(Memref.isWhole_whole cc0_scratch0).read_unread, (Memref.isWhole_whole cc0_scratch1).read_unread]

/-- A run's last point stores the residual plus the normalised accumulator. -/
theorem out_C (c : Dev nD) (t : Fin cfg0.N) (h0 : ¬t.val % 8 = 0) (h1 : t.val % 8 = 7) :
    (outsAt0 m c t.val t.isLt).1 = k0_pay4 (iblk m c 0 t) (k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t)) (iblk m c 4 t) := by
  rw [outsAt0_C m c t h0 h1]; frame_out
  rw [(Memref.isWhole_whole cc0_scratch0).read_unread, (Memref.isWhole_whole cc0_scratch1).read_unread]

end Cert.Mlp0KernelIdeal.Whole

end
-- ==== Proof.Mlp0Ref.lean ====
module

public import proofs.«01_k».proof.Proof.Gen.Mlp0ReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Mlp0ReferenceIdeal.Closed

open Cert.Mlp0ReferenceIdeal Cert.Mlp0ReferenceIdeal.Gen

/-- One over the root mean square of each row of `h`. -/
abbrev scale (h : FVec Ideal S8320x2048 .f32) : FVec Ideal S8320x1 .f32 :=
  Host.rsqrt (addf (Host.divf (broadcastInDim S8320x1 ![0] bcast_S8320_S8320x1_0 (Host.reduceAdd (mulf h h)
    (constant S_ .f32 0x00000000#32) reducesTo_S8320x2048_S8320_d1 h_S_))
    (broadcastInDim S8320x1 ![] bcast_S_S8320x1 (constant S_ .f32 0x45000000#32)))
    (broadcastInDim S8320x1 ![] bcast_S_S8320x1 (constant S_ .f32 0x358637BD#32)))

/-- The normalised rows of `h`, scaled column by column by `g`. -/
abbrev rmsScale (h : FVec Ideal S8320x2048 .f32) (g : FVec Ideal S2048 .f32) : FVec Ideal S8320x2048 .f32 :=
  mulf (mulf h (broadcastInDim S8320x2048 ![0, 1] bcast_S8320x1_S8320x2048_0_1 (scale h)))
    (broadcastInDim S8320x2048 ![0, 1] bcast_S1x2048_S8320x2048_0_1 (broadcastInDim S1x2048 ![1] bcast_S2048_S1x2048_1 g))

/-- The up projection cut at zero. -/
abbrev cut (h : FVec Ideal S8320x2048 .f32) (w : FVec Ideal S4x2048x8192 .f32) : FVec Ideal S8320x8192 .f32 :=
  maximumf (Host.dotGeneral dot_S8320x2048_S2048x8192_S8320x8192_1_0_0_1_n_n none h
      (shapeCast S2048x8192 (extractStridedSlice S1x2048x8192 ![0, 0, 0] w slices_S4x2048x8192_S1x2048x8192_0_0_0) shapeCasts_S1x2048x8192_S2048x8192))
    (broadcastInDim S8320x8192 ![] bcast_S_S8320x8192 (constant S_ .f32 0x00000000#32))

/-- The down projection of the squared hidden units. -/
abbrev down (u : FVec Ideal S8320x8192 .f32) (w : FVec Ideal S4x8192x2048 .f32) : FVec Ideal S8320x2048 .f32 :=
  Host.dotGeneral dot_S8320x8192_S8192x2048_S8320x2048_1_0_0_1_n_n none (mulf u u)
    (shapeCast S8192x2048 (extractStridedSlice S1x8192x2048 ![0, 0, 0] w slices_S4x8192x2048_S1x8192x2048_0_0_0) shapeCasts_S1x8192x2048_S8192x2048)

/-- The sublayer: the residual plus the normalised result of the two projections. -/
abbrev REF (x : FVec Ideal S8320x2048 .f32) (g : FVec Ideal S2048 .f32) (wu : FVec Ideal S4x2048x8192 .f32)
    (wd : FVec Ideal S4x8192x2048 .f32) (gp : FVec Ideal S2048 .f32) : FVec Ideal S8320x2048 .f32 :=
  addf x (rmsScale (down (cut (rmsScale x g) wu) wd) gp)

/-- An entry of the down projection is a sum over the hidden units. -/
theorem down_at (h : FVec Ideal S8320x2048 .f32) (wu : FVec Ideal S4x2048x8192 .f32) (wd : FVec Ideal S4x8192x2048 .f32) (j : S8320x2048.Idx) :
    down (cut h wu) wd j = ∑ f : Fin 8192, max (∑ k : Fin 2048, h (ix2 (j 0) k) * wu (ix3 0 k f)) 0
      * max (∑ k : Fin 2048, h (ix2 (j 0) k) * wu (ix3 0 k f)) 0 * wd (ix3 0 f (j 1)) := by
  pointwise [down, cut]

end Cert.Mlp0ReferenceIdeal.Closed

end
-- ==== Proof.Mlp0Value.lean ====
module

public import proofs.«01_k».proof.Proof.Mlp0Step
public import proofs.«01_k».proof.Proof.Mlp0Ref

@[expose] public section

set_option maxRecDepth 16384

noncomputable section

open Idealize.ShloMosaic Idealize.ShloMosaic.TcCoe Idealize.SL.Sem
open Idealize.ShloMosaic.Pipeline (Dat)
open scoped BigOperators

namespace Cert.Mlp0KernelIdeal.Whole

open Cert.Mlp0KernelIdeal Cert.Mlp0KernelIdeal.Gen Cert.Mlp0ReferenceIdeal.Closed

variable (m : (ℓ : Loc nD τ sig) → Buf (Elt Ideal) ℓ)

/-- Every window's block index at every grid point: the row block, and the tile of hidden units. -/
theorem idx : ∀ t : Fin cfg0.N, win0_0.index t = ![t.val / 8, 0]
    ∧ win0_1.index t = ![0, 0]
    ∧ win0_2.index t = ![0, 0, t.val % 8]
    ∧ win0_3.index t = ![0, t.val % 8, 0]
    ∧ win0_4.index t = ![0, 0]
    ∧ win0_5.index t = ![t.val / 8, 0] :=
  (by decide +kernel : ∀ t : Fin grid0.N, _)

/-- The rows of `h` that point `t` works on. -/
def rows (h : FVec Ideal S8320x2048 .f32) (t : Fin cfg0.N) : FVec Ideal S640x2048 .f32 :=
  fun y => h (ix2 ⟨640 * (t.val / 8) + (y 0).val, by
    have h1 := lt_of_lt_of_eq t.isLt (show cfg0.N = 104 from N_0)
    have h2 : (y 0).val < 640 := (y 0).isLt
    omega⟩ (y 1))

/-- Points of one run work on the same rows. -/
theorem rows_congr (h : FVec Ideal S8320x2048 .f32) (t u : Fin cfg0.N) (e : t.val / 8 = u.val / 8) : rows h t = rows h u := by
  unfold rows; simp only [e]

/-- The accumulator starts at zero. -/
theorem pay2_at (j) : k0_pay2 (F := Ideal) j = 0 := by pointwise [k0_pay2]

/-- One tile of hidden units adds its part of the down projection. -/
theorem pay3_at (xn : FVec Ideal S640x2048 .bf16) (wu : FVec Ideal S1x2048x1024 .bf16) (acc : FVec Ideal S640x2048 .f32)
    (wd : FVec Ideal S1x1024x2048 .bf16) (j : S640x2048.Idx) :
    k0_pay3 xn wu acc wd j = acc j + ∑ f : Fin 1024, max (∑ k : Fin 2048, xn (ix2 (j 0) k) * wu (ix3 0 k f)) 0
      * max (∑ k : Fin 2048, xn (ix2 (j 0) k) * wu (ix3 0 k f)) 0 * wd (ix3 0 f (j 1)) := by
  pointwise [k0_pay3]

/-- The normalised rows of the launched input. -/
abbrev XN (c : Dev nD) : FVec Ideal S8320x2048 .f32 :=
  rmsScale (m ((c : Thread nD τ).loc main_arg0)) (m ((c : Thread nD τ).loc main_arg1))

/-- What a run's first point puts in the first scratch: its rows, normalised. -/
theorem pay1_rows (c : Dev nD) (t : Fin cfg0.N) : k0_pay1 (iblk m c 0 t) (iblk m c 1 t) = rows (XN m c) t := by
  funext y
  unfold rows
  pointwise [k0_pay1, XN, rmsScale, scale]; blk_point [iblk, V, idx t]

/-- After every point, the first scratch holds the point's rows, normalised. -/
theorem scratch_norm (c : Dev nD) : ∀ (n : ℕ) (h : n < cfg0.N), (outsAt0 m c n h).2.1 = rows (XN m c) ⟨n, h⟩ := by
  intro n
  induction n with
  | zero => intro h; exact (norm_A m c ⟨0, h⟩ (Nat.zero_mod 8) (by show ¬0 % 8 = 7; decide)).trans (pay1_rows m c _)
  | succ n ih =>
    intro h
    by_cases h0 : (n + 1) % 8 = 0
    · exact (norm_A m c ⟨n + 1, h⟩ h0 (by show ¬(n + 1) % 8 = 7; omega)).trans (pay1_rows m c _)
    · have hn : n < cfg0.N := Nat.lt_of_succ_lt h
      refine Eq.trans ?_ ((ih hn).trans (rows_congr _ _ _ (by show n / 8 = (n + 1) / 8; omega)))
      by_cases h1 : (n + 1) % 8 = 7
      · exact norm_C m c ⟨n + 1, h⟩ h0 h1
      · exact norm_B m c ⟨n + 1, h⟩ h0 h1

/-- What point `t` adds to entry `j` of the accumulator. -/
def part (c : Dev nD) (t : Fin cfg0.N) (j : S640x2048.Idx) : EReal :=
  ∑ f : Fin 1024, max (∑ k : Fin 2048, rows (XN m c) t (ix2 (j 0) k) * (show FVec Ideal S1x2048x1024 .bf16 from iblk m c 2 t) (ix3 0 k f)) 0
      * max (∑ k : Fin 2048, rows (XN m c) t (ix2 (j 0) k) * (show FVec Ideal S1x2048x1024 .bf16 from iblk m c 2 t) (ix3 0 k f)) 0
      * (show FVec Ideal S1x1024x2048 .bf16 from iblk m c 3 t) (ix3 0 f (j 1))

/-- At a run's first point the accumulator is that point's part. -/
theorem acc_reset (c : Dev nD) (t : Fin cfg0.N) (h0 : t.val % 8 = 0) (j : S640x2048.Idx) :
    (outsAt0 m c t.val t.isLt).2.2 j = (0 : EReal) + part m c t j := by
  rw [acc_A m c t h0 (by omega), pay1_rows, pay3_at, pay2_at]; rfl

/-- At every other point the accumulator grows by that point's part. -/
theorem acc_step (c : Dev nD) (t : Fin cfg0.N) (h0 : ¬t.val % 8 = 0) (j : S640x2048.Idx) :
    (outsAt0 m c t.val t.isLt).2.2 j
      = (outsAt0 m c (t.val - 1) (Nat.lt_of_le_of_lt (Nat.sub_le _ _) t.isLt)).2.2 j + part m c t j := by
  have e : (outsAt0 m c (t.val - 1) (Nat.lt_of_le_of_lt (Nat.sub_le _ _) t.isLt)).2.1 = rows (XN m c) t :=
    (scratch_norm m c _ _).trans (rows_congr _ _ _ (by show (t.val - 1) / 8 = t.val / 8; omega))
  by_cases h1 : t.val % 8 = 7
  · rw [acc_C m c t h0 h1, e, pay3_at]; rfl
  · rw [acc_B m c t h0 h1, e, pay3_at]; rfl

/-- The down projection of the launched input. -/
abbrev DN (c : Dev nD) : FVec Ideal S8320x2048 .f32 :=
  down (cut (XN m c) (m ((c : Thread nD τ).loc main_arg2))) (m ((c : Thread nD τ).loc main_arg3))

/-- At a run's last point the accumulator holds the rows' whole down projection. -/
theorem acc_last (c : Dev nD) (t : Fin cfg0.N) (h1 : t.val % 8 = 7) : (outsAt0 m c t.val t.isLt).2.2 = rows (DN m c) t := by
  funext j
  have e := Pipeline.eq_sum_fin_of_reset_step_apply_of_flush (fun n h => (outsAt0 m c n h).2.2) 8 (fun _ => (0 : EReal)) (part m c)
    (acc_reset m c) (acc_step m c) t h1 j
  refine e.trans ?_
  rw [zero_add]
  unfold rows
  rw [DN, down_at]
  unfold part
  refine Fin.sum_mul_add_congr fun s f hl => ?_
  unfold rows
  generalize XN m c = h
  blk_point [iblk, V, idx ⟨_, Pipeline.run_point_lt_of_flush t h1 s⟩]

/-- The last point's store at `y`, from the accumulated rows of any array `d`. -/
theorem point (c : Dev nD) (t : Fin cfg0.N) (d : FVec Ideal S8320x2048 .f32) (y) :
    k0_pay4 (iblk m c 0 t) (rows d t) (iblk m c 4 t) y
      = addf (m ((c : Thread nD τ).loc main_arg0)) (rmsScale d (m ((c : Thread nD τ).loc main_arg4))) (((cfg0.win 5).blk t).view.emb y) := by
  unfold rows
  pointwise [k0_pay4, rmsScale, scale]; blk_point [iblk, V, idx t]

/-- The result array after the run is the reference of the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have h1 : t.val % 8 = 7 := (flush0_5 t).mp hf
  blk_simp; rw [after0_5, out_C m c t (by omega) h1, ← acc_C m c t (by omega) h1, acc_last m c t h1]
  exact point m c t _ y

end Cert.Mlp0KernelIdeal.Whole

end
-- ==== Proof.Mlp0Eq.lean ====
module

public import proofs.«01_k».proof.Defs
public import proofs.«01_k».proof.Proof.Mlp0Value
public import proofs.«01_k».proof.Proof.Gen.Mlp0ReferenceIdeal.Run
public import Idealize.ShloMosaic.Lib.Claim

@[expose] public section

set_option maxRecDepth 16384

noncomputable section

open Idealize.ShloMosaic Idealize.ShloMosaic.TcCoe Idealize.SL.Sem

namespace Cert.Mlp0Eq

section
open Cert.Mlp0ReferenceIdeal

/-- The reference's result is its closed form at the arguments. -/
theorem closed (m : (ℓ : Loc nD τ sig) → Buf (Elt Ideal) ℓ) (c : Dev nD) :
    Value.res_main_v34 m c = Closed.REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end

/-- From memories that agree on the arguments, the kernel and the reference end with the same result. -/
theorem equal : Cert.algebraic_Mlp0KernelIdeal_Mlp0ReferenceIdeal := by
  pair_intro
  · run_from Cert.Mlp0KernelIdeal.Gen.run_main m g
  · run_from Cert.Mlp0ReferenceIdeal.Value.run m' g'
    simp only [closed, hagree c]
    exact (Cert.Mlp0KernelIdeal.Whole.final m c).symm

/-- The reference terminates with its arguments unchanged. -/
theorem kept : Cert.quiescent_Mlp0ReferenceIdeal := fun m ρ _ =>
  (θ_run Cert.Mlp0ReferenceIdeal.defs _ _).mono (fun r h => ⟨fun c => (h c).2, sem_eq_zero_of_no_sems (by decide) r.2⟩)
    (Cert.Mlp0ReferenceIdeal.Value.run (F := Ideal) m ρ)

end Cert.Mlp0Eq

end
-- ==== Proof.Mlp1Step.lean ====
module

public import proofs.«01_k».proof.Proof.Gen.Mlp1KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Mlp1KernelIdeal.Whole

open Cert.Mlp1KernelIdeal Cert.Mlp1KernelIdeal.Gen

variable (m : (ℓ : Loc nD τ sig) → Buf (Elt Ideal) ℓ)

/-- A run's first point leaves the normalised rows in the first scratch. -/
theorem norm_A (c : Dev nD) (t : Fin cfg0.N) (h0 : t.val % 8 = 0) (h1 : ¬t.val % 8 = 7) :
    (outsAt0 m c t.val t.isLt).2.1 = k0_pay1 (iblk m c 0 t) (iblk m c 1 t) := by
  rw [outsAt0_A m c t h0 h1]; frame_out

/-- A run's middle point keeps the normalised rows. -/
theorem norm_B (c : Dev nD) (t : Fin cfg0.N) (h0 : ¬t.val % 8 = 0) (h1 : ¬t.val % 8 = 7) :
    (outsAt0 m c t.val t.isLt).2.1 = (outsAt0 m c (t.val - 1) (Nat.lt_of_le_of_lt (Nat.sub_le _ _) t.isLt)).2.1 := by
  rw [outsAt0_B m c t h0 h1]
  unfold sout0_B_0; rfl

/-- A run's last point keeps the normalised rows. -/
theorem norm_C (c : Dev nD) (t : Fin cfg0.N) (h0 : ¬t.val % 8 = 0) (h1 : t.val % 8 = 7) :
    (outsAt0 m c t.val t.isLt).2.1 = (outsAt0 m c (t.val - 1) (Nat.lt_of_le_of_lt (Nat.sub_le _ _) t.isLt)).2.1 := by
  rw [outsAt0_C m c t h0 h1]
  unfold sout0_C_0; rfl

/-- A run's first point leaves the first tile's contribution in the accumulator. -/
theorem acc_A (c : Dev nD) (t : Fin cfg0.N) (h0 : t.val % 8 = 0) (h1 : ¬t.val % 8 = 7) :
    (outsAt0 m c t.val t.isLt).2.2 = k0_pay3 (k0_pay1 (iblk m c 0 t) (iblk m c 1 t)) (iblk m c 2 t) (k0_pay2 (F := Ideal)) (iblk m c 3 t) := by
  rw [outsAt0_A m c t h0 h1]; frame_out

/-- A run's middle point adds its tile's contribution to the accumulator. -/
theorem acc_B (c : Dev nD) (t : Fin cfg0.N) (h0 : ¬t.val % 8 = 0) (h1 : ¬t.val % 8 = 7) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  rw [outsAt0_B m c t h0 h1]; frame_out
  rw [(Memref.isWhole_whole cc0_scratch0).read_unread, (Memref.isWhole_whole cc0_scratch1).read_unread]

/-- A run's last point adds its tile's contribution to the accumulator. -/
theorem acc_C (c : Dev nD) (t : Fin cfg0.N) (h0 : ¬t.val % 8 = 0) (h1 : t.val % 8 = 7) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  rw [outsAt0_C m c t h0 h1]; frame_out
  rw [(Memref.isWhole_whole cc0_scratch0).read_unread, (Memref.isWhole_whole cc0_scratch1).read_unread]

/-- A run's last point stores the residual plus the normalised accumulator. -/
theorem out_C (c : Dev nD) (t : Fin cfg0.N) (h0 : ¬t.val % 8 = 0) (h1 : t.val % 8 = 7) :
    (outsAt0 m c t.val t.isLt).1 = k0_pay4 (iblk m c 0 t) (k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t)) (iblk m c 4 t) := by
  rw [outsAt0_C m c t h0 h1]; frame_out
  rw [(Memref.isWhole_whole cc0_scratch0).read_unread, (Memref.isWhole_whole cc0_scratch1).read_unread]

end Cert.Mlp1KernelIdeal.Whole

end
-- ==== Proof.Mlp1Ref.lean ====
module

public import proofs.«01_k».proof.Proof.Gen.Mlp1ReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Mlp1ReferenceIdeal.Closed

open Cert.Mlp1ReferenceIdeal Cert.Mlp1ReferenceIdeal.Gen

/-- One over the root mean square of each row of `h`. -/
abbrev scale (h : FVec Ideal S8320x2048 .f32) : FVec Ideal S8320x1 .f32 :=
  Host.rsqrt (addf (Host.divf (broadcastInDim S8320x1 ![0] bcast_S8320_S8320x1_0 (Host.reduceAdd (mulf h h)
    (constant S_ .f32 0x00000000#32) reducesTo_S8320x2048_S8320_d1 h_S_))
    (broadcastInDim S8320x1 ![] bcast_S_S8320x1 (constant S_ .f32 0x45000000#32)))
    (broadcastInDim S8320x1 ![] bcast_S_S8320x1 (constant S_ .f32 0x358637BD#32)))

/-- The normalised rows of `h`, scaled column by column by `g`. -/
abbrev rmsScale (h : FVec Ideal S8320x2048 .f32) (g : FVec Ideal S2048 .f32) : FVec Ideal S8320x2048 .f32 :=
  mulf (mulf h (broadcastInDim S8320x2048 ![0, 1] bcast_S8320x1_S8320x2048_0_1 (scale h)))
    (broadcastInDim S8320x2048 ![0, 1] bcast_S1x2048_S8320x2048_0_1 (broadcastInDim S1x2048 ![1] bcast_S2048_S1x2048_1 g))

/-- The up projection cut at zero. -/
abbrev cut (h : FVec Ideal S8320x2048 .f32) (w : FVec Ideal S4x2048x8192 .f32) : FVec Ideal S8320x8192 .f32 :=
  maximumf (Host.dotGeneral dot_S8320x2048_S2048x8192_S8320x8192_1_0_0_1_n_n none h
      (shapeCast S2048x8192 (extractStridedSlice S1x2048x8192 ![1, 0, 0] w slices_S4x2048x8192_S1x2048x8192_1_0_0) shapeCasts_S1x2048x8192_S2048x8192))
    (broadcastInDim S8320x8192 ![] bcast_S_S8320x8192 (constant S_ .f32 0x00000000#32))

/-- The down projection of the squared hidden units. -/
abbrev down (u : FVec Ideal S8320x8192 .f32) (w : FVec Ideal S4x8192x2048 .f32) : FVec Ideal S8320x2048 .f32 :=
  Host.dotGeneral dot_S8320x8192_S8192x2048_S8320x2048_1_0_0_1_n_n none (mulf u u)
    (shapeCast S8192x2048 (extractStridedSlice S1x8192x2048 ![1, 0, 0] w slices_S4x8192x2048_S1x8192x2048_1_0_0) shapeCasts_S1x8192x2048_S8192x2048)

/-- The sublayer: the residual plus the normalised result of the two projections. -/
abbrev REF (x : FVec Ideal S8320x2048 .f32) (g : FVec Ideal S2048 .f32) (wu : FVec Ideal S4x2048x8192 .f32)
    (wd : FVec Ideal S4x8192x2048 .f32) (gp : FVec Ideal S2048 .f32) : FVec Ideal S8320x2048 .f32 :=
  addf x (rmsScale (down (cut (rmsScale x g) wu) wd) gp)

/-- An entry of the down projection is a sum over the hidden units. -/
theorem down_at (h : FVec Ideal S8320x2048 .f32) (wu : FVec Ideal S4x2048x8192 .f32) (wd : FVec Ideal S4x8192x2048 .f32) (j : S8320x2048.Idx) :
    down (cut h wu) wd j = ∑ f : Fin 8192, max (∑ k : Fin 2048, h (ix2 (j 0) k) * wu (ix3 1 k f)) 0
      * max (∑ k : Fin 2048, h (ix2 (j 0) k) * wu (ix3 1 k f)) 0 * wd (ix3 1 f (j 1)) := by
  pointwise [down, cut]

end Cert.Mlp1ReferenceIdeal.Closed

end
-- ==== Proof.Mlp1Value.lean ====
module

public import proofs.«01_k».proof.Proof.Mlp1Step
public import proofs.«01_k».proof.Proof.Mlp1Ref

@[expose] public section

set_option maxRecDepth 16384

noncomputable section

open Idealize.ShloMosaic Idealize.ShloMosaic.TcCoe Idealize.SL.Sem
open Idealize.ShloMosaic.Pipeline (Dat)
open scoped BigOperators

namespace Cert.Mlp1KernelIdeal.Whole

open Cert.Mlp1KernelIdeal Cert.Mlp1KernelIdeal.Gen Cert.Mlp1ReferenceIdeal.Closed

variable (m : (ℓ : Loc nD τ sig) → Buf (Elt Ideal) ℓ)

/-- Every window's block index at every grid point: the row block, and the tile of hidden units. -/
theorem idx : ∀ t : Fin cfg0.N, win0_0.index t = ![t.val / 8, 0]
    ∧ win0_1.index t = ![0, 0]
    ∧ win0_2.index t = ![1, 0, t.val % 8]
    ∧ win0_3.index t = ![1, t.val % 8, 0]
    ∧ win0_4.index t = ![0, 0]
    ∧ win0_5.index t = ![t.val / 8, 0] :=
  (by decide +kernel : ∀ t : Fin grid0.N, _)

/-- The rows of `h` that point `t` works on. -/
def rows (h : FVec Ideal S8320x2048 .f32) (t : Fin cfg0.N) : FVec Ideal S640x2048 .f32 :=
  fun y => h (ix2 ⟨640 * (t.val / 8) + (y 0).val, by
    have h1 := lt_of_lt_of_eq t.isLt (show cfg0.N = 104 from N_0)
    have h2 : (y 0).val < 640 := (y 0).isLt
    omega⟩ (y 1))

/-- Points of one run work on the same rows. -/
theorem rows_congr (h : FVec Ideal S8320x2048 .f32) (t u : Fin cfg0.N) (e : t.val / 8 = u.val / 8) : rows h t = rows h u := by
  unfold rows; simp only [e]

/-- The accumulator starts at zero. -/
theorem pay2_at (j) : k0_pay2 (F := Ideal) j = 0 := by pointwise [k0_pay2]

/-- One tile of hidden units adds its part of the down projection. -/
theorem pay3_at (xn : FVec Ideal S640x2048 .bf16) (wu : FVec Ideal S1x2048x1024 .bf16) (acc : FVec Ideal S640x2048 .f32)
    (wd : FVec Ideal S1x1024x2048 .bf16) (j : S640x2048.Idx) :
    k0_pay3 xn wu acc wd j = acc j + ∑ f : Fin 1024, max (∑ k : Fin 2048, xn (ix2 (j 0) k) * wu (ix3 0 k f)) 0
      * max (∑ k : Fin 2048, xn (ix2 (j 0) k) * wu (ix3 0 k f)) 0 * wd (ix3 0 f (j 1)) := by
  pointwise [k0_pay3]

/-- The normalised rows of the launched input. -/
abbrev XN (c : Dev nD) : FVec Ideal S8320x2048 .f32 :=
  rmsScale (m ((c : Thread nD τ).loc main_arg0)) (m ((c : Thread nD τ).loc main_arg1))

/-- What a run's first point puts in the first scratch: its rows, normalised. -/
theorem pay1_rows (c : Dev nD) (t : Fin cfg0.N) : k0_pay1 (iblk m c 0 t) (iblk m c 1 t) = rows (XN m c) t := by
  funext y
  unfold rows
  pointwise [k0_pay1, XN, rmsScale, scale]; blk_point [iblk, V, idx t]

/-- After every point, the first scratch holds the point's rows, normalised. -/
theorem scratch_norm (c : Dev nD) : ∀ (n : ℕ) (h : n < cfg0.N), (outsAt0 m c n h).2.1 = rows (XN m c) ⟨n, h⟩ := by
  intro n
  induction n with
  | zero => intro h; exact (norm_A m c ⟨0, h⟩ (Nat.zero_mod 8) (by show ¬0 % 8 = 7; decide)).trans (pay1_rows m c _)
  | succ n ih =>
    intro h
    by_cases h0 : (n + 1) % 8 = 0
    · exact (norm_A m c ⟨n + 1, h⟩ h0 (by show ¬(n + 1) % 8 = 7; omega)).trans (pay1_rows m c _)
    · have hn : n < cfg0.N := Nat.lt_of_succ_lt h
      refine Eq.trans ?_ ((ih hn).trans (rows_congr _ _ _ (by show n / 8 = (n + 1) / 8; omega)))
      by_cases h1 : (n + 1) % 8 = 7
      · exact norm_C m c ⟨n + 1, h⟩ h0 h1
      · exact norm_B m c ⟨n + 1, h⟩ h0 h1

/-- What point `t` adds to entry `j` of the accumulator. -/
def part (c : Dev nD) (t : Fin cfg0.N) (j : S640x2048.Idx) : EReal :=
  ∑ f : Fin 1024, max (∑ k : Fin 2048, rows (XN m c) t (ix2 (j 0) k) * (show FVec Ideal S1x2048x1024 .bf16 from iblk m c 2 t) (ix3 0 k f)) 0
      * max (∑ k : Fin 2048, rows (XN m c) t (ix2 (j 0) k) * (show FVec Ideal S1x2048x1024 .bf16 from iblk m c 2 t) (ix3 0 k f)) 0
      * (show FVec Ideal S1x1024x2048 .bf16 from iblk m c 3 t) (ix3 0 f (j 1))

/-- At a run's first point the accumulator is that point's part. -/
theorem acc_reset (c : Dev nD) (t : Fin cfg0.N) (h0 : t.val % 8 = 0) (j : S640x2048.Idx) :
    (outsAt0 m c t.val t.isLt).2.2 j = (0 : EReal) + part m c t j := by
  rw [acc_A m c t h0 (by omega), pay1_rows, pay3_at, pay2_at]; rfl

/-- At every other point the accumulator grows by that point's part. -/
theorem acc_step (c : Dev nD) (t : Fin cfg0.N) (h0 : ¬t.val % 8 = 0) (j : S640x2048.Idx) :
    (outsAt0 m c t.val t.isLt).2.2 j
      = (outsAt0 m c (t.val - 1) (Nat.lt_of_le_of_lt (Nat.sub_le _ _) t.isLt)).2.2 j + part m c t j := by
  have e : (outsAt0 m c (t.val - 1) (Nat.lt_of_le_of_lt (Nat.sub_le _ _) t.isLt)).2.1 = rows (XN m c) t :=
    (scratch_norm m c _ _).trans (rows_congr _ _ _ (by show (t.val - 1) / 8 = t.val / 8; omega))
  by_cases h1 : t.val % 8 = 7
  · rw [acc_C m c t h0 h1, e, pay3_at]; rfl
  · rw [acc_B m c t h0 h1, e, pay3_at]; rfl

/-- The down projection of the launched input. -/
abbrev DN (c : Dev nD) : FVec Ideal S8320x2048 .f32 :=
  down (cut (XN m c) (m ((c : Thread nD τ).loc main_arg2))) (m ((c : Thread nD τ).loc main_arg3))

/-- At a run's last point the accumulator holds the rows' whole down projection. -/
theorem acc_last (c : Dev nD) (t : Fin cfg0.N) (h1 : t.val % 8 = 7) : (outsAt0 m c t.val t.isLt).2.2 = rows (DN m c) t := by
  funext j
  have e := Pipeline.eq_sum_fin_of_reset_step_apply_of_flush (fun n h => (outsAt0 m c n h).2.2) 8 (fun _ => (0 : EReal)) (part m c)
    (acc_reset m c) (acc_step m c) t h1 j
  refine e.trans ?_
  rw [zero_add]
  unfold rows
  rw [DN, down_at]
  unfold part
  refine Fin.sum_mul_add_congr fun s f hl => ?_
  unfold rows
  generalize XN m c = h
  blk_point [iblk, V, idx ⟨_, Pipeline.run_point_lt_of_flush t h1 s⟩]

/-- The last point's store at `y`, from the accumulated rows of any array `d`. -/
theorem point (c : Dev nD) (t : Fin cfg0.N) (d : FVec Ideal S8320x2048 .f32) (y) :
    k0_pay4 (iblk m c 0 t) (rows d t) (iblk m c 4 t) y
      = addf (m ((c : Thread nD τ).loc main_arg0)) (rmsScale d (m ((c : Thread nD τ).loc main_arg4))) (((cfg0.win 5).blk t).view.emb y) := by
  unfold rows
  pointwise [k0_pay4, rmsScale, scale]; blk_point [iblk, V, idx t]

/-- The result array after the run is the reference of the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have h1 : t.val % 8 = 7 := (flush0_5 t).mp hf
  blk_simp; rw [after0_5, out_C m c t (by omega) h1, ← acc_C m c t (by omega) h1, acc_last m c t h1]
  exact point m c t _ y

end Cert.Mlp1KernelIdeal.Whole

end
-- ==== Proof.Mlp1Eq.lean ====
module

public import proofs.«01_k».proof.Defs
public import proofs.«01_k».proof.Proof.Mlp1Value
public import proofs.«01_k».proof.Proof.Gen.Mlp1ReferenceIdeal.Run
public import Idealize.ShloMosaic.Lib.Claim

@[expose] public section

set_option maxRecDepth 16384

noncomputable section

open Idealize.ShloMosaic Idealize.ShloMosaic.TcCoe Idealize.SL.Sem

namespace Cert.Mlp1Eq

section
open Cert.Mlp1ReferenceIdeal

/-- The reference's result is its closed form at the arguments. -/
theorem closed (m : (ℓ : Loc nD τ sig) → Buf (Elt Ideal) ℓ) (c : Dev nD) :
    Value.res_main_v34 m c = Closed.REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end

/-- From memories that agree on the arguments, the kernel and the reference end with the same result. -/
theorem equal : Cert.algebraic_Mlp1KernelIdeal_Mlp1ReferenceIdeal := by
  pair_intro
  · run_from Cert.Mlp1KernelIdeal.Gen.run_main m g
  · run_from Cert.Mlp1ReferenceIdeal.Value.run m' g'
    simp only [closed, hagree c]
    exact (Cert.Mlp1KernelIdeal.Whole.final m c).symm

/-- The reference terminates with its arguments unchanged. -/
theorem kept : Cert.quiescent_Mlp1ReferenceIdeal := fun m ρ _ =>
  (θ_run Cert.Mlp1ReferenceIdeal.defs _ _).mono (fun r h => ⟨fun c => (h c).2, sem_eq_zero_of_no_sems (by decide) r.2⟩)
    (Cert.Mlp1ReferenceIdeal.Value.run (F := Ideal) m ρ)

end Cert.Mlp1Eq

end
-- ==== Proof.Mlp2Step.lean ====
module

public import proofs.«01_k».proof.Proof.Gen.Mlp2KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Mlp2KernelIdeal.Whole

open Cert.Mlp2KernelIdeal Cert.Mlp2KernelIdeal.Gen

variable (m : (ℓ : Loc nD τ sig) → Buf (Elt Ideal) ℓ)

/-- A run's first point leaves the normalised rows in the first scratch. -/
theorem norm_A (c : Dev nD) (t : Fin cfg0.N) (h0 : t.val % 8 = 0) (h1 : ¬t.val % 8 = 7) :
    (outsAt0 m c t.val t.isLt).2.1 = k0_pay1 (iblk m c 0 t) (iblk m c 1 t) := by
  rw [outsAt0_A m c t h0 h1]; frame_out

/-- A run's middle point keeps the normalised rows. -/
theorem norm_B (c : Dev nD) (t : Fin cfg0.N) (h0 : ¬t.val % 8 = 0) (h1 : ¬t.val % 8 = 7) :
    (outsAt0 m c t.val t.isLt).2.1 = (outsAt0 m c (t.val - 1) (Nat.lt_of_le_of_lt (Nat.sub_le _ _) t.isLt)).2.1 := by
  rw [outsAt0_B m c t h0 h1]
  unfold sout0_B_0; rfl

/-- A run's last point keeps the normalised rows. -/
theorem norm_C (c : Dev nD) (t : Fin cfg0.N) (h0 : ¬t.val % 8 = 0) (h1 : t.val % 8 = 7) :
    (outsAt0 m c t.val t.isLt).2.1 = (outsAt0 m c (t.val - 1) (Nat.lt_of_le_of_lt (Nat.sub_le _ _) t.isLt)).2.1 := by
  rw [outsAt0_C m c t h0 h1]
  unfold sout0_C_0; rfl

/-- A run's first point leaves the first tile's contribution in the accumulator. -/
theorem acc_A (c : Dev nD) (t : Fin cfg0.N) (h0 : t.val % 8 = 0) (h1 : ¬t.val % 8 = 7) :
    (outsAt0 m c t.val t.isLt).2.2 = k0_pay3 (k0_pay1 (iblk m c 0 t) (iblk m c 1 t)) (iblk m c 2 t) (k0_pay2 (F := Ideal)) (iblk m c 3 t) := by
  rw [outsAt0_A m c t h0 h1]; frame_out

/-- A run's middle point adds its tile's contribution to the accumulator. -/
theorem acc_B (c : Dev nD) (t : Fin cfg0.N) (h0 : ¬t.val % 8 = 0) (h1 : ¬t.val % 8 = 7) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  rw [outsAt0_B m c t h0 h1]; frame_out
  rw [(Memref.isWhole_whole cc0_scratch0).read_unread, (Memref.isWhole_whole cc0_scratch1).read_unread]

/-- A run's last point adds its tile's contribution to the accumulator. -/
theorem acc_C (c : Dev nD) (t : Fin cfg0.N) (h0 : ¬t.val % 8 = 0) (h1 : t.val % 8 = 7) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  rw [outsAt0_C m c t h0 h1]; frame_out
  rw [(Memref.isWhole_whole cc0_scratch0).read_unread, (Memref.isWhole_whole cc0_scratch1).read_unread]

/-- A run's last point stores the residual plus the normalised accumulator. -/
theorem out_C (c : Dev nD) (t : Fin cfg0.N) (h0 : ¬t.val % 8 = 0) (h1 : t.val % 8 = 7) :
    (outsAt0 m c t.val t.isLt).1 = k0_pay4 (iblk m c 0 t) (k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t)) (iblk m c 4 t) := by
  rw [outsAt0_C m c t h0 h1]; frame_out
  rw [(Memref.isWhole_whole cc0_scratch0).read_unread, (Memref.isWhole_whole cc0_scratch1).read_unread]

end Cert.Mlp2KernelIdeal.Whole

end
-- ==== Proof.Mlp2Ref.lean ====
module

public import proofs.«01_k».proof.Proof.Gen.Mlp2ReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Mlp2ReferenceIdeal.Closed

open Cert.Mlp2ReferenceIdeal Cert.Mlp2ReferenceIdeal.Gen

/-- One over the root mean square of each row of `h`. -/
abbrev scale (h : FVec Ideal S8320x2048 .f32) : FVec Ideal S8320x1 .f32 :=
  Host.rsqrt (addf (Host.divf (broadcastInDim S8320x1 ![0] bcast_S8320_S8320x1_0 (Host.reduceAdd (mulf h h)
    (constant S_ .f32 0x00000000#32) reducesTo_S8320x2048_S8320_d1 h_S_))
    (broadcastInDim S8320x1 ![] bcast_S_S8320x1 (constant S_ .f32 0x45000000#32)))
    (broadcastInDim S8320x1 ![] bcast_S_S8320x1 (constant S_ .f32 0x358637BD#32)))

/-- The normalised rows of `h`, scaled column by column by `g`. -/
abbrev rmsScale (h : FVec Ideal S8320x2048 .f32) (g : FVec Ideal S2048 .f32) : FVec Ideal S8320x2048 .f32 :=
  mulf (mulf h (broadcastInDim S8320x2048 ![0, 1] bcast_S8320x1_S8320x2048_0_1 (scale h)))
    (broadcastInDim S8320x2048 ![0, 1] bcast_S1x2048_S8320x2048_0_1 (broadcastInDim S1x2048 ![1] bcast_S2048_S1x2048_1 g))

/-- The up projection cut at zero. -/
abbrev cut (h : FVec Ideal S8320x2048 .f32) (w : FVec Ideal S4x2048x8192 .f32) : FVec Ideal S8320x8192 .f32 :=
  maximumf (Host.dotGeneral dot_S8320x2048_S2048x8192_S8320x8192_1_0_0_1_n_n none h
      (shapeCast S2048x8192 (extractStridedSlice S1x2048x8192 ![2, 0, 0] w slices_S4x2048x8192_S1x2048x8192_2_0_0) shapeCasts_S1x2048x8192_S2048x8192))
    (broadcastInDim S8320x8192 ![] bcast_S_S8320x8192 (constant S_ .f32 0x00000000#32))

/-- The down projection of the squared hidden units. -/
abbrev down (u : FVec Ideal S8320x8192 .f32) (w : FVec Ideal S4x8192x2048 .f32) : FVec Ideal S8320x2048 .f32 :=
  Host.dotGeneral dot_S8320x8192_S8192x2048_S8320x2048_1_0_0_1_n_n none (mulf u u)
    (shapeCast S8192x2048 (extractStridedSlice S1x8192x2048 ![2, 0, 0] w slices_S4x8192x2048_S1x8192x2048_2_0_0) shapeCasts_S1x8192x2048_S8192x2048)

/-- The sublayer: the residual plus the normalised result of the two projections. -/
abbrev REF (x : FVec Ideal S8320x2048 .f32) (g : FVec Ideal S2048 .f32) (wu : FVec Ideal S4x2048x8192 .f32)
    (wd : FVec Ideal S4x8192x2048 .f32) (gp : FVec Ideal S2048 .f32) : FVec Ideal S8320x2048 .f32 :=
  addf x (rmsScale (down (cut (rmsScale x g) wu) wd) gp)

/-- An entry of the down projection is a sum over the hidden units. -/
theorem down_at (h : FVec Ideal S8320x2048 .f32) (wu : FVec Ideal S4x2048x8192 .f32) (wd : FVec Ideal S4x8192x2048 .f32) (j : S8320x2048.Idx) :
    down (cut h wu) wd j = ∑ f : Fin 8192, max (∑ k : Fin 2048, h (ix2 (j 0) k) * wu (ix3 2 k f)) 0
      * max (∑ k : Fin 2048, h (ix2 (j 0) k) * wu (ix3 2 k f)) 0 * wd (ix3 2 f (j 1)) := by
  pointwise [down, cut]

end Cert.Mlp2ReferenceIdeal.Closed

end
-- ==== Proof.Mlp2Value.lean ====
module

public import proofs.«01_k».proof.Proof.Mlp2Step
public import proofs.«01_k».proof.Proof.Mlp2Ref

@[expose] public section

set_option maxRecDepth 16384

noncomputable section

open Idealize.ShloMosaic Idealize.ShloMosaic.TcCoe Idealize.SL.Sem
open Idealize.ShloMosaic.Pipeline (Dat)
open scoped BigOperators

namespace Cert.Mlp2KernelIdeal.Whole

open Cert.Mlp2KernelIdeal Cert.Mlp2KernelIdeal.Gen Cert.Mlp2ReferenceIdeal.Closed

variable (m : (ℓ : Loc nD τ sig) → Buf (Elt Ideal) ℓ)

/-- Every window's block index at every grid point: the row block, and the tile of hidden units. -/
theorem idx : ∀ t : Fin cfg0.N, win0_0.index t = ![t.val / 8, 0]
    ∧ win0_1.index t = ![0, 0]
    ∧ win0_2.index t = ![2, 0, t.val % 8]
    ∧ win0_3.index t = ![2, t.val % 8, 0]
    ∧ win0_4.index t = ![0, 0]
    ∧ win0_5.index t = ![t.val / 8, 0] :=
  (by decide +kernel : ∀ t : Fin grid0.N, _)

/-- The rows of `h` that point `t` works on. -/
def rows (h : FVec Ideal S8320x2048 .f32) (t : Fin cfg0.N) : FVec Ideal S640x2048 .f32 :=
  fun y => h (ix2 ⟨640 * (t.val / 8) + (y 0).val, by
    have h1 := lt_of_lt_of_eq t.isLt (show cfg0.N = 104 from N_0)
    have h2 : (y 0).val < 640 := (y 0).isLt
    omega⟩ (y 1))

/-- Points of one run work on the same rows. -/
theorem rows_congr (h : FVec Ideal S8320x2048 .f32) (t u : Fin cfg0.N) (e : t.val / 8 = u.val / 8) : rows h t = rows h u := by
  unfold rows; simp only [e]

/-- The accumulator starts at zero. -/
theorem pay2_at (j) : k0_pay2 (F := Ideal) j = 0 := by pointwise [k0_pay2]

/-- One tile of hidden units adds its part of the down projection. -/
theorem pay3_at (xn : FVec Ideal S640x2048 .bf16) (wu : FVec Ideal S1x2048x1024 .bf16) (acc : FVec Ideal S640x2048 .f32)
    (wd : FVec Ideal S1x1024x2048 .bf16) (j : S640x2048.Idx) :
    k0_pay3 xn wu acc wd j = acc j + ∑ f : Fin 1024, max (∑ k : Fin 2048, xn (ix2 (j 0) k) * wu (ix3 0 k f)) 0
      * max (∑ k : Fin 2048, xn (ix2 (j 0) k) * wu (ix3 0 k f)) 0 * wd (ix3 0 f (j 1)) := by
  pointwise [k0_pay3]

/-- The normalised rows of the launched input. -/
abbrev XN (c : Dev nD) : FVec Ideal S8320x2048 .f32 :=
  rmsScale (m ((c : Thread nD τ).loc main_arg0)) (m ((c : Thread nD τ).loc main_arg1))

/-- What a run's first point puts in the first scratch: its rows, normalised. -/
theorem pay1_rows (c : Dev nD) (t : Fin cfg0.N) : k0_pay1 (iblk m c 0 t) (iblk m c 1 t) = rows (XN m c) t := by
  funext y
  unfold rows
  pointwise [k0_pay1, XN, rmsScale, scale]; blk_point [iblk, V, idx t]

/-- After every point, the first scratch holds the point's rows, normalised. -/
theorem scratch_norm (c : Dev nD) : ∀ (n : ℕ) (h : n < cfg0.N), (outsAt0 m c n h).2.1 = rows (XN m c) ⟨n, h⟩ := by
  intro n
  induction n with
  | zero => intro h; exact (norm_A m c ⟨0, h⟩ (Nat.zero_mod 8) (by show ¬0 % 8 = 7; decide)).trans (pay1_rows m c _)
  | succ n ih =>
    intro h
    by_cases h0 : (n + 1) % 8 = 0
    · exact (norm_A m c ⟨n + 1, h⟩ h0 (by show ¬(n + 1) % 8 = 7; omega)).trans (pay1_rows m c _)
    · have hn : n < cfg0.N := Nat.lt_of_succ_lt h
      refine Eq.trans ?_ ((ih hn).trans (rows_congr _ _ _ (by show n / 8 = (n + 1) / 8; omega)))
      by_cases h1 : (n + 1) % 8 = 7
      · exact norm_C m c ⟨n + 1, h⟩ h0 h1
      · exact norm_B m c ⟨n + 1, h⟩ h0 h1

/-- What point `t` adds to entry `j` of the accumulator. -/
def part (c : Dev nD) (t : Fin cfg0.N) (j : S640x2048.Idx) : EReal :=
  ∑ f : Fin 1024, max (∑ k : Fin 2048, rows (XN m c) t (ix2 (j 0) k) * (show FVec Ideal S1x2048x1024 .bf16 from iblk m c 2 t) (ix3 0 k f)) 0
      * max (∑ k : Fin 2048, rows (XN m c) t (ix2 (j 0) k) * (show FVec Ideal S1x2048x1024 .bf16 from iblk m c 2 t) (ix3 0 k f)) 0
      * (show FVec Ideal S1x1024x2048 .bf16 from iblk m c 3 t) (ix3 0 f (j 1))

/-- At a run's first point the accumulator is that point's part. -/
theorem acc_reset (c : Dev nD) (t : Fin cfg0.N) (h0 : t.val % 8 = 0) (j : S640x2048.Idx) :
    (outsAt0 m c t.val t.isLt).2.2 j = (0 : EReal) + part m c t j := by
  rw [acc_A m c t h0 (by omega), pay1_rows, pay3_at, pay2_at]; rfl

/-- At every other point the accumulator grows by that point's part. -/
theorem acc_step (c : Dev nD) (t : Fin cfg0.N) (h0 : ¬t.val % 8 = 0) (j : S640x2048.Idx) :
    (outsAt0 m c t.val t.isLt).2.2 j
      = (outsAt0 m c (t.val - 1) (Nat.lt_of_le_of_lt (Nat.sub_le _ _) t.isLt)).2.2 j + part m c t j := by
  have e : (outsAt0 m c (t.val - 1) (Nat.lt_of_le_of_lt (Nat.sub_le _ _) t.isLt)).2.1 = rows (XN m c) t :=
    (scratch_norm m c _ _).trans (rows_congr _ _ _ (by show (t.val - 1) / 8 = t.val / 8; omega))
  by_cases h1 : t.val % 8 = 7
  · rw [acc_C m c t h0 h1, e, pay3_at]; rfl
  · rw [acc_B m c t h0 h1, e, pay3_at]; rfl

/-- The down projection of the launched input. -/
abbrev DN (c : Dev nD) : FVec Ideal S8320x2048 .f32 :=
  down (cut (XN m c) (m ((c : Thread nD τ).loc main_arg2))) (m ((c : Thread nD τ).loc main_arg3))

/-- At a run's last point the accumulator holds the rows' whole down projection. -/
theorem acc_last (c : Dev nD) (t : Fin cfg0.N) (h1 : t.val % 8 = 7) : (outsAt0 m c t.val t.isLt).2.2 = rows (DN m c) t := by
  funext j
  have e := Pipeline.eq_sum_fin_of_reset_step_apply_of_flush (fun n h => (outsAt0 m c n h).2.2) 8 (fun _ => (0 : EReal)) (part m c)
    (acc_reset m c) (acc_step m c) t h1 j
  refine e.trans ?_
  rw [zero_add]
  unfold rows
  rw [DN, down_at]
  unfold part
  refine Fin.sum_mul_add_congr fun s f hl => ?_
  unfold rows
  generalize XN m c = h
  blk_point [iblk, V, idx ⟨_, Pipeline.run_point_lt_of_flush t h1 s⟩]

/-- The last point's store at `y`, from the accumulated rows of any array `d`. -/
theorem point (c : Dev nD) (t : Fin cfg0.N) (d : FVec Ideal S8320x2048 .f32) (y) :
    k0_pay4 (iblk m c 0 t) (rows d t) (iblk m c 4 t) y
      = addf (m ((c : Thread nD τ).loc main_arg0)) (rmsScale d (m ((c : Thread nD τ).loc main_arg4))) (((cfg0.win 5).blk t).view.emb y) := by
  unfold rows
  pointwise [k0_pay4, rmsScale, scale]; blk_point [iblk, V, idx t]

/-- The result array after the run is the reference of the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have h1 : t.val % 8 = 7 := (flush0_5 t).mp hf
  blk_simp; rw [after0_5, out_C m c t (by omega) h1, ← acc_C m c t (by omega) h1, acc_last m c t h1]
  exact point m c t _ y

end Cert.Mlp2KernelIdeal.Whole

end
-- ==== Proof.Mlp2Eq.lean ====
module

public import proofs.«01_k».proof.Defs
public import proofs.«01_k».proof.Proof.Mlp2Value
public import proofs.«01_k».proof.Proof.Gen.Mlp2ReferenceIdeal.Run
public import Idealize.ShloMosaic.Lib.Claim

@[expose] public section

set_option maxRecDepth 16384

noncomputable section

open Idealize.ShloMosaic Idealize.ShloMosaic.TcCoe Idealize.SL.Sem

namespace Cert.Mlp2Eq

section
open Cert.Mlp2ReferenceIdeal

/-- The reference's result is its closed form at the arguments. -/
theorem closed (m : (ℓ : Loc nD τ sig) → Buf (Elt Ideal) ℓ) (c : Dev nD) :
    Value.res_main_v34 m c = Closed.REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end

/-- From memories that agree on the arguments, the kernel and the reference end with the same result. -/
theorem equal : Cert.algebraic_Mlp2KernelIdeal_Mlp2ReferenceIdeal := by
  pair_intro
  · run_from Cert.Mlp2KernelIdeal.Gen.run_main m g
  · run_from Cert.Mlp2ReferenceIdeal.Value.run m' g'
    simp only [closed, hagree c]
    exact (Cert.Mlp2KernelIdeal.Whole.final m c).symm

/-- The reference terminates with its arguments unchanged. -/
theorem kept : Cert.quiescent_Mlp2ReferenceIdeal := fun m ρ _ =>
  (θ_run Cert.Mlp2ReferenceIdeal.defs _ _).mono (fun r h => ⟨fun c => (h c).2, sem_eq_zero_of_no_sems (by decide) r.2⟩)
    (Cert.Mlp2ReferenceIdeal.Value.run (F := Ideal) m ρ)

end Cert.Mlp2Eq

end
-- ==== Proof.MlpStep.lean ====
module

public import proofs.«01_k».proof.Proof.Gen.MlpKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MlpKernelIdeal.Whole

open Cert.MlpKernelIdeal Cert.MlpKernelIdeal.Gen

variable (m : (ℓ : Loc nD τ sig) → Buf (Elt Ideal) ℓ)

/-- A run's first point leaves the normalised rows in the first scratch. -/
theorem norm_A (c : Dev nD) (t : Fin cfg0.N) (h0 : t.val % 8 = 0) (h1 : ¬t.val % 8 = 7) :
    (outsAt0 m c t.val t.isLt).2.1 = k0_pay1 (iblk m c 0 t) (iblk m c 1 t) := by
  rw [outsAt0_A m c t h0 h1]; frame_out

/-- A run's middle point keeps the normalised rows. -/
theorem norm_B (c : Dev nD) (t : Fin cfg0.N) (h0 : ¬t.val % 8 = 0) (h1 : ¬t.val % 8 = 7) :
    (outsAt0 m c t.val t.isLt).2.1 = (outsAt0 m c (t.val - 1) (Nat.lt_of_le_of_lt (Nat.sub_le _ _) t.isLt)).2.1 := by
  rw [outsAt0_B m c t h0 h1]
  unfold sout0_B_0; rfl

/-- A run's last point keeps the normalised rows. -/
theorem norm_C (c : Dev nD) (t : Fin cfg0.N) (h0 : ¬t.val % 8 = 0) (h1 : t.val % 8 = 7) :
    (outsAt0 m c t.val t.isLt).2.1 = (outsAt0 m c (t.val - 1) (Nat.lt_of_le_of_lt (Nat.sub_le _ _) t.isLt)).2.1 := by
  rw [outsAt0_C m c t h0 h1]
  unfold sout0_C_0; rfl

/-- A run's first point leaves the first tile's contribution in the accumulator. -/
theorem acc_A (c : Dev nD) (t : Fin cfg0.N) (h0 : t.val % 8 = 0) (h1 : ¬t.val % 8 = 7) :
    (outsAt0 m c t.val t.isLt).2.2 = k0_pay3 (k0_pay1 (iblk m c 0 t) (iblk m c 1 t)) (iblk m c 2 t) (k0_pay2 (F := Ideal)) (iblk m c 3 t) := by
  rw [outsAt0_A m c t h0 h1]; frame_out

/-- A run's middle point adds its tile's contribution to the accumulator. -/
theorem acc_B (c : Dev nD) (t : Fin cfg0.N) (h0 : ¬t.val % 8 = 0) (h1 : ¬t.val % 8 = 7) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  rw [outsAt0_B m c t h0 h1]; frame_out
  rw [(Memref.isWhole_whole cc0_scratch0).read_unread, (Memref.isWhole_whole cc0_scratch1).read_unread]

/-- A run's last point adds its tile's contribution to the accumulator. -/
theorem acc_C (c : Dev nD) (t : Fin cfg0.N) (h0 : ¬t.val % 8 = 0) (h1 : t.val % 8 = 7) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  rw [outsAt0_C m c t h0 h1]; frame_out
  rw [(Memref.isWhole_whole cc0_scratch0).read_unread, (Memref.isWhole_whole cc0_scratch1).read_unread]

/-- A run's last point stores the residual plus the normalised accumulator. -/
theorem out_C (c : Dev nD) (t : Fin cfg0.N) (h0 : ¬t.val % 8 = 0) (h1 : t.val % 8 = 7) :
    (outsAt0 m c t.val t.isLt).1 = k0_pay4 (iblk m c 0 t) (k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t)) (iblk m c 4 t) := by
  rw [outsAt0_C m c t h0 h1]; frame_out
  rw [(Memref.isWhole_whole cc0_scratch0).read_unread, (Memref.isWhole_whole cc0_scratch1).read_unread]

end Cert.MlpKernelIdeal.Whole

end
-- ==== Proof.MlpRef.lean ====
module

public import proofs.«01_k».proof.Proof.Gen.MlpReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MlpReferenceIdeal.Closed

open Cert.MlpReferenceIdeal Cert.MlpReferenceIdeal.Gen

/-- One over the root mean square of each row of `h`. -/
abbrev scale (h : FVec Ideal S8320x2048 .f32) : FVec Ideal S8320x1 .f32 :=
  Host.rsqrt (addf (Host.divf (broadcastInDim S8320x1 ![0] bcast_S8320_S8320x1_0 (Host.reduceAdd (mulf h h)
    (constant S_ .f32 0x00000000#32) reducesTo_S8320x2048_S8320_d1 h_S_))
    (broadcastInDim S8320x1 ![] bcast_S_S8320x1 (constant S_ .f32 0x45000000#32)))
    (broadcastInDim S8320x1 ![] bcast_S_S8320x1 (constant S_ .f32 0x358637BD#32)))

/-- The normalised rows of `h`, scaled column by column by `g`. -/
abbrev rmsScale (h : FVec Ideal S8320x2048 .f32) (g : FVec Ideal S2048 .f32) : FVec Ideal S8320x2048 .f32 :=
  mulf (mulf h (broadcastInDim S8320x2048 ![0, 1] bcast_S8320x1_S8320x2048_0_1 (scale h)))
    (broadcastInDim S8320x2048 ![0, 1] bcast_S1x2048_S8320x2048_0_1 (broadcastInDim S1x2048 ![1] bcast_S2048_S1x2048_1 g))

/-- The up projection cut at zero. -/
abbrev cut (h : FVec Ideal S8320x2048 .f32) (w : FVec Ideal S4x2048x8192 .f32) : FVec Ideal S8320x8192 .f32 :=
  maximumf (Host.dotGeneral dot_S8320x2048_S2048x8192_S8320x8192_1_0_0_1_n_n none h
      (shapeCast S2048x8192 (extractStridedSlice S1x2048x8192 ![3, 0, 0] w slices_S4x2048x8192_S1x2048x8192_3_0_0) shapeCasts_S1x2048x8192_S2048x8192))
    (broadcastInDim S8320x8192 ![] bcast_S_S8320x8192 (constant S_ .f32 0x00000000#32))

/-- The down projection of the squared hidden units. -/
abbrev down (u : FVec Ideal S8320x8192 .f32) (w : FVec Ideal S4x8192x2048 .f32) : FVec Ideal S8320x2048 .f32 :=
  Host.dotGeneral dot_S8320x8192_S8192x2048_S8320x2048_1_0_0_1_n_n none (mulf u u)
    (shapeCast S8192x2048 (extractStridedSlice S1x8192x2048 ![3, 0, 0] w slices_S4x8192x2048_S1x8192x2048_3_0_0) shapeCasts_S1x8192x2048_S8192x2048)

/-- The sublayer: the residual plus the normalised result of the two projections. -/
abbrev REF (x : FVec Ideal S8320x2048 .f32) (g : FVec Ideal S2048 .f32) (wu : FVec Ideal S4x2048x8192 .f32)
    (wd : FVec Ideal S4x8192x2048 .f32) (gp : FVec Ideal S2048 .f32) : FVec Ideal S8320x2048 .f32 :=
  addf x (rmsScale (down (cut (rmsScale x g) wu) wd) gp)

/-- An entry of the down projection is a sum over the hidden units. -/
theorem down_at (h : FVec Ideal S8320x2048 .f32) (wu : FVec Ideal S4x2048x8192 .f32) (wd : FVec Ideal S4x8192x2048 .f32) (j : S8320x2048.Idx) :
    down (cut h wu) wd j = ∑ f : Fin 8192, max (∑ k : Fin 2048, h (ix2 (j 0) k) * wu (ix3 3 k f)) 0
      * max (∑ k : Fin 2048, h (ix2 (j 0) k) * wu (ix3 3 k f)) 0 * wd (ix3 3 f (j 1)) := by
  pointwise [down, cut]

end Cert.MlpReferenceIdeal.Closed

end
-- ==== Proof.MlpValue.lean ====
module

public import proofs.«01_k».proof.Proof.MlpStep
public import proofs.«01_k».proof.Proof.MlpRef

@[expose] public section

set_option maxRecDepth 16384

noncomputable section

open Idealize.ShloMosaic Idealize.ShloMosaic.TcCoe Idealize.SL.Sem
open Idealize.ShloMosaic.Pipeline (Dat)
open scoped BigOperators

namespace Cert.MlpKernelIdeal.Whole

open Cert.MlpKernelIdeal Cert.MlpKernelIdeal.Gen Cert.MlpReferenceIdeal.Closed

variable (m : (ℓ : Loc nD τ sig) → Buf (Elt Ideal) ℓ)

/-- Every window's block index at every grid point: the row block, and the tile of hidden units. -/
theorem idx : ∀ t : Fin cfg0.N, win0_0.index t = ![t.val / 8, 0]
    ∧ win0_1.index t = ![0, 0]
    ∧ win0_2.index t = ![3, 0, t.val % 8]
    ∧ win0_3.index t = ![3, t.val % 8, 0]
    ∧ win0_4.index t = ![0, 0]
    ∧ win0_5.index t = ![t.val / 8, 0] :=
  (by decide +kernel : ∀ t : Fin grid0.N, _)

/-- The rows of `h` that point `t` works on. -/
def rows (h : FVec Ideal S8320x2048 .f32) (t : Fin cfg0.N) : FVec Ideal S640x2048 .f32 :=
  fun y => h (ix2 ⟨640 * (t.val / 8) + (y 0).val, by
    have h1 := lt_of_lt_of_eq t.isLt (show cfg0.N = 104 from N_0)
    have h2 : (y 0).val < 640 := (y 0).isLt
    omega⟩ (y 1))

/-- Points of one run work on the same rows. -/
theorem rows_congr (h : FVec Ideal S8320x2048 .f32) (t u : Fin cfg0.N) (e : t.val / 8 = u.val / 8) : rows h t = rows h u := by
  unfold rows; simp only [e]

/-- The accumulator starts at zero. -/
theorem pay2_at (j) : k0_pay2 (F := Ideal) j = 0 := by pointwise [k0_pay2]

/-- One tile of hidden units adds its part of the down projection. -/
theorem pay3_at (xn : FVec Ideal S640x2048 .bf16) (wu : FVec Ideal S1x2048x1024 .bf16) (acc : FVec Ideal S640x2048 .f32)
    (wd : FVec Ideal S1x1024x2048 .bf16) (j : S640x2048.Idx) :
    k0_pay3 xn wu acc wd j = acc j + ∑ f : Fin 1024, max (∑ k : Fin 2048, xn (ix2 (j 0) k) * wu (ix3 0 k f)) 0
      * max (∑ k : Fin 2048, xn (ix2 (j 0) k) * wu (ix3 0 k f)) 0 * wd (ix3 0 f (j 1)) := by
  pointwise [k0_pay3]

/-- The normalised rows of the launched input. -/
abbrev XN (c : Dev nD) : FVec Ideal S8320x2048 .f32 :=
  rmsScale (m ((c : Thread nD τ).loc main_arg0)) (m ((c : Thread nD τ).loc main_arg1))

/-- What a run's first point puts in the first scratch: its rows, normalised. -/
theorem pay1_rows (c : Dev nD) (t : Fin cfg0.N) : k0_pay1 (iblk m c 0 t) (iblk m c 1 t) = rows (XN m c) t := by
  funext y
  unfold rows
  pointwise [k0_pay1, XN, rmsScale, scale]; blk_point [iblk, V, idx t]

/-- After every point, the first scratch holds the point's rows, normalised. -/
theorem scratch_norm (c : Dev nD) : ∀ (n : ℕ) (h : n < cfg0.N), (outsAt0 m c n h).2.1 = rows (XN m c) ⟨n, h⟩ := by
  intro n
  induction n with
  | zero => intro h; exact (norm_A m c ⟨0, h⟩ (Nat.zero_mod 8) (by show ¬0 % 8 = 7; decide)).trans (pay1_rows m c _)
  | succ n ih =>
    intro h
    by_cases h0 : (n + 1) % 8 = 0
    · exact (norm_A m c ⟨n + 1, h⟩ h0 (by show ¬(n + 1) % 8 = 7; omega)).trans (pay1_rows m c _)
    · have hn : n < cfg0.N := Nat.lt_of_succ_lt h
      refine Eq.trans ?_ ((ih hn).trans (rows_congr _ _ _ (by show n / 8 = (n + 1) / 8; omega)))
      by_cases h1 : (n + 1) % 8 = 7
      · exact norm_C m c ⟨n + 1, h⟩ h0 h1
      · exact norm_B m c ⟨n + 1, h⟩ h0 h1

/-- What point `t` adds to entry `j` of the accumulator. -/
def part (c : Dev nD) (t : Fin cfg0.N) (j : S640x2048.Idx) : EReal :=
  ∑ f : Fin 1024, max (∑ k : Fin 2048, rows (XN m c) t (ix2 (j 0) k) * (show FVec Ideal S1x2048x1024 .bf16 from iblk m c 2 t) (ix3 0 k f)) 0
      * max (∑ k : Fin 2048, rows (XN m c) t (ix2 (j 0) k) * (show FVec Ideal S1x2048x1024 .bf16 from iblk m c 2 t) (ix3 0 k f)) 0
      * (show FVec Ideal S1x1024x2048 .bf16 from iblk m c 3 t) (ix3 0 f (j 1))

/-- At a run's first point the accumulator is that point's part. -/
theorem acc_reset (c : Dev nD) (t : Fin cfg0.N) (h0 : t.val % 8 = 0) (j : S640x2048.Idx) :
    (outsAt0 m c t.val t.isLt).2.2 j = (0 : EReal) + part m c t j := by
  rw [acc_A m c t h0 (by omega), pay1_rows, pay3_at, pay2_at]; rfl

/-- At every other point the accumulator grows by that point's part. -/
theorem acc_step (c : Dev nD) (t : Fin cfg0.N) (h0 : ¬t.val % 8 = 0) (j : S640x2048.Idx) :
    (outsAt0 m c t.val t.isLt).2.2 j
      = (outsAt0 m c (t.val - 1) (Nat.lt_of_le_of_lt (Nat.sub_le _ _) t.isLt)).2.2 j + part m c t j := by
  have e : (outsAt0 m c (t.val - 1) (Nat.lt_of_le_of_lt (Nat.sub_le _ _) t.isLt)).2.1 = rows (XN m c) t :=
    (scratch_norm m c _ _).trans (rows_congr _ _ _ (by show (t.val - 1) / 8 = t.val / 8; omega))
  by_cases h1 : t.val % 8 = 7
  · rw [acc_C m c t h0 h1, e, pay3_at]; rfl
  · rw [acc_B m c t h0 h1, e, pay3_at]; rfl

/-- The down projection of the launched input. -/
abbrev DN (c : Dev nD) : FVec Ideal S8320x2048 .f32 :=
  down (cut (XN m c) (m ((c : Thread nD τ).loc main_arg2))) (m ((c : Thread nD τ).loc main_arg3))

/-- At a run's last point the accumulator holds the rows' whole down projection. -/
theorem acc_last (c : Dev nD) (t : Fin cfg0.N) (h1 : t.val % 8 = 7) : (outsAt0 m c t.val t.isLt).2.2 = rows (DN m c) t := by
  funext j
  have e := Pipeline.eq_sum_fin_of_reset_step_apply_of_flush (fun n h => (outsAt0 m c n h).2.2) 8 (fun _ => (0 : EReal)) (part m c)
    (acc_reset m c) (acc_step m c) t h1 j
  refine e.trans ?_
  rw [zero_add]
  unfold rows
  rw [DN, down_at]
  unfold part
  refine Fin.sum_mul_add_congr fun s f hl => ?_
  unfold rows
  generalize XN m c = h
  blk_point [iblk, V, idx ⟨_, Pipeline.run_point_lt_of_flush t h1 s⟩]

/-- The last point's store at `y`, from the accumulated rows of any array `d`. -/
theorem point (c : Dev nD) (t : Fin cfg0.N) (d : FVec Ideal S8320x2048 .f32) (y) :
    k0_pay4 (iblk m c 0 t) (rows d t) (iblk m c 4 t) y
      = addf (m ((c : Thread nD τ).loc main_arg0)) (rmsScale d (m ((c : Thread nD τ).loc main_arg4))) (((cfg0.win 5).blk t).view.emb y) := by
  unfold rows
  pointwise [k0_pay4, rmsScale, scale]; blk_point [iblk, V, idx t]

/-- The result array after the run is the reference of the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have h1 : t.val % 8 = 7 := (flush0_5 t).mp hf
  blk_simp; rw [after0_5, out_C m c t (by omega) h1, ← acc_C m c t (by omega) h1, acc_last m c t h1]
  exact point m c t _ y

end Cert.MlpKernelIdeal.Whole

end
-- ==== Proof.MlpEq.lean ====
module

public import proofs.«01_k».proof.Defs
public import proofs.«01_k».proof.Proof.MlpValue
public import proofs.«01_k».proof.Proof.Gen.MlpReferenceIdeal.Run
public import Idealize.ShloMosaic.Lib.Claim

@[expose] public section

set_option maxRecDepth 16384

noncomputable section

open Idealize.ShloMosaic Idealize.ShloMosaic.TcCoe Idealize.SL.Sem

namespace Cert.MlpEq

section
open Cert.MlpReferenceIdeal

/-- The reference's result is its closed form at the arguments. -/
theorem closed (m : (ℓ : Loc nD τ sig) → Buf (Elt Ideal) ℓ) (c : Dev nD) :
    Value.res_main_v34 m c = Closed.REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end

/-- From memories that agree on the arguments, the kernel and the reference end with the same result. -/
theorem equal : Cert.algebraic_MlpKernelIdeal_MlpReferenceIdeal := by
  pair_intro
  · run_from Cert.MlpKernelIdeal.Gen.run_main m g
  · run_from Cert.MlpReferenceIdeal.Value.run m' g'
    simp only [closed, hagree c]
    exact (Cert.MlpKernelIdeal.Whole.final m c).symm

/-- The reference terminates with its arguments unchanged. -/
theorem kept : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

end Cert.MlpEq

end
-- ==== Proof.OutRef.lean ====
module

public import proofs.«01_k».proof.Proof.Gen.OutReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OutReferenceIdeal.Closed

open Cert.OutReferenceIdeal Cert.OutReferenceIdeal.Gen

/-- The output projection: `a · w` with the bias row added. -/
abbrev proj (a : FVec Ideal S8320x2048 .bf16) (w : FVec Ideal S2048x2048 .f32) (b : FVec Ideal S2048 .f32) :
    FVec Ideal S8320x2048 .f32 :=
  addf (Host.dotGeneral dot_S8320x2048_S2048x2048_S8320x2048_1_0_0_1_n_n none (extf .f32 a bitsLt_bf16_f32) w)
    (broadcastInDim S8320x2048 ![0, 1] bcast_S1x2048_S8320x2048_0_1 (broadcastInDim S1x2048 ![1] bcast_S2048_S1x2048_1 b))

/-- One over the root mean square of each row of `h`. -/
abbrev invRms (h : FVec Ideal S8320x2048 .f32) : FVec Ideal S8320x1 .f32 :=
  Host.rsqrt (addf (Host.divf (broadcastInDim S8320x1 ![0] bcast_S8320_S8320x1_0 (Host.reduceAdd (mulf h h)
    (constant S_ .f32 0x00000000#32) reducesTo_S8320x2048_S8320_d1 h_S_))
    (broadcastInDim S8320x1 ![] bcast_S_S8320x1 (constant S_ .f32 0x45000000#32)))
    (broadcastInDim S8320x1 ![] bcast_S_S8320x1 (constant S_ .f32 0x358637BD#32)))

/-- The projection's reference: the residual plus the normalised projection. -/
abbrev REF (a : FVec Ideal S8320x2048 .bf16) (w : FVec Ideal S2048x2048 .f32) (b g : FVec Ideal S2048 .f32)
    (x : FVec Ideal S8320x2048 .f32) : FVec Ideal S8320x2048 .f32 :=
  addf x (mulf (mulf (proj a w b) (broadcastInDim S8320x2048 ![0, 1] bcast_S8320x1_S8320x2048_0_1 (invRms (proj a w b))))
    (broadcastInDim S8320x2048 ![0, 1] bcast_S1x2048_S8320x2048_0_1 (broadcastInDim S1x2048 ![1] bcast_S2048_S1x2048_1 g)))

end Cert.OutReferenceIdeal.Closed

end
-- ==== Proof.OutValue.lean ====
module

public import proofs.«01_k».proof.Proof.OutRef
public import proofs.«01_k».proof.Proof.Gen.OutKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.OutKernelIdeal.Whole

open Cert.OutKernelIdeal Cert.OutKernelIdeal.Gen Cert.OutReferenceIdeal.Closed

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0] :=
  (by decide +kernel : ∀ t : Fin grid0.N, _)

/-- What the body stores at index `y` of point `t`'s block is the reference at the array index `y` sits at. -/
theorem point (c : Dev nD) (t : Fin cfg0.N) (y) :
    k0_pay1 (iblk m c 0 t) (iblk m c 1 t) (iblk m c 2 t) (iblk m c 4 t) (iblk m c 3 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay1, REF, proj, invRms]; blk_point [iblk, V, idx t]

/-- The result array after the run is the reference of the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.OutKernelIdeal.Whole

end
-- ==== Proof.OutEq.lean ====
module

public import proofs.«01_k».proof.Defs
public import proofs.«01_k».proof.Proof.OutValue
public import proofs.«01_k».proof.Proof.Gen.OutReferenceIdeal.Run
public import Idealize.ShloMosaic.Lib.Claim

@[expose] public section

set_option maxRecDepth 16384

noncomputable section

open Idealize.ShloMosaic Idealize.ShloMosaic.TcCoe Idealize.SL.Sem

namespace Cert.OutEq

/-- From memories that agree on the arguments, the kernel and the reference end with the same result. -/
theorem equal : Cert.algebraic_OutKernelIdeal_OutReferenceIdeal := by
  pair_intro
  · run_from Cert.OutKernelIdeal.Gen.run_main m g
  · run_from Cert.OutReferenceIdeal.Value.run m' g'
    exact (Cert.OutKernelIdeal.Whole.final m c).symm

/-- The reference terminates with its arguments unchanged. -/
theorem kept : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

end Cert.OutEq

end
-- ==== Proof.PlainRef.lean ====
module

public import proofs.«01_k».proof.Proof.Gen.PlainReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PlainReferenceIdeal.Closed

open Cert.PlainReferenceIdeal Cert.PlainReferenceIdeal.Gen

/-- The output projection `a · w`. -/
abbrev proj (a : FVec Ideal S8320x2048 .bf16) (w : FVec Ideal S2048x2048 .f32) : FVec Ideal S8320x2048 .f32 :=
  Host.dotGeneral dot_S8320x2048_S2048x2048_S8320x2048_1_0_0_1_n_n none (extf .f32 a bitsLt_bf16_f32) w

/-- One over the root mean square of each row of `h`. -/
abbrev invRms (h : FVec Ideal S8320x2048 .f32) : FVec Ideal S8320x1 .f32 :=
  Host.rsqrt (addf (Host.divf (broadcastInDim S8320x1 ![0] bcast_S8320_S8320x1_0 (Host.reduceAdd (mulf h h)
    (constant S_ .f32 0x00000000#32) reducesTo_S8320x2048_S8320_d1 h_S_))
    (broadcastInDim S8320x1 ![] bcast_S_S8320x1 (constant S_ .f32 0x45000000#32)))
    (broadcastInDim S8320x1 ![] bcast_S_S8320x1 (constant S_ .f32 0x358637BD#32)))

/-- The projection's reference: the residual plus the normalised projection. -/
abbrev REF (a : FVec Ideal S8320x2048 .bf16) (w : FVec Ideal S2048x2048 .f32) (g : FVec Ideal S2048 .f32)
    (x : FVec Ideal S8320x2048 .f32) : FVec Ideal S8320x2048 .f32 :=
  addf x (mulf (mulf (proj a w) (broadcastInDim S8320x2048 ![0, 1] bcast_S8320x1_S8320x2048_0_1 (invRms (proj a w))))
    (broadcastInDim S8320x2048 ![0, 1] bcast_S1x2048_S8320x2048_0_1 (broadcastInDim S1x2048 ![1] bcast_S2048_S1x2048_1 g)))

end Cert.PlainReferenceIdeal.Closed

end
-- ==== Proof.PlainValue.lean ====
module

public import proofs.«01_k».proof.Proof.PlainRef
public import proofs.«01_k».proof.Proof.Gen.PlainKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.PlainKernelIdeal.Whole

open Cert.PlainKernelIdeal Cert.PlainKernelIdeal.Gen Cert.PlainReferenceIdeal.Closed

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- What the body stores at index `y` of point `t`'s block is the reference at the array index `y` sits at. -/
theorem point (c : Dev nD) (t : Fin cfg0.N) (y) :
    k0_pay1 (iblk m c 0 t) (iblk m c 1 t) (iblk m c 3 t) (iblk m c 2 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, REF, proj, invRms]; blk_point [iblk, V, idx t]

/-- The result array after the run is the reference of the arguments. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp; rw [after0_4]; frame_out
  exact point m c t y

end Cert.PlainKernelIdeal.Whole

end
-- ==== Proof.PlainEq.lean ====
module

public import proofs.«01_k».proof.Defs
public import proofs.«01_k».proof.Proof.PlainValue
public import proofs.«01_k».proof.Proof.Gen.PlainReferenceIdeal.Run
public import Idealize.ShloMosaic.Lib.Claim

@[expose] public section

set_option maxRecDepth 16384

noncomputable section

open Idealize.ShloMosaic Idealize.ShloMosaic.TcCoe Idealize.SL.Sem

namespace Cert.PlainEq

/-- From memories that agree on the arguments, the kernel and the reference end with the same result. -/
theorem equal : Cert.algebraic_PlainKernelIdeal_PlainReferenceIdeal := by
  pair_intro
  · run_from Cert.PlainKernelIdeal.Gen.run_main m g
  · run_from Cert.PlainReferenceIdeal.Value.run m' g'
    exact (Cert.PlainKernelIdeal.Whole.final m c).symm

/-- The reference terminates with its arguments unchanged. -/
theorem kept : Cert.quiescent_PlainReferenceIdeal := fun m ρ _ =>
  (θ_run Cert.PlainReferenceIdeal.defs _ _).mono (fun r h => ⟨fun c => (h c).2, sem_eq_zero_of_no_sems (by decide) r.2⟩)
    (Cert.PlainReferenceIdeal.Value.run (F := Ideal) m ρ)

end Cert.PlainEq

end
-- ==== Proof.GateRef.lean ====
module

public import proofs.«01_k».proof.Proof.Gen.GateReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.GateReferenceIdeal.Closed

open Cert.GateReferenceIdeal Cert.GateReferenceIdeal.Gen

/-- One over the root mean square of each row of `h`. -/
abbrev scale (h : FVec Ideal S8320x2048 .f32) : FVec Ideal S8320x1 .f32 :=
  Host.rsqrt (addf (Host.divf (broadcastInDim S8320x1 ![0] bcast_S8320_S8320x1_0 (Host.reduceAdd (mulf h h)
    (constant S_ .f32 0x00000000#32) reducesTo_S8320x2048_S8320_d1 h_S_))
    (broadcastInDim S8320x1 ![] bcast_S_S8320x1 (constant S_ .f32 0x45000000#32)))
    (broadcastInDim S8320x1 ![] bcast_S_S8320x1 (constant S_ .f32 0x358637BD#32)))

/-- The normalised rows of `h`, scaled column by column by `g`. -/
abbrev rmsScale (h : FVec Ideal S8320x2048 .f32) (g : FVec Ideal S2048 .f32) : FVec Ideal S8320x2048 .f32 :=
  mulf (mulf h (broadcastInDim S8320x2048 ![0, 1] bcast_S8320x1_S8320x2048_0_1 (scale h)))
    (broadcastInDim S8320x2048 ![0, 1] bcast_S1x2048_S8320x2048_0_1 (broadcastInDim S1x2048 ![1] bcast_S2048_S1x2048_1 g))

/-- The projection of `h` by `w`, with the bias row added. -/
def proj (h : FVec Ideal S8320x2048 .f32) (w : FVec Ideal S2048x2048 .f32) (b : FVec Ideal S2048 .f32) :
    FVec Ideal S8320x2048 .f32 :=
  addf (Host.dotGeneral dot_S8320x2048_S2048x2048_S8320x2048_1_0_0_1_n_n none h w)
    (broadcastInDim S8320x2048 ![0, 1] bcast_S1x2048_S8320x2048_0_1 (broadcastInDim S1x2048 ![1] bcast_S2048_S1x2048_1 b))

/-- The tanh form of gelu. -/
def gelu (p : FVec Ideal S8320x2048 .f32) : FVec Ideal S8320x2048 .f32 :=
  mulf p (mulf (broadcastInDim S8320x2048 ![] bcast_S_S8320x2048 (constant S_ .f32 0x3F000000#32))
    (addf (broadcastInDim S8320x2048 ![] bcast_S_S8320x2048 (constant S_ .f32 0x3F800000#32))
      (Host.tanh (mulf (broadcastInDim S8320x2048 ![] bcast_S_S8320x2048 (constant S_ .f32 0x3F4C422A#32))
        (addf p (mulf (broadcastInDim S8320x2048 ![] bcast_S_S8320x2048 (constant S_ .f32 0x3D372713#32)) (mulf (mulf p p) p)))))))

/-- The two projections of `h` side by side: the gate's, through gelu, and the input's. -/
def both (h : FVec Ideal S8320x2048 .f32) (w1 : FVec Ideal S2048x2048 .f32) (b1 : FVec Ideal S2048 .f32)
    (w2 : FVec Ideal S2048x2048 .f32) (b2 : FVec Ideal S2048 .f32) : FVec Ideal S8320x4096 .f32 :=
  concatenate S8320x4096 1 [⟨S8320x2048, gelu (proj h w1 b1)⟩, ⟨S8320x2048, proj h w2 b2⟩]
    concatenates_S8320x2048_S8320x2048_S8320x4096_d1

/-- The recurrent sublayer's two input projections of the normalised rows. -/
abbrev REF (x : FVec Ideal S8320x2048 .f32) (g : FVec Ideal S2048 .f32) (w1 : FVec Ideal S2048x2048 .f32) (b1 : FVec Ideal S2048 .f32)
    (w2 : FVec Ideal S2048x2048 .f32) (b2 : FVec Ideal S2048 .f32) : FVec Ideal S8320x4096 .f32 :=
  both (rmsScale x g) w1 b1 w2 b2

/-- The tanh form of gelu, of one number. -/
def gel (p : EReal) : EReal :=
  p * (Ideal.ofBits FTy.f32 1056964608#32 * (1 + Ideal.tanh
    (Ideal.ofBits FTy.f32 1061962282#32 * (p + Ideal.ofBits FTy.f32 1027024659#32 * (p * p * p)))))

/-- An entry of gelu is gelu of the entry. -/
theorem gelu_at (p : FVec Ideal S8320x2048 .f32) (j : S8320x2048.Idx) : gelu p j = gel (p j) := by
  unfold gel; pointwise [gelu]

/-- The left half of the columns is the gate's. -/
theorem both_lt (h : FVec Ideal S8320x2048 .f32) (w1 : FVec Ideal S2048x2048 .f32) (b1 : FVec Ideal S2048 .f32)
    (w2 : FVec Ideal S2048x2048 .f32) (b2 : FVec Ideal S2048 .f32) (r : Fin 8320) (l : Fin 4096) (hc : l.val < 2048) :
    both h w1 b1 w2 b2 (ix2 r l) = gel (proj h w1 b1 (ix2 r ⟨l.val, hc⟩)) := by
  rw [← gelu_at]
  pointwise [both]
  exact dif_pos hc

/-- The right half of the columns is the input's. -/
theorem both_ge (h : FVec Ideal S8320x2048 .f32) (w1 : FVec Ideal S2048x2048 .f32) (b1 : FVec Ideal S2048 .f32)
    (w2 : FVec Ideal S2048x2048 .f32) (b2 : FVec Ideal S2048 .f32) (r : Fin 8320) (l : Fin 4096) (hc : ¬l.val < 2048) (hl) :
    both h w1 b1 w2 b2 (ix2 r l) = proj h w2 b2 (ix2 r ⟨l.val - 2048, hl⟩) := by
  pointwise [both]
  exact dif_neg hc

end Cert.GateReferenceIdeal.Closed

end
-- ==== Proof.GateValue.lean ====
module

public import proofs.«01_k».proof.Proof.Gen.GateKernelIdeal.Frame
public import proofs.«01_k».proof.Proof.GateRef

@[expose] public section

set_option maxRecDepth 16384

noncomputable section

open Idealize.ShloMosaic Idealize.ShloMosaic.TcCoe Idealize.SL.Sem
open Idealize.ShloMosaic.Pipeline (Dat)
open scoped BigOperators

namespace Cert.GateKernelIdeal.Whole

open Cert.GateKernelIdeal Cert.GateKernelIdeal.Gen Cert.GateReferenceIdeal.Closed

variable (m : (ℓ : Loc nD τ sig) → Buf (Elt Ideal) ℓ)

/-- A row block's first point leaves the normalised rows in the scratch. -/
theorem norm_A (c : Dev nD) (t : Fin cfg0.N) (h0 : t.val % 4 = 0) :
    (outsAt0 m c t.val t.isLt).2 = k0_pay1 (iblk m c 0 t) (iblk m c 1 t) := by
  rw [outsAt0_A m c t h0 (by omega) (by omega)]; frame_out

/-- The second point keeps the normalised rows. -/
theorem norm_B (c : Dev nD) (t : Fin cfg0.N) (h0 : ¬t.val % 4 = 0) (h1 : t.val % 4 ≤ 1) :
    (outsAt0 m c t.val t.isLt).2 = (outsAt0 m c (t.val - 1) (Nat.lt_of_le_of_lt (Nat.sub_le _ _) t.isLt)).2 := by
  rw [outsAt0_B m c t h0 h1 (by omega)]
  unfold sout0_B_0; rfl

/-- The third and fourth points keep the normalised rows. -/
theorem norm_C (c : Dev nD) (t : Fin cfg0.N) (h2 : 2 ≤ t.val % 4) :
    (outsAt0 m c t.val t.isLt).2 = (outsAt0 m c (t.val - 1) (Nat.lt_of_le_of_lt (Nat.sub_le _ _) t.isLt)).2 := by
  rw [outsAt0_C m c t (by omega) (by omega) h2]
  unfold sout0_C_0; rfl

/-- A row block's first point stores gelu of the product of the rows it has just normalised. -/
theorem out_A (c : Dev nD) (t : Fin cfg0.N) (h0 : t.val % 4 = 0) :
    (outsAt0 m c t.val t.isLt).1 = k0_pay3 (k0_pay1 (iblk m c 0 t) (iblk m c 1 t)) (iblk m c 2 t) (iblk m c 3 t) := by
  rw [outsAt0_A m c t h0 (by omega) (by omega)]; frame_out

/-- The second point stores gelu of the product of the rows the scratch holds. -/
theorem out_B (c : Dev nD) (t : Fin cfg0.N) (h0 : ¬t.val % 4 = 0) (h1 : t.val % 4 ≤ 1) :
    (outsAt0 m c t.val t.isLt).1 = k0_pay3 (outsAt0 m c (t.val - 1) (Nat.lt_of_le_of_lt (Nat.sub_le _ _) t.isLt)).2
      (iblk m c 2 t) (iblk m c 3 t) := by
  rw [outsAt0_B m c t h0 h1 (by omega)]; frame_out
  rw [(Memref.isWhole_whole cc0_scratch0).read_unread]

/-- The third and fourth points store the product of the rows the scratch holds. -/
theorem out_C (c : Dev nD) (t : Fin cfg0.N) (h2 : 2 ≤ t.val % 4) :
    (outsAt0 m c t.val t.isLt).1 = k0_pay2 (outsAt0 m c (t.val - 1) (Nat.lt_of_le_of_lt (Nat.sub_le _ _) t.isLt)).2
      (iblk m c 2 t) (iblk m c 3 t) := by
  rw [outsAt0_C m c t (by omega) (by omega) h2]; frame_out
  rw [(Memref.isWhole_whole cc0_scratch0).read_unread]

/-- Every window's block index at every grid point: the row block, and the column tile. -/
theorem idx : ∀ t : Fin cfg0.N, win0_0.index t = ![t.val / 4, 0]
    ∧ win0_1.index t = ![0, 0]
    ∧ win0_2.index t = ![0, t.val % 4]
    ∧ win0_3.index t = ![0, t.val % 4]
    ∧ win0_4.index t = ![t.val / 4, t.val % 4] :=
  (by decide +kernel : ∀ t : Fin grid0.N, _)

/-- The rows of `h` that point `t` works on. -/
def rows (h : FVec Ideal S8320x2048 .f32) (t : Fin cfg0.N) : FVec Ideal S640x2048 .f32 :=
  fun y => h (ix2 ⟨640 * (t.val / 4) + (y 0).val, by
    have h1 := lt_of_lt_of_eq t.isLt (show cfg0.N = 52 from N_0)
    have h2 : (y 0).val < 640 := (y 0).isLt
    omega⟩ (y 1))

/-- The points of a row block work on the same rows. -/
theorem rows_congr (h : FVec Ideal S8320x2048 .f32) (t u : Fin cfg0.N) (e : t.val / 4 = u.val / 4) : rows h t = rows h u := by
  unfold rows; simp only [e]

/-- The normalised rows of the launched input. -/
abbrev XN (c : Dev nD) : FVec Ideal S8320x2048 .f32 :=
  rmsScale (m ((c : Thread nD τ).loc main_arg0)) (m ((c : Thread nD τ).loc main_arg1))

/-- What a row block's first point puts in the scratch: its rows, normalised. -/
theorem pay1_rows (c : Dev nD) (t : Fin cfg0.N) : k0_pay1 (iblk m c 0 t) (iblk m c 1 t) = rows (XN m c) t := by
  funext y
  unfold rows
  pointwise [k0_pay1, XN, rmsScale, scale]; blk_point [iblk, V, idx t]

/-- After every point, the scratch holds the point's rows, normalised. -/
theorem scratch_norm (c : Dev nD) : ∀ (n : ℕ) (h : n < cfg0.N), (outsAt0 m c n h).2 = rows (XN m c) ⟨n, h⟩ := by
  intro n
  induction n with
  | zero => intro h; exact (norm_A m c ⟨0, h⟩ (Nat.zero_mod 4)).trans (pay1_rows m c _)
  | succ n ih =>
    intro h
    by_cases h0 : (n + 1) % 4 = 0
    · exact (norm_A m c ⟨n + 1, h⟩ h0).trans (pay1_rows m c _)
    · have hn : n < cfg0.N := Nat.lt_of_succ_lt h
      refine Eq.trans ?_ ((ih hn).trans (rows_congr _ _ _ (by show n / 4 = (n + 1) / 4; omega)))
      by_cases h1 : (n + 1) % 4 ≤ 1
      · exact norm_B m c ⟨n + 1, h⟩ h0 h1
      · exact norm_C m c ⟨n + 1, h⟩ (by show 2 ≤ (n + 1) % 4; omega)

/-- What a later point of a row block reads from the scratch: its own normalised rows. -/
theorem scratch_before (c : Dev nD) (t : Fin cfg0.N) (h0 : ¬t.val % 4 = 0) :
    (outsAt0 m c (t.val - 1) (Nat.lt_of_le_of_lt (Nat.sub_le _ _) t.isLt)).2 = rows (XN m c) t :=
  (scratch_norm m c _ _).trans (rows_congr _ _ _ (by show (t.val - 1) / 4 = t.val / 4; omega))

/-- The gate's columns hold gelu of the product. -/
theorem pay3_at (xn : FVec Ideal S640x2048 .bf16) (w : FVec Ideal S2048x1024 .bf16) (b : FVec Ideal S1x1024 .f32) (j : S640x1024.Idx) :
    k0_pay3 (F := Ideal) xn w b j = gel (k0_pay2 (F := Ideal) xn w b j) := by
  unfold gel
  pointwise [k0_pay3]
  simp only [mul_assoc]

/-- The left half of the kernel's weights is the gate's. -/
theorem w_lt (c : Dev nD) (k : Fin 2048) (l : Fin 4096) (hc : l.val < 2048) :
    (V m c main_v1) (ix2 k l) = m ((c : Thread nD τ).loc main_arg2) (ix2 k ⟨l.val, hc⟩) := by
  entry_read
  pointwise []
  exact dif_pos hc

/-- The right half of the kernel's weights is the input's. -/
theorem w_ge (c : Dev nD) (k : Fin 2048) (l : Fin 4096) (hc : ¬l.val < 2048) (hl) :
    (V m c main_v1) (ix2 k l) = m ((c : Thread nD τ).loc main_arg4) (ix2 k ⟨l.val - 2048, hl⟩) := by
  entry_read
  pointwise []
  exact dif_neg hc

/-- The left half of the kernel's bias row is the gate's. -/
theorem b_lt (c : Dev nD) (l : Fin 4096) (hc : l.val < 2048) :
    (V m c main_v4) (ix2 0 l) = m ((c : Thread nD τ).loc main_arg3) (ix1 ⟨l.val, hc⟩) := by
  entry_read
  pointwise []
  exact dif_pos hc

/-- The right half of the kernel's bias row is the input's. -/
theorem b_ge (c : Dev nD) (l : Fin 4096) (hc : ¬l.val < 2048) (hl) :
    (V m c main_v4) (ix2 0 l) = m ((c : Thread nD τ).loc main_arg5) (ix1 ⟨l.val - 2048, hl⟩) := by
  entry_read
  pointwise []
  exact dif_neg hc

/-- Where a weight tile's index sits in the weights. -/
theorem emb_w (t : Fin cfg0.N) (k : Fin 2048) (l : Fin 1024) (hc) : ((cfg0.win 2).blk t).view.emb (ix2 k l)
    = (ix2 k ⟨1024 * (t.val % 4) + l.val, hc⟩ : S2048x4096.Idx) := by
  blk_ext [idx t]

/-- Where a bias tile's index sits in the bias row. -/
theorem emb_b (t : Fin cfg0.N) (l : Fin 1024) (hc) : ((cfg0.win 3).blk t).view.emb (ix2 0 l)
    = (ix2 0 ⟨1024 * (t.val % 4) + l.val, hc⟩ : S1x4096.Idx) := by
  blk_ext [idx t]

/-- The product at a point of the gate's columns, from its rows of any array `d`. -/
theorem prod_gate (c : Dev nD) (t : Fin cfg0.N) (d : FVec Ideal S8320x2048 .f32) (y) (hr hc) :
    k0_pay2 (rows d t) (iblk m c 2 t) (iblk m c 3 t) y
      = proj d (m ((c : Thread nD τ).loc main_arg2)) (m ((c : Thread nD τ).loc main_arg3))
          (ix2 ⟨640 * (t.val / 4) + (y 0).val, hr⟩ ⟨1024 * (t.val % 4) + (y 1).val, hc⟩) := by
  unfold rows
  pointwise [k0_pay2, proj]; blk_point [iblk, idx t]
  · exact (congrArg (V m c main_v1) (emb_w t x (y 1) (by omega))).trans (w_lt m c x _ hc)
  · exact (congrArg (V m c main_v4) (emb_b t (y 1) (by omega))).trans (b_lt m c _ hc)

/-- The product at a point of the input's columns, from its rows of any array `d`. -/
theorem prod_in (c : Dev nD) (t : Fin cfg0.N) (h2 : 2 ≤ t.val % 4) (d : FVec Ideal S8320x2048 .f32) (y) (hr hc) :
    k0_pay2 (rows d t) (iblk m c 2 t) (iblk m c 3 t) y
      = proj d (m ((c : Thread nD τ).loc main_arg4)) (m ((c : Thread nD τ).loc main_arg5))
          (ix2 ⟨640 * (t.val / 4) + (y 0).val, hr⟩ ⟨1024 * (t.val % 4) + (y 1).val - 2048, hc⟩) := by
  unfold rows
  pointwise [k0_pay2, proj]; blk_point [iblk, idx t]
  · have hx : 1024 * (t.val % 4) + (y 1).val < 4096 := by omega
    have hg : ¬1024 * (t.val % 4) + (y 1).val < 2048 := by omega
    exact (congrArg (V m c main_v1) (emb_w t x (y 1) hx)).trans (w_ge m c x ⟨_, hx⟩ hg hc)
  · have hx : 1024 * (t.val % 4) + (y 1).val < 4096 := by omega
    have hg : ¬1024 * (t.val % 4) + (y 1).val < 2048 := by omega
    exact (congrArg (V m c main_v4) (emb_b t (y 1) hx)).trans (b_ge m c ⟨_, hx⟩ hg hc)

/-- Where a block's index sits in the array. -/
theorem emb_at (t : Fin cfg0.N) (y) (hr hc) : ((cfg0.win 4).blk t).view.emb y
    = (ix2 ⟨640 * (t.val / 4) + (y 0).val, hr⟩ ⟨1024 * (t.val % 4) + (y 1).val, hc⟩ : S8320x4096.Idx) := by
  blk_ext [idx t]

/-- What a point of the gate's columns stores at `y`, from its rows of any array `d`. -/
theorem point_gate (c : Dev nD) (t : Fin cfg0.N) (h1 : t.val % 4 ≤ 1) (d : FVec Ideal S8320x2048 .f32) (y : S640x1024.Idx) :
    k0_pay3 (rows d t) (iblk m c 2 t) (iblk m c 3 t) y
      = both d (m ((c : Thread nD τ).loc main_arg2)) (m ((c : Thread nD τ).loc main_arg3)) (m ((c : Thread nD τ).loc main_arg4))
          (m ((c : Thread nD τ).loc main_arg5)) (((cfg0.win 4).blk t).view.emb y) := by
  have hN := lt_of_lt_of_eq t.isLt (show cfg0.N = 52 from N_0)
  have hr : (y 0).val < 640 := (y 0).isLt
  have hc : (y 1).val < 1024 := (y 1).isLt
  have hl : 1024 * (t.val % 4) + (y 1).val < 2048 := by omega
  rw [emb_at t y (by omega) (by omega), both_lt _ _ _ _ _ _ _ hl, pay3_at, prod_gate m c t d y (by omega) hl]

/-- What a point of the input's columns stores at `y`, from its rows of any array `d`. -/
theorem point_in (c : Dev nD) (t : Fin cfg0.N) (h2 : 2 ≤ t.val % 4) (d : FVec Ideal S8320x2048 .f32) (y : S640x1024.Idx) :
    k0_pay2 (rows d t) (iblk m c 2 t) (iblk m c 3 t) y
      = both d (m ((c : Thread nD τ).loc main_arg2)) (m ((c : Thread nD τ).loc main_arg3)) (m ((c : Thread nD τ).loc main_arg4))
          (m ((c : Thread nD τ).loc main_arg5)) (((cfg0.win 4).blk t).view.emb y) := by
  have hN := lt_of_lt_of_eq t.isLt (show cfg0.N = 52 from N_0)
  have hr : (y 0).val < 640 := (y 0).isLt
  have hc : (y 1).val < 1024 := (y 1).isLt
  have hl : ¬1024 * (t.val % 4) + (y 1).val < 2048 := by omega
  rw [emb_at t y (by omega) (by omega), both_ge _ _ _ _ _ _ _ hl (by show _ - 2048 < 2048; omega), prod_in m c t h2 d y (by omega) (by omega)]

/-- The result array after the run is the reference of the arguments. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 4 _ (by decide +kernel) fun t hf y => ?_
  blk_simp; rw [after0_4]
  by_cases h0 : t.val % 4 = 0
  · rw [out_A m c t h0, pay1_rows]; exact point_gate m c t (by omega) _ y
  · by_cases h1 : t.val % 4 ≤ 1
    · rw [out_B m c t h0 h1, scratch_before m c t h0]; exact point_gate m c t h1 _ y
    · rw [out_C m c t (by omega), scratch_before m c t h0]; exact point_in m c t (by omega) _ y

end Cert.GateKernelIdeal.Whole

end
-- ==== Proof.GateEq.lean ====
module

public import proofs.«01_k».proof.Defs
public import proofs.«01_k».proof.Proof.GateValue
public import proofs.«01_k».proof.Proof.Gen.GateReferenceIdeal.Run
public import Idealize.ShloMosaic.Lib.Claim

@[expose] public section

set_option maxRecDepth 16384

noncomputable section

open Idealize.ShloMosaic Idealize.ShloMosaic.TcCoe Idealize.SL.Sem

namespace Cert.GateEq

section
open Cert.GateReferenceIdeal

/-- The reference's result is its closed form at the arguments. -/
theorem closed (m : (ℓ : Loc nD τ sig) → Buf (Elt Ideal) ℓ) (c : Dev nD) :
    Value.res_main_v34 m c = Closed.REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end

/-- From memories that agree on the arguments, the kernel and the reference end with the same result. -/
theorem equal : Cert.algebraic_GateKernelIdeal_GateReferenceIdeal := by
  pair_intro
  · run_from Cert.GateKernelIdeal.Gen.run_main m g
  · run_from Cert.GateReferenceIdeal.Value.run m' g'
    simp only [closed, hagree c]
    exact (Cert.GateKernelIdeal.Whole.final m c).symm

/-- The reference terminates with its arguments unchanged. -/
theorem kept : Cert.quiescent_GateReferenceIdeal := fun m ρ _ =>
  (θ_run Cert.GateReferenceIdeal.defs _ _).mono (fun r h => ⟨fun c => (h c).2, sem_eq_zero_of_no_sems (by decide) r.2⟩)
    (Cert.GateReferenceIdeal.Value.run (F := Ideal) m ρ)

end Cert.GateEq

end
-- ==== Proof.InRef.lean ====
module

public import proofs.«01_k».proof.Proof.Gen.InReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InReferenceIdeal.Closed

open Cert.InReferenceIdeal Cert.InReferenceIdeal.Gen

/-- One over the root mean square of each row of `h`. -/
abbrev scale (h : FVec Ideal S8320x2048 .f32) : FVec Ideal S8320x1 .f32 :=
  Host.rsqrt (addf (Host.divf (broadcastInDim S8320x1 ![0] bcast_S8320_S8320x1_0 (Host.reduceAdd (mulf h h)
    (constant S_ .f32 0x00000000#32) reducesTo_S8320x2048_S8320_d1 h_S_))
    (broadcastInDim S8320x1 ![] bcast_S_S8320x1 (constant S_ .f32 0x45000000#32)))
    (broadcastInDim S8320x1 ![] bcast_S_S8320x1 (constant S_ .f32 0x358637BD#32)))

/-- The normalised rows of `h`, scaled column by column by `g`. -/
abbrev rmsScale (h : FVec Ideal S8320x2048 .f32) (g : FVec Ideal S2048 .f32) : FVec Ideal S8320x2048 .f32 :=
  mulf (mulf h (broadcastInDim S8320x2048 ![0, 1] bcast_S8320x1_S8320x2048_0_1 (scale h)))
    (broadcastInDim S8320x2048 ![0, 1] bcast_S1x2048_S8320x2048_0_1 (broadcastInDim S1x2048 ![1] bcast_S2048_S1x2048_1 g))

/-- The projection of `h` by `w`, with the bias row added. -/
abbrev proj (h : FVec Ideal S8320x2048 .f32) (w : FVec Ideal S2048x2560 .f32) (b : FVec Ideal S2560 .f32) :
    FVec Ideal S8320x2560 .f32 :=
  addf (Host.dotGeneral dot_S8320x2048_S2048x2560_S8320x2560_1_0_0_1_n_n none h w)
    (broadcastInDim S8320x2560 ![0, 1] bcast_S1x2560_S8320x2560_0_1 (broadcastInDim S1x2560 ![1] bcast_S2560_S1x2560_1 b))

/-- The sublayer's input projection: the normalised rows through the weights. -/
abbrev REF (x : FVec Ideal S8320x2048 .f32) (g : FVec Ideal S2048 .f32) (w : FVec Ideal S2048x2560 .f32)
    (b : FVec Ideal S2560 .f32) : FVec Ideal S8320x2560 .f32 :=
  proj (rmsScale x g) w b

end Cert.InReferenceIdeal.Closed

end
-- ==== Proof.InValue.lean ====
module

public import proofs.«01_k».proof.Proof.Gen.InKernelIdeal.Frame
public import proofs.«01_k».proof.Proof.InRef

@[expose] public section

set_option maxRecDepth 16384

noncomputable section

open Idealize.ShloMosaic Idealize.ShloMosaic.TcCoe Idealize.SL.Sem
open Idealize.ShloMosaic.Pipeline (Dat)
open scoped BigOperators

namespace Cert.InKernelIdeal.Whole

open Cert.InKernelIdeal Cert.InKernelIdeal.Gen Cert.InReferenceIdeal.Closed

variable (m : (ℓ : Loc nD τ sig) → Buf (Elt Ideal) ℓ)

/-- A row block's first point leaves the normalised rows in the scratch. -/
theorem norm_A (c : Dev nD) (t : Fin cfg0.N) (h0 : t.val % 2 = 0) :
    (outsAt0 m c t.val t.isLt).2 = k0_pay1 (iblk m c 0 t) (iblk m c 1 t) := by
  rw [outsAt0_A m c t h0]; frame_out

/-- A row block's second point keeps the normalised rows. -/
theorem norm_B (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  unfold sout0_B_0; rfl

/-- A row block's first point stores the product of the rows it has just normalised. -/
theorem out_A (c : Dev nD) (t : Fin cfg0.N) (h0 : t.val % 2 = 0) :
    (outsAt0 m c t.val t.isLt).1 = k0_pay2 (k0_pay1 (iblk m c 0 t) (iblk m c 1 t)) (iblk m c 2 t) (iblk m c 3 t) := by
  rw [outsAt0_A m c t h0]; frame_out

/-- A row block's second point stores the product of the rows the scratch holds. -/
theorem out_B (c : Dev nD) (t : Fin cfg0.N) (h0 : ¬t.val % 2 = 0) :
    (outsAt0 m c t.val t.isLt).1 = k0_pay2 (outsAt0 m c (t.val - 1) (Nat.lt_of_le_of_lt (Nat.sub_le _ _) t.isLt)).2
      (iblk m c 2 t) (iblk m c 3 t) := by
  rw [outsAt0_B m c t h0]; frame_out
  rw [(Memref.isWhole_whole cc0_scratch0).read_unread]

/-- Every window's block index at every grid point: the row block, and the column tile. -/
theorem idx : ∀ t : Fin cfg0.N, win0_0.index t = ![t.val / 2, 0]
    ∧ win0_1.index t = ![0, 0]
    ∧ win0_2.index t = ![0, t.val % 2]
    ∧ win0_3.index t = ![0, t.val % 2]
    ∧ win0_4.index t = ![t.val / 2, t.val % 2] :=
  (by decide +kernel : ∀ t : Fin grid0.N, _)

/-- The rows of `h` that point `t` works on. -/
def rows (h : FVec Ideal S8320x2048 .f32) (t : Fin cfg0.N) : FVec Ideal S640x2048 .f32 :=
  fun y => h (ix2 ⟨640 * (t.val / 2) + (y 0).val, by
    have h1 := lt_of_lt_of_eq t.isLt (show cfg0.N = 26 from N_0)
    have h2 : (y 0).val < 640 := (y 0).isLt
    omega⟩ (y 1))

/-- Both points of a row block work on the same rows. -/
theorem rows_congr (h : FVec Ideal S8320x2048 .f32) (t u : Fin cfg0.N) (e : t.val / 2 = u.val / 2) : rows h t = rows h u := by
  unfold rows; simp only [e]

/-- The normalised rows of the launched input. -/
abbrev XN (c : Dev nD) : FVec Ideal S8320x2048 .f32 :=
  rmsScale (m ((c : Thread nD τ).loc main_arg0)) (m ((c : Thread nD τ).loc main_arg1))

/-- What a row block's first point puts in the scratch: its rows, normalised. -/
theorem pay1_rows (c : Dev nD) (t : Fin cfg0.N) : k0_pay1 (iblk m c 0 t) (iblk m c 1 t) = rows (XN m c) t := by
  funext y
  unfold rows
  pointwise [k0_pay1, XN, rmsScale, scale]; blk_point [iblk, V, idx t]

/-- Every point stores the product of its own normalised rows. -/
theorem out_eq (c : Dev nD) (t : Fin cfg0.N) :
    (outsAt0 m c t.val t.isLt).1 = k0_pay2 (rows (XN m c) t) (iblk m c 2 t) (iblk m c 3 t) := by
  by_cases h0 : t.val % 2 = 0
  · rw [out_A m c t h0, pay1_rows]
  · have hp : t.val - 1 < cfg0.N := Nat.lt_of_le_of_lt (Nat.sub_le _ _) t.isLt
    have e : (outsAt0 m c (t.val - 1) hp).2 = rows (XN m c) t :=
      ((norm_A m c ⟨t.val - 1, hp⟩ (by show (t.val - 1) % 2 = 0; omega)).trans (pay1_rows m c _)).trans
        (rows_congr _ _ _ (by show (t.val - 1) / 2 = t.val / 2; omega))
    rw [out_B m c t h0, e]

/-- What a point stores at `y`, from its rows of any array `d`. -/
theorem point (c : Dev nD) (t : Fin cfg0.N) (d : FVec Ideal S8320x2048 .f32) (y) :
    k0_pay2 (rows d t) (iblk m c 2 t) (iblk m c 3 t) y
      = proj d (m ((c : Thread nD τ).loc main_arg2)) (m ((c : Thread nD τ).loc main_arg3)) (((cfg0.win 4).blk t).view.emb y) := by
  unfold rows
  pointwise [k0_pay2, proj]; blk_point [iblk, V, idx t]

/-- The result array after the run is the reference of the arguments. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp; rw [after0_4, out_eq m c t]
  exact point m c t _ y

end Cert.InKernelIdeal.Whole

end
-- ==== Proof.InEq.lean ====
module

public import proofs.«01_k».proof.Defs
public import proofs.«01_k».proof.Proof.InValue
public import proofs.«01_k».proof.Proof.Gen.InReferenceIdeal.Run
public import Idealize.ShloMosaic.Lib.Claim

@[expose] public section

set_option maxRecDepth 16384

noncomputable section

open Idealize.ShloMosaic Idealize.ShloMosaic.TcCoe Idealize.SL.Sem

namespace Cert.InEq

/-- From memories that agree on the arguments, the kernel and the reference end with the same result. -/
theorem equal : Cert.algebraic_InKernelIdeal_InReferenceIdeal := by
  pair_intro
  · run_from Cert.InKernelIdeal.Gen.run_main m g
  · run_from Cert.InReferenceIdeal.Value.run m' g'
    exact (Cert.InKernelIdeal.Whole.final m c).symm

/-- The reference terminates with its arguments unchanged. -/
theorem kept : Cert.quiescent_InReferenceIdeal := fun m ρ _ =>
  (θ_run Cert.InReferenceIdeal.defs _ _).mono (fun r h => ⟨fun c => (h c).2, sem_eq_zero_of_no_sems (by decide) r.2⟩)
    (Cert.InReferenceIdeal.Value.run (F := Ideal) m ρ)

end Cert.InEq

end
-- ==== Proof.lean ====
module

public import proofs.«01_k».proof.Defs
public import proofs.«01_k».proof.Proof.Gen.LruKernel.Frame
public import proofs.«01_k».proof.Proof.LruEq
public import proofs.«01_k».proof.Proof.Gen.SwaKernel.Frame
public import proofs.«01_k».proof.Proof.SwaEq
public import proofs.«01_k».proof.Proof.Gen.Mlp0Kernel.Frame
public import proofs.«01_k».proof.Proof.Mlp0Eq
public import proofs.«01_k».proof.Proof.Gen.Mlp1Kernel.Frame
public import proofs.«01_k».proof.Proof.Mlp1Eq
public import proofs.«01_k».proof.Proof.Gen.Mlp2Kernel.Frame
public import proofs.«01_k».proof.Proof.Mlp2Eq
public import proofs.«01_k».proof.Proof.Gen.MlpKernel.Frame
public import proofs.«01_k».proof.Proof.MlpEq
public import proofs.«01_k».proof.Proof.Gen.OutKernel.Frame
public import proofs.«01_k».proof.Proof.OutEq
public import proofs.«01_k».proof.Proof.Gen.PlainKernel.Frame
public import proofs.«01_k».proof.Proof.PlainEq
public import proofs.«01_k».proof.Proof.Gen.GateKernel.Frame
public import proofs.«01_k».proof.Proof.GateEq
public import proofs.«01_k».proof.Proof.Gen.InKernel.Frame
public import proofs.«01_k».proof.Proof.InEq

@[expose] public section

noncomputable section

namespace Cert.Proof

open Idealize.ShloMosaic Idealize.SL.Sem

/-- Every program runs and keeps its arguments, and each kernel's results are its reference's. -/
theorem claim : Cert.Claim := ⟨
  Cert.LruKernel.Gen.facts, Cert.LruKernelIdeal.Gen.facts, Cert.LruReferenceIdeal.Gen.facts,
  Cert.SwaKernel.Gen.facts, Cert.SwaKernelIdeal.Gen.facts, Cert.SwaReferenceIdeal.Gen.facts,
  Cert.Mlp0Kernel.Gen.facts, Cert.Mlp0KernelIdeal.Gen.facts, Cert.Mlp0ReferenceIdeal.Gen.facts,
  Cert.Mlp1Kernel.Gen.facts, Cert.Mlp1KernelIdeal.Gen.facts, Cert.Mlp1ReferenceIdeal.Gen.facts,
  Cert.Mlp2Kernel.Gen.facts, Cert.Mlp2KernelIdeal.Gen.facts, Cert.Mlp2ReferenceIdeal.Gen.facts,
  Cert.MlpKernel.Gen.facts, Cert.MlpKernelIdeal.Gen.facts, Cert.MlpReferenceIdeal.Gen.facts,
  Cert.OutKernel.Gen.facts, Cert.OutKernelIdeal.Gen.facts, Cert.OutReferenceIdeal.Gen.facts,
  Cert.PlainKernel.Gen.facts, Cert.PlainKernelIdeal.Gen.facts, Cert.PlainReferenceIdeal.Gen.facts,
  Cert.GateKernel.Gen.facts, Cert.GateKernelIdeal.Gen.facts, Cert.GateReferenceIdeal.Gen.facts,
  Cert.InKernel.Gen.facts, Cert.InKernelIdeal.Gen.facts, Cert.InReferenceIdeal.Gen.facts,
  fun m ρ _ => Cert.LruKernel.Gen.frame m ρ, fun m ρ _ => Cert.LruKernelIdeal.Gen.frame m ρ, Cert.LruEq.kept,
  fun m ρ _ => Cert.SwaKernel.Gen.frame m ρ, fun m ρ _ => Cert.SwaKernelIdeal.Gen.frame m ρ, Cert.SwaEq.kept,
  fun m ρ _ => Cert.Mlp0Kernel.Gen.frame m ρ, fun m ρ _ => Cert.Mlp0KernelIdeal.Gen.frame m ρ, Cert.Mlp0Eq.kept,
  fun m ρ _ => Cert.Mlp1Kernel.Gen.frame m ρ, fun m ρ _ => Cert.Mlp1KernelIdeal.Gen.frame m ρ, Cert.Mlp1Eq.kept,
  fun m ρ _ => Cert.Mlp2Kernel.Gen.frame m ρ, fun m ρ _ => Cert.Mlp2KernelIdeal.Gen.frame m ρ, Cert.Mlp2Eq.kept,
  fun m ρ _ => Cert.MlpKernel.Gen.frame m ρ, fun m ρ _ => Cert.MlpKernelIdeal.Gen.frame m ρ, Cert.MlpEq.kept,
  fun m ρ _ => Cert.OutKernel.Gen.frame m ρ, fun m ρ _ => Cert.OutKernelIdeal.Gen.frame m ρ, Cert.OutEq.kept,
  fun m ρ _ => Cert.PlainKernel.Gen.frame m ρ, fun m ρ _ => Cert.PlainKernelIdeal.Gen.frame m ρ, Cert.PlainEq.kept,
  fun m ρ _ => Cert.GateKernel.Gen.frame m ρ, fun m ρ _ => Cert.GateKernelIdeal.Gen.frame m ρ, Cert.GateEq.kept,
  fun m ρ _ => Cert.InKernel.Gen.frame m ρ, fun m ρ _ => Cert.InKernelIdeal.Gen.frame m ρ, Cert.InEq.kept,
  (trivial : Cert.preserves_LruKernel_LruKernelIdeal), Cert.LruEq.equal,
  (trivial : Cert.preserves_SwaKernel_SwaKernelIdeal), Cert.SwaEq.equal,
  (trivial : Cert.preserves_Mlp0Kernel_Mlp0KernelIdeal), Cert.Mlp0Eq.equal,
  (trivial : Cert.preserves_Mlp1Kernel_Mlp1KernelIdeal), Cert.Mlp1Eq.equal,
  (trivial : Cert.preserves_Mlp2Kernel_Mlp2KernelIdeal), Cert.Mlp2Eq.equal,
  (trivial : Cert.preserves_MlpKernel_MlpKernelIdeal), Cert.MlpEq.equal,
  (trivial : Cert.preserves_OutKernel_OutKernelIdeal), Cert.OutEq.equal,
  (trivial : Cert.preserves_PlainKernel_PlainKernelIdeal), Cert.PlainEq.equal,
  (trivial : Cert.preserves_GateKernel_GateKernelIdeal), Cert.GateEq.equal,
  (trivial : Cert.preserves_InKernel_InKernelIdeal), Cert.InEq.equal⟩

end Cert.Proof

end
